-- ==== Defs.lean ====
def Pre_Kernel [hPre_sizes_sum_to_rows : Cert.Pre_sizes_sum_to_rows.Facts] (m : (ℓ : Loc Cert.Kernel.nD Cert.Kernel.τ Cert.Kernel.sig) → Buf (Elt Bits) ℓ) : Prop :=
  ∀ c : Dev Cert.Kernel.nD,
    (Cert.Pre_sizes_sum_to_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).1 = (fun _ => 1#1)
    ∧ (Cert.Pre_sizes_sum_to_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.1 = (fun _ => 1#1)
    ∧ (Cert.Pre_sizes_sum_to_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.2 = (fun _ => 1#1)

def Pre_KernelIdeal [hPre_sizes_sum_to_rows : Cert.Pre_sizes_sum_to_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_sum_to_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_sizes_sum_to_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_sizes_sum_to_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal [hPre_sizes_sum_to_rows : Cert.Pre_sizes_sum_to_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_sum_to_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_sizes_sum_to_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_sizes_sum_to_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] [hPre_sizes_sum_to_rows : Cert.Pre_sizes_sum_to_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_sizes_sum_to_rows : Cert.Pre_sizes_sum_to_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_sizes_sum_to_rows : Cert.Pre_sizes_sum_to_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_sum_to_rows : Cert.Pre_sizes_sum_to_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v76_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_v76_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17_0) = v0 c
          ∧ r.2.mem ((c.tc : Thread Cert.ReferenceIdeal.nD Cert.ReferenceIdeal.τ).loc Cert.ReferenceIdeal.main_v17_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_sizes_sum_to_rows : Cert.Pre_sizes_sum_to_rows.Facts),
    quiescent_Kernel (hKernel := hKernel) (hPre_sizes_sum_to_rows := hPre_sizes_sum_to_rows)
    ∧ quiescent_KernelIdeal (hKernelIdeal := hKernelIdeal) (hPre_sizes_sum_to_rows := hPre_sizes_sum_to_rows)
    ∧ quiescent_ReferenceIdeal (hReferenceIdeal := hReferenceIdeal) (hPre_sizes_sum_to_rows := hPre_sizes_sum_to_rows)
    ∧ preserves_Kernel_KernelIdeal
    ∧ algebraic_KernelIdeal_ReferenceIdeal (hKernelIdeal := hKernelIdeal) (hReferenceIdeal := hReferenceIdeal) (hPre_sizes_sum_to_rows := hPre_sizes_sum_to_rows)
-- ==== Pre_sizes_sum_to_rows.lean ====
abbrev S16384x5120 : Shape := ⟨2, ![16384, 5120]⟩
abbrev S16384x40 : Shape := ⟨2, ![16384, 40]⟩
abbrev S8 : Shape := ⟨1, ![8]⟩
abbrev S8x5120x8192 : Shape := ⟨3, ![8, 5120, 8192]⟩
abbrev S8x40x64 : Shape := ⟨3, ![8, 40, 64]⟩
abbrev S8x8192 : Shape := ⟨2, ![8, 8192]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S16384x5120 .fp8e4m3) (main_arg1 : FVec F S16384x40 .f32) (main_arg2 : IVec S8 32) (main_arg3 : FVec F S8x5120x8192 .fp8e4m3) (main_arg4 : FVec F S8x40x64 .f32) (main_arg5 : FVec F S8x5120x8192 .fp8e4m3) (main_arg6 : FVec F S8x40x64 .f32) (main_arg7 : FVec F S8x8192 .f32) (main_arg8 : FVec F S8x8192 .f32) : IVec S8 1 × IVec S8 1 × IVec S_ 1 :=
  let main_c : IVec S_ 32 := constantI S_ 32 0#32
  let main_v0 : IVec S8 32 := broadcastInDim S8 ![] bcast_S_S8 main_c
  let main_v1 : IVec S8 1 := cmpi .sge main_arg2 main_v0
  let main_c_0 : IVec S_ 32 := constantI S_ 32 16384#32
  let main_v2 : IVec S8 32 := broadcastInDim S8 ![] bcast_S_S8 main_c_0
  let main_v3 : IVec S8 1 := cmpi .sle main_arg2 main_v2
  let main_c_1 : IVec S_ 32 := constantI S_ 32 0#32
  let main_v4 : IVec S_ 32 := (fun x v => Host.reduce IntOp.addi x v reducesTo_S8_S_d0 h_S_) main_arg2 main_c_1
  let main_c_2 : IVec S_ 32 := constantI S_ 32 16384#32
  let main_v5 : IVec S_ 1 := cmpi .eq main_v4 main_c_2
  (main_v1, main_v3, main_v5)
-- ==== Kernel.lean ====
abbrev S16384x5120 : Shape := ⟨2, ![16384, 5120]⟩
abbrev S16384x40 : Shape := ⟨2, ![16384, 40]⟩
abbrev S8 : Shape := ⟨1, ![8]⟩
abbrev S8x5120x8192 : Shape := ⟨3, ![8, 5120, 8192]⟩
abbrev S8x40x64 : Shape := ⟨3, ![8, 40, 64]⟩
abbrev S8x8192 : Shape := ⟨2, ![8, 8192]⟩
abbrev S_ : Shape := ⟨0, ![]⟩
abbrev S39 : Shape := ⟨1, ![39]⟩
abbrev S1 : Shape := ⟨1, ![1]⟩
abbrev S39x1 : Shape := ⟨2, ![39, 1]⟩
abbrev S1x8 : Shape := ⟨2, ![1, 8]⟩
abbrev S39x8 : Shape := ⟨2, ![39, 8]⟩
abbrev S8x1x8192 : Shape := ⟨3, ![8, 1, 8192]⟩
abbrev S16384x8192 : Shape := ⟨2, ![16384, 8192]⟩
abbrev S32x16384x2 : Shape := ⟨3, ![32, 16384, 2]⟩
abbrev S512x5120 : Shape := ⟨2, ![512, 5120]⟩
abbrev S512x40 : Shape := ⟨2, ![512, 40]⟩
abbrev S1x5120x256 : Shape := ⟨3, ![1, 5120, 256]⟩
abbrev S1x40x64 : Shape := ⟨3, ![1, 40, 64]⟩
abbrev S1x1x256 : Shape := ⟨3, ![1, 1, 256]⟩
abbrev S512x256 : Shape := ⟨2, ![512, 256]⟩
abbrev S1x512x2 : Shape := ⟨3, ![1, 512, 2]⟩
abbrev S5120x256 : Shape := ⟨2, ![5120, 256]⟩
abbrev S512x1 : Shape := ⟨2, ![512, 1]⟩
abbrev S512x128 : Shape := ⟨2, ![512, 128]⟩
abbrev S1x1x1 : Shape := ⟨3, ![1, 1, 1]⟩
abbrev S128x128 : Shape := ⟨2, ![128, 128]⟩
abbrev S1x128x128 : Shape := ⟨3, ![1, 128, 128]⟩
abbrev S1x256 : Shape := ⟨2, ![1, 256]⟩
abbrev S512 : Shape := ⟨1, ![512]⟩
abbrev S1x512x1 : Shape := ⟨3, ![1, 512, 1]⟩

abbrev nBuf : Space → Nat
  | .hbm => 145
  | .vmem => 19
  | .smem => 9
  | _ => 0

abbrev hbmTy0_0 (i : Nat) : BufTy := match i % 128 with
  | 0 => ⟨S16384x5120, .fp8e4m3⟩
  | 1 => ⟨S16384x40, .f32⟩
  | 2 => ⟨S8, .i32⟩
  | 3 => ⟨S8x5120x8192, .fp8e4m3⟩
  | 4 => ⟨S8x40x64, .f32⟩
  | 5 => ⟨S8x5120x8192, .fp8e4m3⟩
  | 6 => ⟨S8x40x64, .f32⟩
  | 7 => ⟨S8x8192, .f32⟩
  | 8 => ⟨S8x8192, .f32⟩
  | 9 => ⟨S_, .i32⟩
  | 10 => ⟨S_, .i32⟩
  | 11 => ⟨S8, .i32⟩
  | 12 => ⟨S8, .i32⟩
  | 13 => ⟨S_, .i32⟩
  | 14 => ⟨S_, .i32⟩
  | 15 => ⟨S8, .i32⟩
  | 16 => ⟨S8, .i32⟩
  | 17 => ⟨S8, .i32⟩
  | 18 => ⟨S_, .i32⟩
  | 19 => ⟨S8, .i32⟩
  | 20 => ⟨S8, .i1⟩
  | 21 => ⟨S8, .i32⟩
  | 22 => ⟨S8, .i32⟩
  | 23 => ⟨S_, .i32⟩
  | 24 => ⟨S8, .i32⟩
  | 25 => ⟨S8, .i1⟩
  | 26 => ⟨S8, .i1⟩
  | 27 => ⟨S_, .i32⟩
  | 28 => ⟨S8, .i32⟩
  | 29 => ⟨S8, .i32⟩
  | 30 => ⟨S8, .i32⟩
  | 31 => ⟨S_, .i32⟩
  | 32 => ⟨S8, .i32⟩
  | 33 => ⟨S8, .i1⟩
  | 34 => ⟨S_, .i32⟩
  | 35 => ⟨S8, .i32⟩
  | 36 => ⟨S8, .i32⟩
  | 37 => ⟨S_, .i32⟩
  | 38 => ⟨S8, .i32⟩
  | 39 => ⟨S8, .i32⟩
  | 40 => ⟨S_, .i32⟩
  | 41 => ⟨S_, .i32⟩
  | 42 => ⟨S8, .i32⟩
  | 43 => ⟨S8, .i32⟩
  | 44 => ⟨S8, .i32⟩
  | 45 => ⟨S_, .i32⟩
  | 46 => ⟨S8, .i32⟩
  | 47 => ⟨S8, .i1⟩
  | 48 => ⟨S8, .i32⟩
  | 49 => ⟨S8, .i32⟩
  | 50 => ⟨S_, .i32⟩
  | 51 => ⟨S8, .i32⟩
  | 52 => ⟨S8, .i1⟩
  | 53 => ⟨S8, .i1⟩
  | 54 => ⟨S_, .i32⟩
  | 55 => ⟨S8, .i32⟩
  | 56 => ⟨S8, .i32⟩
  | 57 => ⟨S8, .i32⟩
  | 58 => ⟨S8, .i32⟩
  | 59 => ⟨S_, .i32⟩
  | 60 => ⟨S_, .i32⟩
  | 61 => ⟨S8, .i32⟩
  | 62 => ⟨S8, .i32⟩
  | 63 => ⟨S_, .i32⟩
  | 64 => ⟨S_, .i32⟩
  | 65 => ⟨S8, .i32⟩
  | 66 => ⟨S39, .i32⟩
  | 67 => ⟨S1, .i32⟩
  | 68 => ⟨S_, .i32⟩
  | 69 => ⟨S_, .i32⟩
  | 70 => ⟨S_, .i32⟩
  | 71 => ⟨S39, .i32⟩
  | 72 => ⟨S39, .i32⟩
  | 73 => ⟨S39x1, .i32⟩
  | 74 => ⟨S1x8, .i32⟩
  | 75 => ⟨S39x8, .i32⟩
  | 76 => ⟨S39x8, .i32⟩
  | 77 => ⟨S39x8, .i1⟩
  | 78 => ⟨S39x8, .i32⟩
  | 79 => ⟨S_, .i32⟩
  | 80 => ⟨S39, .i32⟩
  | 81 => ⟨S_, .i32⟩
  | 82 => ⟨S39, .i32⟩
  | 83 => ⟨S_, .i32⟩
  | 84 => ⟨S39, .i32⟩
  | 85 => ⟨S39, .i1⟩
  | 86 => ⟨S_, .i32⟩
  | 87 => ⟨S39, .i32⟩
  | 88 => ⟨S39, .i32⟩
  | 89 => ⟨S39, .i32⟩
  | 90 => ⟨S39x1, .i32⟩
  | 91 => ⟨S39, .i32⟩
  | 92 => ⟨S39, .i32⟩
  | 93 => ⟨S8, .i32⟩
  | 94 => ⟨S_, .i32⟩
  | 95 => ⟨S39, .i32⟩
  | 96 => ⟨S39, .i1⟩
  | 97 => ⟨S_, .i32⟩
  | 98 => ⟨S39, .i32⟩
  | 99 => ⟨S39, .i32⟩
  | 100 => ⟨S39, .i32⟩
  | 101 => ⟨S39x1, .i32⟩
  | 102 => ⟨S39, .i32⟩
  | 103 => ⟨S_, .i32⟩
  | 104 => ⟨S39, .i32⟩
  | 105 => ⟨S39, .i1⟩
  | 106 => ⟨S_, .i32⟩
  | 107 => ⟨S39, .i32⟩
  | 108 => ⟨S39, .i32⟩
  | 109 => ⟨S39, .i32⟩
  | 110 => ⟨S39x1, .i32⟩
  | 111 => ⟨S39, .i32⟩
  | 112 => ⟨S_, .i32⟩
  | 113 => ⟨S39, .i32⟩
  | 114 => ⟨S39, .i32⟩
  | 115 => ⟨S39, .i32⟩
  | 116 => ⟨S_, .i32⟩
  | 117 => ⟨S39, .i32⟩
  | 118 => ⟨S_, .i32⟩
  | 119 => ⟨S39, .i32⟩
  | 120 => ⟨S39, .i1⟩
  | 121 => ⟨S_, .i32⟩
  | 122 => ⟨S39, .i32⟩
  | 123 => ⟨S39, .i32⟩
  | 124 => ⟨S39, .i32⟩
  | 125 => ⟨S39x1, .i32⟩
  | 126 => ⟨S39, .i32⟩
  | 127 => ⟨S_, .i32⟩
  | _ => ⟨S16384x5120, .fp8e4m3⟩

abbrev hbmTy0_1 (i : Nat) : BufTy := match i % 128 with
  | 0 => ⟨S39, .i32⟩
  | 1 => ⟨S39, .i32⟩
  | 2 => ⟨S39, .i32⟩
  | 3 => ⟨S_, .i32⟩
  | 4 => ⟨S39, .i32⟩
  | 5 => ⟨S39, .i32⟩
  | 6 => ⟨S39, .i32⟩
  | 7 => ⟨S39, .i1⟩
  | 8 => ⟨S_, .i32⟩
  | 9 => ⟨S_, .i32⟩
  | 10 => ⟨S39, .i32⟩
  | 11 => ⟨S_, .i32⟩
  | 12 => ⟨S39, .i32⟩
  | 13 => ⟨S8x1x8192, .f32⟩
  | 14 => ⟨S8x1x8192, .f32⟩
  | 15 => ⟨S16384x8192, .fp8e4m3⟩
  | 16 => ⟨S32x16384x2, .f32⟩
  | _ => ⟨S16384x5120, .fp8e4m3⟩

abbrev hbmTy (i : Nat) : BufTy := match i / 128 with
  | 0 => hbmTy0_0 i
  | 1 => hbmTy0_1 i
  | _ => ⟨S16384x5120, .fp8e4m3⟩

abbrev bufTy : (tb : Table) → Fin (tcTables nBuf tb) → BufTy
  | .hbm, ⟨i, _⟩ => hbmTy i
  | .local _ .vmem, ⟨0, _⟩ => ⟨S512x5120, .fp8e4m3⟩
  | .local _ .vmem, ⟨1, _⟩ => ⟨S512x5120, .fp8e4m3⟩
  | .local _ .vmem, ⟨2, _⟩ => ⟨S512x40, .f32⟩
  | .local _ .vmem, ⟨3, _⟩ => ⟨S512x40, .f32⟩
  | .local _ .vmem, ⟨4, _⟩ => ⟨S1x5120x256, .fp8e4m3⟩
  | .local _ .vmem, ⟨5, _⟩ => ⟨S1x5120x256, .fp8e4m3⟩
  | .local _ .vmem, ⟨6, _⟩ => ⟨S1x5120x256, .fp8e4m3⟩
  | .local _ .vmem, ⟨7, _⟩ => ⟨S1x5120x256, .fp8e4m3⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S512x256, .fp8e4m3⟩
  | .local _ .vmem, ⟨13, _⟩ => ⟨S512x256, .fp8e4m3⟩
  | .local _ .vmem, ⟨14, _⟩ => ⟨S1x512x2, .f32⟩
  | .local _ .vmem, ⟨15, _⟩ => ⟨S1x512x2, .f32⟩
  | .local _ .vmem, ⟨16, _⟩ => ⟨S512x5120, .bf16⟩
  | .local _ .vmem, ⟨17, _⟩ => ⟨S5120x256, .bf16⟩
  | .local _ .vmem, ⟨18, _⟩ => ⟨S5120x256, .bf16⟩
  | .local _ .smem, ⟨0, _⟩ => ⟨S39, .i32⟩
  | .local _ .smem, ⟨1, _⟩ => ⟨S39, .i32⟩
  | .local _ .smem, ⟨2, _⟩ => ⟨S39, .i32⟩
  | .local _ .smem, ⟨3, _⟩ => ⟨S39, .i32⟩
  | .local _ .smem, ⟨4, _⟩ => ⟨S39, .i32⟩
  | .local _ .smem, ⟨5, _⟩ => ⟨S1x40x64, .f32⟩
  | .local _ .smem, ⟨6, _⟩ => ⟨S1x40x64, .f32⟩
  | .local _ .smem, ⟨7, _⟩ => ⟨S1x40x64, .f32⟩
  | .local _ .smem, ⟨8, _⟩ => ⟨S1x40x64, .f32⟩
  | _, _ => ⟨S16384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨5, _⟩ => true
  | .smem, ⟨6, _⟩ => true
  | .smem, ⟨7, _⟩ => true
  | .smem, ⟨8, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_call0_c : Ref sig .tc := ⟨.hbm, 9, rfl⟩
abbrev main_call0_call0_v0 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_c : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_0 : Ref sig .tc := ⟨.hbm, 27, rfl⟩
abbrev main_call1_v12 : Ref sig .tc := ⟨.hbm, 28, rfl⟩
abbrev main_call1_v13 : Ref sig .tc := ⟨.hbm, 29, rfl⟩
abbrev main_v2 : Ref sig .tc := ⟨.hbm, 30, rfl⟩
abbrev main_c_0 : Ref sig .tc := ⟨.hbm, 31, rfl⟩
abbrev main_v3 : Ref sig .tc := ⟨.hbm, 32, rfl⟩
abbrev main_v4 : Ref sig .tc := ⟨.hbm, 33, rfl⟩
abbrev main_c_1 : Ref sig .tc := ⟨.hbm, 34, rfl⟩
abbrev main_v5 : Ref sig .tc := ⟨.hbm, 35, rfl⟩
abbrev main_v6 : Ref sig .tc := ⟨.hbm, 36, rfl⟩
abbrev main_c_2 : Ref sig .tc := ⟨.hbm, 37, rfl⟩
abbrev main_v7 : Ref sig .tc := ⟨.hbm, 38, rfl⟩
abbrev main_v8 : Ref sig .tc := ⟨.hbm, 39, rfl⟩
abbrev main_c_3 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v9 : Ref sig .tc := ⟨.hbm, 57, rfl⟩
abbrev main_v10 : Ref sig .tc := ⟨.hbm, 58, rfl⟩
abbrev main_c_4 : Ref sig .tc := ⟨.hbm, 59, rfl⟩
abbrev main_call3_v0 : Ref sig .tc := ⟨.hbm, 60, rfl⟩
abbrev main_call3_v1 : Ref sig .tc := ⟨.hbm, 61, rfl⟩
abbrev main_v11 : Ref sig .tc := ⟨.hbm, 62, rfl⟩
abbrev main_call4_call0_c : Ref sig .tc := ⟨.hbm, 63, rfl⟩
abbrev main_call4_call0_v0 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_c_5 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_c_6 : Ref sig .tc := ⟨.hbm, 79, rfl⟩
abbrev main_v25 : Ref sig .tc := ⟨.hbm, 80, rfl⟩
abbrev main_c_7 : Ref sig .tc := ⟨.hbm, 81, rfl⟩
abbrev main_v26 : Ref sig .tc := ⟨.hbm, 82, rfl⟩
abbrev main_c_8 : Ref sig .tc := ⟨.hbm, 83, rfl⟩
abbrev main_v28 : Ref sig .tc := ⟨.hbm, 84, rfl⟩
abbrev main_v29 : Ref sig .tc := ⟨.hbm, 85, rfl⟩
abbrev main_c_9 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_c_10 : Ref sig .tc := ⟨.hbm, 94, rfl⟩
abbrev main_v37 : Ref sig .tc := ⟨.hbm, 95, rfl⟩
abbrev main_v38 : Ref sig .tc := ⟨.hbm, 96, rfl⟩
abbrev main_c_11 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_c_12 : Ref sig .tc := ⟨.hbm, 103, rfl⟩
abbrev main_v45 : Ref sig .tc := ⟨.hbm, 104, rfl⟩
abbrev main_v46 : Ref sig .tc := ⟨.hbm, 105, rfl⟩
abbrev main_c_13 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_c_14 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_c_15 : Ref sig .tc := ⟨.hbm, 116, rfl⟩
abbrev main_v55 : Ref sig .tc := ⟨.hbm, 117, rfl⟩
abbrev main_c_16 : Ref sig .tc := ⟨.hbm, 118, rfl⟩
abbrev main_v57 : Ref sig .tc := ⟨.hbm, 119, rfl⟩
abbrev main_v58 : Ref sig .tc := ⟨.hbm, 120, rfl⟩
abbrev main_c_17 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_c_18 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_c_19 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_c_20 : Ref sig .tc := ⟨.hbm, 136, rfl⟩
abbrev main_call5_v0 : Ref sig .tc := ⟨.hbm, 137, rfl⟩
abbrev main_call5_v1 : Ref sig .tc := ⟨.hbm, 138, rfl⟩
abbrev main_c_21 : Ref sig .tc := ⟨.hbm, 139, rfl⟩
abbrev main_v72 : Ref sig .tc := ⟨.hbm, 140, rfl⟩
abbrev main_v74 : Ref sig .tc := ⟨.hbm, 141, rfl⟩
abbrev main_v75 : Ref sig .tc := ⟨.hbm, 142, rfl⟩
abbrev main_v76_0 : Ref sig .tc := ⟨.hbm, 143, rfl⟩
abbrev main_v76_1 : Ref sig .tc := ⟨.hbm, 144, rfl⟩
abbrev main_v27 : Ref sig .tc := ⟨.smem, 0, rfl⟩
abbrev main_v44 : Ref sig .tc := ⟨.smem, 1, rfl⟩
abbrev main_v56 : Ref sig .tc := ⟨.smem, 2, rfl⟩
abbrev main_v71 : Ref sig .tc := ⟨.smem, 3, rfl⟩
abbrev main_v73 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg3_0 : Ref sig .tc := ⟨.smem, 5, rfl⟩
abbrev cc0_stg3_1 : Ref sig .tc := ⟨.smem, 6, rfl⟩
abbrev cc0_stg5_0 : Ref sig .tc := ⟨.smem, 7, rfl⟩
abbrev cc0_stg5_1 : Ref sig .tc := ⟨.smem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 39], ![false, false]⟩

abbrev pre0 : Pipeline.Prefetch sig := ⟨5, ![main_v27.idx, main_v44.idx, main_v56.idx, main_v71.idx, main_v73.idx], fun | 0 => main_v27.names | 1 => main_v44.names | 2 => main_v56.names | 3 => main_v71.names | 4 => main_v73.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (c0_i32_44 : BitVec 32) : Fin 3 → Nat :=
  let c0_45 : Index := 0#32
  let c0_46 : Index := 0#32
  let arg0 : BitVec 32 := BitVec.ofNat 32 (i 0).val
  let c2_i32 : BitVec 32 := 2#32
  let v409 : BitVec 32 := Scalar.muli arg0 c2_i32
  let v410 : BitVec 32 := Scalar.addi v409 c0_i32_44
  let v411 : Index := Scalar.indexCast v410
  ![0, 0, v411.toNat]
def k0_off3 (i : grid0.Coords) (c0_i32_61 : BitVec 32) : Fin 3 → Nat :=
  let c0_62 : Index := 0#32
  let c1 : Index := 1#32
  let arg0 : BitVec 32 := BitVec.ofNat 32 (i 0).val
  let c2_i32_60 : BitVec 32 := 2#32
  let v435 : BitVec 32 := Scalar.muli arg0 c2_i32_60
  let v436 : BitVec 32 := Scalar.addi v435 c0_i32_61
  let v437 : Index := Scalar.indexCast v436
  ![0, 1, v437.toNat]
def k0_off4 (i : grid0.Coords) (c0_i32_78 : BitVec 32) : Fin 3 → Nat :=
  let c0_79 : Index := 0#32
  let c2 : Index := 2#32
  let arg0 : BitVec 32 := BitVec.ofNat 32 (i 0).val
  let c2_i32_77 : BitVec 32 := 2#32
  let v461 : BitVec 32 := Scalar.muli arg0 c2_i32_77
  let v462 : BitVec 32 := Scalar.addi v461 c0_i32_78
  let v463 : Index := Scalar.indexCast v462
  ![0, 2, v463.toNat]
def k0_off5 (i : grid0.Coords) (c0_i32_95 : BitVec 32) : Fin 3 → Nat :=
  let c0_96 : Index := 0#32
  let c3 : Index := 3#32
  let arg0 : BitVec 32 := BitVec.ofNat 32 (i 0).val
  let c2_i32_94 : BitVec 32 := 2#32
  let v487 : BitVec 32 := Scalar.muli arg0 c2_i32_94
  let v488 : BitVec 32 := Scalar.addi v487 c0_i32_95
  let v489 : Index := Scalar.indexCast v488
  ![0, 3, v489.toNat]
def k0_off6 (i : grid0.Coords) (c0_i32_112 : BitVec 32) : Fin 3 → Nat :=
  let c0_113 : Index := 0#32
  let c4 : Index := 4#32
  let arg0 : BitVec 32 := BitVec.ofNat 32 (i 0).val
  let c2_i32_111 : BitVec 32 := 2#32
  let v513 : BitVec 32 := Scalar.muli arg0 c2_i32_111
  let v514 : BitVec 32 := Scalar.addi v513 c0_i32_112
  let v515 : Index := Scalar.indexCast v514
  ![0, 4, v515.toNat]
def k0_off7 (i : grid0.Coords) (c0_i32_129 : BitVec 32) : Fin 3 → Nat :=
  let c0_130 : Index := 0#32
  let c5 : Index := 5#32
  let arg0 : BitVec 32 := BitVec.ofNat 32 (i 0).val
  let c2_i32_128 : BitVec 32 := 2#32
  let v539 : BitVec 32 := Scalar.muli arg0 c2_i32_128
  let v540 : BitVec 32 := Scalar.addi v539 c0_i32_129
  let v541 : Index := Scalar.indexCast v540
  ![0, 5, v541.toNat]
def k0_off8 (i : grid0.Coords) (c0_i32_146 : BitVec 32) : Fin 3 → Nat :=
  let c0_147 : Index := 0#32
  let c6 : Index := 6#32
  let arg0 : BitVec 32 := BitVec.ofNat 32 (i 0).val
  let c2_i32_145 : BitVec 32 := 2#32
  let v565 : BitVec 32 := Scalar.muli arg0 c2_i32_145
  let v566 : BitVec 32 := Scalar.addi v565 c0_i32_146
  let v567 : Index := Scalar.indexCast v566
  ![0, 6, v567.toNat]
def k0_off9 (i : grid0.Coords) (c0_i32_163 : BitVec 32) : Fin 3 → Nat :=
  let c0_164 : Index := 0#32
  let c7 : Index := 7#32
  let arg0 : BitVec 32 := BitVec.ofNat 32 (i 0).val
  let c2_i32_162 : BitVec 32 := 2#32
  let v591 : BitVec 32 := Scalar.muli arg0 c2_i32_162
  let v592 : BitVec 32 := Scalar.addi v591 c0_i32_163
  let v593 : Index := Scalar.indexCast v592
  ![0, 7, v593.toNat]
def k0_off10 (i : grid0.Coords) (c0_i32_180 : BitVec 32) : Fin 3 → Nat :=
  let c0_181 : Index := 0#32
  let c8 : Index := 8#32
  let arg0 : BitVec 32 := BitVec.ofNat 32 (i 0).val
  let c2_i32_179 : BitVec 32 := 2#32
  let v617 : BitVec 32 := Scalar.muli arg0 c2_i32_179
  let v618 : BitVec 32 := Scalar.addi v617 c0_i32_180
  let v619 : Index := Scalar.indexCast v618
  ![0, 8, v619.toNat]
def k0_off11 (i : grid0.Coords) (c0_i32_197 : BitVec 32) : Fin 3 → Nat :=
  let c0_198 : Index := 0#32
  let c9 : Index := 9#32
  let arg0 : BitVec 32 := BitVec.ofNat 32 (i 0).val
  let c2_i32_196 : BitVec 32 := 2#32
  let v643 : BitVec 32 := Scalar.muli arg0 c2_i32_196
  let v644 : BitVec 32 := Scalar.addi v643 c0_i32_197
  let v645 : Index := Scalar.indexCast v644
  ![0, 9, v645.toNat]
def k0_off12 (i : grid0.Coords) (c0_i32_214 : BitVec 32) : Fin 3 → Nat :=
  let c0_215 : Index := 0#32
  let c10 : Index := 10#32
  let arg0 : BitVec 32 := BitVec.ofNat 32 (i 0).val
  let c2_i32_213 : BitVec 32 := 2#32
  let v669 : BitVec 32 := Scalar.muli arg0 c2_i32_213
  let v670 : BitVec 32 := Scalar.addi v669 c0_i32_214
  let v671 : Index := Scalar.indexCast v670
  ![0, 10, v671.toNat]
def k0_off13 (i : grid0.Coords) (c0_i32_231 : BitVec 32) : Fin 3 → Nat :=
  let c0_232 : Index := 0#32
  let c11 : Index := 11#32
  let arg0 : BitVec 32 := BitVec.ofNat 32 (i 0).val
  let c2_i32_230 : BitVec 32 := 2#32
  let v695 : BitVec 32 := Scalar.muli arg0 c2_i32_230
  let v696 : BitVec 32 := Scalar.addi v695 c0_i32_231
  let v697 : Index := Scalar.indexCast v696
  ![0, 11, v697.toNat]
def k0_off14 (i : grid0.Coords) (c0_i32_248 : BitVec 32) : Fin 3 → Nat :=
  let c0_249 : Index := 0#32
  let c12 : Index := 12#32
  let arg0 : BitVec 32 := BitVec.ofNat 32 (i 0).val
  let c2_i32_247 : BitVec 32 := 2#32
  let v721 : BitVec 32 := Scalar.muli arg0 c2_i32_247
  let v722 : BitVec 32 := Scalar.addi v721 c0_i32_248
  let v723 : Index := Scalar.indexCast v722
  ![0, 12, v723.toNat]
def k0_off15 (i : grid0.Coords) (c0_i32_265 : BitVec 32) : Fin 3 → Nat :=
  let c0_266 : Index := 0#32
  let c13 : Index := 13#32
  let arg0 : BitVec 32 := BitVec.ofNat 32 (i 0).val
  let c2_i32_264 : BitVec 32 := 2#32
  let v747 : BitVec 32 := Scalar.muli arg0 c2_i32_264
  let v748 : BitVec 32 := Scalar.addi v747 c0_i32_265
  let v749 : Index := Scalar.indexCast v748
  ![0, 13, v749.toNat]
def k0_off16 (i : grid0.Coords) (c0_i32_282 : BitVec 32) : Fin 3 → Nat :=
  let c0_283 : Index := 0#32
  let c14 : Index := 14#32
  let arg0 : BitVec 32 := BitVec.ofNat 32 (i 0).val
  let c2_i32_281 : BitVec 32 := 2#32
  let v773 : BitVec 32 := Scalar.muli arg0 c2_i32_281
  let v774 : BitVec 32 := Scalar.addi v773 c0_i32_282
  let v775 : Index := Scalar.indexCast v774
  ![0, 14, v775.toNat]
def k0_off17 (i : grid0.Coords) (c0_i32_299 : BitVec 32) : Fin 3 → Nat :=
  let c0_300 : Index := 0#32
  let c15 : Index := 15#32
  let arg0 : BitVec 32 := BitVec.ofNat 32 (i 0).val
  let c2_i32_298 : BitVec 32 := 2#32
  let v799 : BitVec 32 := Scalar.muli arg0 c2_i32_298
  let v800 : BitVec 32 := Scalar.addi v799 c0_i32_299
  let v801 : Index := Scalar.indexCast v800
  ![0, 15, v801.toNat]
def k0_off18 (i : grid0.Coords) (c0_i32_316 : BitVec 32) : Fin 3 → Nat :=
  let c0_317 : Index := 0#32
  let c16 : Index := 16#32
  let arg0 : BitVec 32 := BitVec.ofNat 32 (i 0).val
  let c2_i32_315 : BitVec 32 := 2#32
  let v825 : BitVec 32 := Scalar.muli arg0 c2_i32_315
  let v826 : BitVec 32 := Scalar.addi v825 c0_i32_316
  let v827 : Index := Scalar.indexCast v826
  ![0, 16, v827.toNat]
def k0_off19 (i : grid0.Coords) (c0_i32_333 : BitVec 32) : Fin 3 → Nat :=
  let c0_334 : Index := 0#32
  let c17 : Index := 17#32
  let arg0 : BitVec 32 := BitVec.ofNat 32 (i 0).val
  let c2_i32_332 : BitVec 32 := 2#32
  let v851 : BitVec 32 := Scalar.muli arg0 c2_i32_332
  let v852 : BitVec 32 := Scalar.addi v851 c0_i32_333
  let v853 : Index := Scalar.indexCast v852
  ![0, 17, v853.toNat]
def k0_off20 (i : grid0.Coords) (c0_i32_350 : BitVec 32) : Fin 3 → Nat :=
  let c0_351 : Index := 0#32
  let c18 : Index := 18#32
  let arg0 : BitVec 32 := BitVec.ofNat 32 (i 0).val
  let c2_i32_349 : BitVec 32 := 2#32
  let v877 : BitVec 32 := Scalar.muli arg0 c2_i32_349
  let v878 : BitVec 32 := Scalar.addi v877 c0_i32_350
  let v879 : Index := Scalar.indexCast v878
  ![0, 18, v879.toNat]
def k0_off21 (i : grid0.Coords) (c0_i32_367 : BitVec 32) : Fin 3 → Nat :=
  let c0_368 : Index := 0#32
  let c19 : Index := 19#32
  let arg0 : BitVec 32 := BitVec.ofNat 32 (i 0).val
  let c2_i32_366 : BitVec 32 := 2#32
  let v903 : BitVec 32 := Scalar.muli arg0 c2_i32_366
  let v904 : BitVec 32 := Scalar.addi v903 c0_i32_367
  let v905 : Index := Scalar.indexCast v904
  ![0, 19, v905.toNat]
def k0_off22 (i : grid0.Coords) (c0_i32_384 : BitVec 32) : Fin 3 → Nat :=
  let c0_385 : Index := 0#32
  let c20 : Index := 20#32
  let arg0 : BitVec 32 := BitVec.ofNat 32 (i 0).val
  let c2_i32_383 : BitVec 32 := 2#32
  let v929 : BitVec 32 := Scalar.muli arg0 c2_i32_383
  let v930 : BitVec 32 := Scalar.addi v929 c0_i32_384
  let v931 : Index := Scalar.indexCast v930
  ![0, 20, v931.toNat]
def k0_off23 (i : grid0.Coords) (c0_i32_401 : BitVec 32) : Fin 3 → Nat :=
  let c0_402 : Index := 0#32
  let c21 : Index := 21#32
  let arg0 : BitVec 32 := BitVec.ofNat 32 (i 0).val
  let c2_i32_400 : BitVec 32 := 2#32
  let v955 : BitVec 32 := Scalar.muli arg0 c2_i32_400
  let v956 : BitVec 32 := Scalar.addi v955 c0_i32_401
  let v957 : Index := Scalar.indexCast v956
  ![0, 21, v957.toNat]
def k0_off24 (i : grid0.Coords) (c0_i32_418 : BitVec 32) : Fin 3 → Nat :=
  let c0_419 : Index := 0#32
  let c22 : Index := 22#32
  let arg0 : BitVec 32 := BitVec.ofNat 32 (i 0).val
  let c2_i32_417 : BitVec 32 := 2#32
  let v981 : BitVec 32 := Scalar.muli arg0 c2_i32_417
  let v982 : BitVec 32 := Scalar.addi v981 c0_i32_418
  let v983 : Index := Scalar.indexCast v982
  ![0, 22, v983.toNat]
def k0_off25 (i : grid0.Coords) (c0_i32_435 : BitVec 32) : Fin 3 → Nat :=
  let c0_436 : Index := 0#32
  let c23 : Index := 23#32
  let arg0 : BitVec 32 := BitVec.ofNat 32 (i 0).val
  let c2_i32_434 : BitVec 32 := 2#32
  let v1007 : BitVec 32 := Scalar.muli arg0 c2_i32_434
  let v1008 : BitVec 32 := Scalar.addi v1007 c0_i32_435
  let v1009 : Index := Scalar.indexCast v1008
  ![0, 23, v1009.toNat]
def k0_off26 (i : grid0.Coords) (c0_i32_452 : BitVec 32) : Fin 3 → Nat :=
  let c0_453 : Index := 0#32
  let c24 : Index := 24#32
  let arg0 : BitVec 32 := BitVec.ofNat 32 (i 0).val
  let c2_i32_451 : BitVec 32 := 2#32
  let v1033 : BitVec 32 := Scalar.muli arg0 c2_i32_451
  let v1034 : BitVec 32 := Scalar.addi v1033 c0_i32_452
  let v1035 : Index := Scalar.indexCast v1034
  ![0, 24, v1035.toNat]
def k0_off27 (i : grid0.Coords) (c0_i32_469 : BitVec 32) : Fin 3 → Nat :=
  let c0_470 : Index := 0#32
  let c25 : Index := 25#32
  let arg0 : BitVec 32 := BitVec.ofNat 32 (i 0).val
  let c2_i32_468 : BitVec 32 := 2#32
  let v1059 : BitVec 32 := Scalar.muli arg0 c2_i32_468
  let v1060 : BitVec 32 := Scalar.addi v1059 c0_i32_469
  let v1061 : Index := Scalar.indexCast v1060
  ![0, 25, v1061.toNat]
def k0_off28 (i : grid0.Coords) (c0_i32_486 : BitVec 32) : Fin 3 → Nat :=
  let c0_487 : Index := 0#32
  let c26 : Index := 26#32
  let arg0 : BitVec 32 := BitVec.ofNat 32 (i 0).val
  let c2_i32_485 : BitVec 32 := 2#32
  let v1085 : BitVec 32 := Scalar.muli arg0 c2_i32_485
  let v1086 : BitVec 32 := Scalar.addi v1085 c0_i32_486
  let v1087 : Index := Scalar.indexCast v1086
  ![0, 26, v1087.toNat]
def k0_off29 (i : grid0.Coords) (c0_i32_503 : BitVec 32) : Fin 3 → Nat :=
  let c0_504 : Index := 0#32
  let c27 : Index := 27#32
  let arg0 : BitVec 32 := BitVec.ofNat 32 (i 0).val
  let c2_i32_502 : BitVec 32 := 2#32
  let v1111 : BitVec 32 := Scalar.muli arg0 c2_i32_502
  let v1112 : BitVec 32 := Scalar.addi v1111 c0_i32_503
  let v1113 : Index := Scalar.indexCast v1112
  ![0, 27, v1113.toNat]
def k0_off30 (i : grid0.Coords) (c0_i32_520 : BitVec 32) : Fin 3 → Nat :=
  let c0_521 : Index := 0#32
  let c28 : Index := 28#32
  let arg0 : BitVec 32 := BitVec.ofNat 32 (i 0).val
  let c2_i32_519 : BitVec 32 := 2#32
  let v1137 : BitVec 32 := Scalar.muli arg0 c2_i32_519
  let v1138 : BitVec 32 := Scalar.addi v1137 c0_i32_520
  let v1139 : Index := Scalar.indexCast v1138
  ![0, 28, v1139.toNat]
def k0_off31 (i : grid0.Coords) (c0_i32_537 : BitVec 32) : Fin 3 → Nat :=
  let c0_538 : Index := 0#32
  let c29 : Index := 29#32
  let arg0 : BitVec 32 := BitVec.ofNat 32 (i 0).val
  let c2_i32_536 : BitVec 32 := 2#32
  let v1163 : BitVec 32 := Scalar.muli arg0 c2_i32_536
  let v1164 : BitVec 32 := Scalar.addi v1163 c0_i32_537
  let v1165 : Index := Scalar.indexCast v1164
  ![0, 29, v1165.toNat]
def k0_off32 (i : grid0.Coords) (c0_i32_554 : BitVec 32) : Fin 3 → Nat :=
  let c0_555 : Index := 0#32
  let c30 : Index := 30#32
  let arg0 : BitVec 32 := BitVec.ofNat 32 (i 0).val
  let c2_i32_553 : BitVec 32 := 2#32
  let v1189 : BitVec 32 := Scalar.muli arg0 c2_i32_553
  let v1190 : BitVec 32 := Scalar.addi v1189 c0_i32_554
  let v1191 : Index := Scalar.indexCast v1190
  ![0, 30, v1191.toNat]
def k0_off33 (i : grid0.Coords) (c0_i32_571 : BitVec 32) : Fin 3 → Nat :=
  let c0_572 : Index := 0#32
  let c31 : Index := 31#32
  let arg0 : BitVec 32 := BitVec.ofNat 32 (i 0).val
  let c2_i32_570 : BitVec 32 := 2#32
  let v1215 : BitVec 32 := Scalar.muli arg0 c2_i32_570
  let v1216 : BitVec 32 := Scalar.addi v1215 c0_i32_571
  let v1217 : Index := Scalar.indexCast v1216
  ![0, 31, v1217.toNat]
def k0_off34 (i : grid0.Coords) (c0_i32_588 : BitVec 32) : Fin 3 → Nat :=
  let c0_589 : Index := 0#32
  let c32 : Index := 32#32
  let arg0 : BitVec 32 := BitVec.ofNat 32 (i 0).val
  let c2_i32_587 : BitVec 32 := 2#32
  let v1241 : BitVec 32 := Scalar.muli arg0 c2_i32_587
  let v1242 : BitVec 32 := Scalar.addi v1241 c0_i32_588
  let v1243 : Index := Scalar.indexCast v1242
  ![0, 32, v1243.toNat]
def k0_off35 (i : grid0.Coords) (c0_i32_605 : BitVec 32) : Fin 3 → Nat :=
  let c0_606 : Index := 0#32
  let c33 : Index := 33#32
  let arg0 : BitVec 32 := BitVec.ofNat 32 (i 0).val
  let c2_i32_604 : BitVec 32 := 2#32
  let v1267 : BitVec 32 := Scalar.muli arg0 c2_i32_604
  let v1268 : BitVec 32 := Scalar.addi v1267 c0_i32_605
  let v1269 : Index := Scalar.indexCast v1268
  ![0, 33, v1269.toNat]
def k0_off36 (i : grid0.Coords) (c0_i32_622 : BitVec 32) : Fin 3 → Nat :=
  let c0_623 : Index := 0#32
  let c34 : Index := 34#32
  let arg0 : BitVec 32 := BitVec.ofNat 32 (i 0).val
  let c2_i32_621 : BitVec 32 := 2#32
  let v1293 : BitVec 32 := Scalar.muli arg0 c2_i32_621
  let v1294 : BitVec 32 := Scalar.addi v1293 c0_i32_622
  let v1295 : Index := Scalar.indexCast v1294
  ![0, 34, v1295.toNat]
def k0_off37 (i : grid0.Coords) (c0_i32_639 : BitVec 32) : Fin 3 → Nat :=
  let c0_640 : Index := 0#32
  let c35 : Index := 35#32
  let arg0 : BitVec 32 := BitVec.ofNat 32 (i 0).val
  let c2_i32_638 : BitVec 32 := 2#32
  let v1319 : BitVec 32 := Scalar.muli arg0 c2_i32_638
  let v1320 : BitVec 32 := Scalar.addi v1319 c0_i32_639
  let v1321 : Index := Scalar.indexCast v1320
  ![0, 35, v1321.toNat]
def k0_off38 (i : grid0.Coords) (c0_i32_656 : BitVec 32) : Fin 3 → Nat :=
  let c0_657 : Index := 0#32
  let c36 : Index := 36#32
  let arg0 : BitVec 32 := BitVec.ofNat 32 (i 0).val
  let c2_i32_655 : BitVec 32 := 2#32
  let v1345 : BitVec 32 := Scalar.muli arg0 c2_i32_655
  let v1346 : BitVec 32 := Scalar.addi v1345 c0_i32_656
  let v1347 : Index := Scalar.indexCast v1346
  ![0, 36, v1347.toNat]
def k0_off39 (i : grid0.Coords) (c0_i32_673 : BitVec 32) : Fin 3 → Nat :=
  let c0_674 : Index := 0#32
  let c37 : Index := 37#32
  let arg0 : BitVec 32 := BitVec.ofNat 32 (i 0).val
  let c2_i32_672 : BitVec 32 := 2#32
  let v1371 : BitVec 32 := Scalar.muli arg0 c2_i32_672
  let v1372 : BitVec 32 := Scalar.addi v1371 c0_i32_673
  let v1373 : Index := Scalar.indexCast v1372
  ![0, 37, v1373.toNat]
def k0_off40 (i : grid0.Coords) (c0_i32_690 : BitVec 32) : Fin 3 → Nat :=
  let c0_691 : Index := 0#32
  let c38 : Index := 38#32
  let arg0 : BitVec 32 := BitVec.ofNat 32 (i 0).val
  let c2_i32_689 : BitVec 32 := 2#32
  let v1397 : BitVec 32 := Scalar.muli arg0 c2_i32_689
  let v1398 : BitVec 32 := Scalar.addi v1397 c0_i32_690
  let v1399 : Index := Scalar.indexCast v1398
  ![0, 38, v1399.toNat]
def k0_off41 (i : grid0.Coords) (c0_i32_707 : BitVec 32) : Fin 3 → Nat :=
  let c0_708 : Index := 0#32
  let c39 : Index := 39#32
  let arg0 : BitVec 32 := BitVec.ofNat 32 (i 0).val
  let c2_i32_706 : BitVec 32 := 2#32
  let v1423 : BitVec 32 := Scalar.muli arg0 c2_i32_706
  let v1424 : BitVec 32 := Scalar.addi v1423 c0_i32_707
  let v1425 : Index := Scalar.indexCast v1424
  ![0, 39, v1425.toNat]
def k0_cond1 (v1 : BitVec 32) (v3 : BitVec 32) : BitVec 1 :=
  let v4 : BitVec 1 := Scalar.cmpi .sgt v3 v1
  let v5 : BitVec 32 := Scalar.extui v4
  let c0_i32 : BitVec 32 := 0#32
  let v6 : BitVec 1 := Scalar.cmpi .ne v5 c0_i32
  v6

def cc0_transform_0 (k0_off1_inb : ∀ i : grid0.Coords, ∀ a, (k0_off1 i) a + S1.size a ≤ S39.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S39) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S39.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S39) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S39) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S39) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S39) ![v0.toNat] S1.size (k0_off1_inb i)) numel1_S1
  let c0_i32 : BitVec 32 := 0#32
  let c0_i32_0 : BitVec 32 := 0#32
  ![v1.toNat, c0_i32.toNat, arg0.toNat]

def cc0_transform_5 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S39) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S39) ![v0.toNat] S1.size (k0_off1_inb i)) numel1_S1
  let c0_i32 : BitVec 32 := 0#32
  let c0_i32_0 : BitVec 32 := 0#32
  ![v1.toNat, c0_i32.toNat, arg0.toNat]

def cc0_transform_7 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S39) ![v0.toNat] S1.size (k0_off1_inb i)) numel1_S1
  let c0_i32 : BitVec 32 := 0#32
  let c0_i32_0 : BitVec 32 := 0#32
  ![v1.toNat, c0_i32.toNat, arg0.toNat]

def cc0_transform_8 (k0_off1_inb : ∀ i : grid0.Coords, ∀ a, (k0_off1 i) a + S1.size a ≤ S39.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S39) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S39) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S512x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x5120x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .smem S1x40x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x5120x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .smem S1x40x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16384x5120 : Shape := ⟨2, ![16384, 5120]⟩
abbrev S16384x40 : Shape := ⟨2, ![16384, 40]⟩
abbrev S8 : Shape := ⟨1, ![8]⟩
abbrev S8x5120x8192 : Shape := ⟨3, ![8, 5120, 8192]⟩
abbrev S8x40x64 : Shape := ⟨3, ![8, 40, 64]⟩
abbrev S8x8192 : Shape := ⟨2, ![8, 8192]⟩
abbrev S8x8 : Shape := ⟨2, ![8, 8]⟩
abbrev S1x8 : Shape := ⟨2, ![1, 8]⟩
abbrev S_ : Shape := ⟨0, ![]⟩
abbrev S16384 : Shape := ⟨1, ![16384]⟩
abbrev S16384x1 : Shape := ⟨2, ![16384, 1]⟩
abbrev S16384x8 : Shape := ⟨2, ![16384, 8]⟩
abbrev S16384x8192 : Shape := ⟨2, ![16384, 8192]⟩
abbrev S32x16384x2 : Shape := ⟨3, ![32, 16384, 2]⟩
abbrev S16384x40x128 : Shape := ⟨3, ![16384, 40, 128]⟩
abbrev S16384x40x1 : Shape := ⟨3, ![16384, 40, 1]⟩
abbrev S1x5120x8192 : Shape := ⟨3, ![1, 5120, 8192]⟩
abbrev S5120x8192 : Shape := ⟨2, ![5120, 8192]⟩
abbrev S40x128x64x128 : Shape := ⟨4, ![40, 128, 64, 128]⟩
abbrev S1x40x64 : Shape := ⟨3, ![1, 40, 64]⟩
abbrev S40x64 : Shape := ⟨2, ![40, 64]⟩
abbrev S40x1x64x1 : Shape := ⟨4, ![40, 1, 64, 1]⟩
abbrev S1x8192 : Shape := ⟨2, ![1, 8192]⟩
abbrev S16384x64x128 : Shape := ⟨3, ![16384, 64, 128]⟩
abbrev S16384x64 : Shape := ⟨2, ![16384, 64]⟩
abbrev S16384x64x254 : Shape := ⟨3, ![16384, 64, 254]⟩
abbrev S16384x64x1 : Shape := ⟨3, ![16384, 64, 1]⟩
abbrev S16384x32x2 : Shape := ⟨3, ![16384, 32, 2]⟩

abbrev nBuf : Space → Nat
  | .hbm => 30
  | .vmem => 11
  | .smem => 0
  | _ => 0

abbrev bufTy : (tb : Table) → Fin (tcTables nBuf tb) → BufTy
  | .hbm, ⟨0, _⟩ => ⟨S16384x5120, .fp8e4m3⟩
  | .hbm, ⟨1, _⟩ => ⟨S16384x40, .f32⟩
  | .hbm, ⟨2, _⟩ => ⟨S8, .i32⟩
  | .hbm, ⟨3, _⟩ => ⟨S8x5120x8192, .fp8e4m3⟩
  | .hbm, ⟨4, _⟩ => ⟨S8x40x64, .f32⟩
  | .hbm, ⟨5, _⟩ => ⟨S8x5120x8192, .fp8e4m3⟩
  | .hbm, ⟨6, _⟩ => ⟨S8x40x64, .f32⟩
  | .hbm, ⟨7, _⟩ => ⟨S8x8192, .f32⟩
  | .hbm, ⟨8, _⟩ => ⟨S8x8192, .f32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S1x8, .i32⟩
  | .hbm, ⟨13, _⟩ => ⟨S8x8, .i32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8, .i32⟩
  | .hbm, ⟨18, _⟩ => ⟨S16384, .i32⟩
  | .hbm, ⟨19, _⟩ => ⟨S16384x1, .i32⟩
  | .hbm, ⟨20, _⟩ => ⟨S1x8, .i32⟩
  | .hbm, ⟨21, _⟩ => ⟨S16384x8, .i32⟩
  | .hbm, ⟨22, _⟩ => ⟨S16384x8, .i32⟩
  | .hbm, ⟨23, _⟩ => ⟨S16384x8, .i1⟩
  | .hbm, ⟨24, _⟩ => ⟨S16384x8, .i32⟩
  | .hbm, ⟨25, _⟩ => ⟨S_, .i32⟩
  | .hbm, ⟨26, _⟩ => ⟨S16384, .i32⟩
  | .hbm, ⟨27, _⟩ => ⟨S16384x1, .i32⟩
  | .hbm, ⟨28, _⟩ => ⟨S16384x8192, .fp8e4m3⟩
  | .hbm, ⟨29, _⟩ => ⟨S32x16384x2, .f32⟩
  | .local _ .vmem, ⟨0, _⟩ => ⟨S16384x1, .i32⟩
  | .local _ .vmem, ⟨1, _⟩ => ⟨S16384x5120, .fp8e4m3⟩
  | .local _ .vmem, ⟨2, _⟩ => ⟨S16384x40, .f32⟩
  | .local _ .vmem, ⟨3, _⟩ => ⟨S8x5120x8192, .fp8e4m3⟩
  | .local _ .vmem, ⟨4, _⟩ => ⟨S8x40x64, .f32⟩
  | .local _ .vmem, ⟨5, _⟩ => ⟨S8x5120x8192, .fp8e4m3⟩
  | .local _ .vmem, ⟨6, _⟩ => ⟨S8x40x64, .f32⟩
  | .local _ .vmem, ⟨7, _⟩ => ⟨S8x8192, .f32⟩
  | .local _ .vmem, ⟨8, _⟩ => ⟨S8x8192, .f32⟩
  | .local _ .vmem, ⟨9, _⟩ => ⟨S16384x8192, .fp8e4m3⟩
  | .local _ .vmem, ⟨10, _⟩ => ⟨S32x16384x2, .f32⟩
  | _, _ => ⟨S16384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S16384x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x5120x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x40x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x5120x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x40x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x16384x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelKit.lean ====
/- What the launch of the kernel starts from: the memory when the kernel is entered (after the host lines that
   compute the visit tables), the tables themselves, the block of each window at a grid point, and the frame claim
   read off a run of the pipeline. -/
module

public import proofs.«01_k».proof.Proof.Gen.Kernel.Launch
public import proofs.«01_k».proof.Proof.Gen.Kernel.Skeleton
public import Idealize.ShloMosaic.Lib.Pipeline.FrameBody
public import Idealize.ShloMosaic.Lib.Tactic
public import Idealize.ShloMosaic.Lib.WordCmp
public import Idealize.ShloMosaic.Lib.Claim
public import Idealize.ShloMosaic.Lib.StableHlo.RunRead

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body at a grid point -/

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_gate_up (grid0.coords t) (Memref.whole main_v27) (Memref.isWhole_whole _) (Memref.whole main_v44) (Memref.isWhole_whole _) (Memref.whole main_v56) (Memref.isWhole_whole _) (Memref.whole main_v71) (Memref.isWhole_whole _) (Memref.whole main_v73) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) (Memref.whole cc0_scratch2) (Memref.isWhole_whole _)

/-! ## @main up to the region -/

/-- The host lines before the kernel, stretch by stretch. -/
abbrev hostLines : List (List (HloOp τ sig (Elt F))) :=
  [hostOps0, hostOps0_1, hostOps0_2, hostOps0_3, hostOps0_4, hostOps0_5, hostOps0_6, hostOps0_7, hostOps0_8, hostOps0_9, hostOps0_10]

theorem hostOps0_fresh : (hostOps0 : List (HloOp τ sig (Elt F))).Forall fun op => op.fresh = ∅ := by
  simp only [List.Forall]; repeat' constructor

theorem hostOps0_1_fresh : (hostOps0_1 : List (HloOp τ sig (Elt F))).Forall fun op => op.fresh = ∅ := by
  simp only [List.Forall]; repeat' constructor

theorem hostOps0_2_fresh : (hostOps0_2 : List (HloOp τ sig (Elt F))).Forall fun op => op.fresh = ∅ := by
  simp only [List.Forall]; repeat' constructor

theorem hostOps0_3_fresh : (hostOps0_3 : List (HloOp τ sig (Elt F))).Forall fun op => op.fresh = ∅ := by
  simp only [List.Forall]; repeat' constructor

theorem hostOps0_4_fresh : (hostOps0_4 : List (HloOp τ sig (Elt F))).Forall fun op => op.fresh = ∅ := by
  simp only [List.Forall]; repeat' constructor

theorem hostOps0_5_fresh : (hostOps0_5 : List (HloOp τ sig (Elt F))).Forall fun op => op.fresh = ∅ := by
  simp only [List.Forall]; repeat' constructor

theorem hostOps0_6_fresh : (hostOps0_6 : List (HloOp τ sig (Elt F))).Forall fun op => op.fresh = ∅ := by
  simp only [List.Forall]; repeat' constructor

theorem hostOps0_7_fresh : (hostOps0_7 : List (HloOp τ sig (Elt F))).Forall fun op => op.fresh = ∅ := by
  simp only [List.Forall]; repeat' constructor

theorem hostOps0_8_fresh : (hostOps0_8 : List (HloOp τ sig (Elt F))).Forall fun op => op.fresh = ∅ := by
  simp only [List.Forall]; repeat' constructor

theorem hostOps0_9_fresh : (hostOps0_9 : List (HloOp τ sig (Elt F))).Forall fun op => op.fresh = ∅ := by
  simp only [List.Forall]; repeat' constructor

theorem hostOps0_10_fresh : (hostOps0_10 : List (HloOp τ sig (Elt F))).Forall fun op => op.fresh = ∅ := by
  simp only [List.Forall]; repeat' constructor

/-- Core `c`'s buffers when the region is entered: what the host lines leave of the launch memory. -/
def V (c : Dev nD) (b : Ref sig .tc) : Buf (Elt F) ((c : Thread nD τ).loc b) :=
  StableHlo.after (hostLines (F := F)).flatten (fun b => m (c, b)) b

/-- @main up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines
    ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩
    fun c => main_chain c

theorem V_main_arg0 (c : Dev nD) : V m c main_arg0 = m ((c : Thread nD τ).loc main_arg0) := by
  unfold V
  after_reads_simp
theorem V_main_arg1 (c : Dev nD) : V m c main_arg1 = m ((c : Thread nD τ).loc main_arg1) := by
  unfold V
  after_reads_simp
theorem V_main_arg2 (c : Dev nD) : V m c main_arg2 = m ((c : Thread nD τ).loc main_arg2) := by
  unfold V
  after_reads_simp
theorem V_main_arg3 (c : Dev nD) : V m c main_arg3 = m ((c : Thread nD τ).loc main_arg3) := by
  unfold V
  after_reads_simp
theorem V_main_arg4 (c : Dev nD) : V m c main_arg4 = m ((c : Thread nD τ).loc main_arg4) := by
  unfold V
  after_reads_simp
theorem V_main_arg5 (c : Dev nD) : V m c main_arg5 = m ((c : Thread nD τ).loc main_arg5) := by
  unfold V
  after_reads_simp
theorem V_main_arg6 (c : Dev nD) : V m c main_arg6 = m ((c : Thread nD τ).loc main_arg6) := by
  unfold V
  after_reads_simp
theorem V_main_arg7 (c : Dev nD) : V m c main_arg7 = m ((c : Thread nD τ).loc main_arg7) := by
  unfold V
  after_reads_simp
theorem V_main_arg8 (c : Dev nD) : V m c main_arg8 = m ((c : Thread nD τ).loc main_arg8) := by
  unfold V
  after_reads_simp
/-! ## The prefetched tables, read off the launch memory -/

/-- The tables' contents when the region is entered (`V`; device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The pipeline's side condition of the tables' contents: every window whose index map reads a table has its block
    inside the array at every point (the printed `ok0`; `True` when no map reads a table). The frame holds under it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S39 .i32 := Memref.whole main_v27
abbrev htbM0_0 : tbM0_0.IsWhole := Memref.isWhole_whole _
abbrev tbM0_1 : Memref sig .tc .smem S39 .i32 := Memref.whole main_v44
abbrev htbM0_1 : tbM0_1.IsWhole := Memref.isWhole_whole _
abbrev tbM0_2 : Memref sig .tc .smem S39 .i32 := Memref.whole main_v56
abbrev htbM0_2 : tbM0_2.IsWhole := Memref.isWhole_whole _
abbrev tbM0_3 : Memref sig .tc .smem S39 .i32 := Memref.whole main_v71
abbrev htbM0_3 : tbM0_3.IsWhole := Memref.isWhole_whole _
abbrev tbM0_4 : Memref sig .tc .smem S39 .i32 := Memref.whole main_v73
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (by decide : main_arg2 ∈ Pipeline.restRefs sig spec0)).trans (V_main_arg2 m c),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c)),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

/-! ## The kernel body on any staging memrefs: its operands -/

/-- Each window's current staging memref at point `t`, spelled as the pipeline passes it (`bodyAt0`), and its wholeness. -/
abbrev ms0_0 (hO : Ok m) (t : Fin (cfgM m hO).N) : Memref sig .tc .vmem S512x5120 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x40 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x5120x256 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .smem S1x40x64 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x5120x256 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .smem S1x40x64 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x256 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S512x256 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x512x2 .f32 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S512x5120 .bf16 := Memref.whole cc0_scratch0
abbrev scM0_1 : Memref sig .tc .vmem S5120x256 .bf16 := Memref.whole cc0_scratch1
abbrev scM0_2 : Memref sig .tc .vmem S5120x256 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Body

end
-- ==== Proof.KernelRun.lean ====
/- The kernel body run once, on any whole staging buffers: it ends with its inputs as they were and with some
   contents in the outputs and the scratch buffers. -/
module

public import proofs.«01_k».proof.Proof.KernelKit

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large: checking it walks past the default budget)
set_option maxHeartbeats 16000000 in
/-- The body's triple: on whole staging memrefs — the inputs' at their contents,
    the FORGOTTEN outputs' (8, 9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg7 : Memref sig .tc .vmem S512x5120 .fp8e4m3) (harg7 : arg7.IsWhole) (arg8 : Memref sig .tc .vmem S512x40 .f32) (harg8 : arg8.IsWhole) (arg9 : Memref sig .tc .vmem S1x5120x256 .fp8e4m3) (harg9 : arg9.IsWhole) (arg10 : Memref sig .tc .smem S1x40x64 .f32) (harg10 : arg10.IsWhole) (arg11 : Memref sig .tc .vmem S1x5120x256 .fp8e4m3) (harg11 : arg11.IsWhole) (arg12 : Memref sig .tc .smem S1x40x64 .f32) (harg12 : arg12.IsWhole) (arg13 : Memref sig .tc .vmem S1x1x256 .f32) (harg13 : arg13.IsWhole) (arg14 : Memref sig .tc .vmem S1x1x256 .f32) (harg14 : arg14.IsWhole) (arg15 : Memref sig .tc .vmem S512x256 .fp8e4m3) (harg15 : arg15.IsWhole) (arg16 : Memref sig .tc .vmem S1x512x2 .f32) (harg16 : arg16.IsWhole) (arg17 : Memref sig .tc .vmem S512x5120 .bf16) (harg17 : arg17.IsWhole) (arg18 : Memref sig .tc .vmem S5120x256 .bf16) (harg18 : arg18.IsWhole) (arg19 : Memref sig .tc .vmem S5120x256 .bf16) (harg19 : arg19.IsWhole)
    (x0 : Vec F S512x5120 .fp8e4m3) (x1 : Vec F S512x40 .f32) (x2 : Vec F S1x5120x256 .fp8e4m3) (x3 : Vec F S1x40x64 .f32) (x4 : Vec F S1x5120x256 .fp8e4m3) (x5 : Vec F S1x40x64 .f32) (x6 : Vec F S1x1x256 .f32) (x7 : Vec F S1x1x256 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) :
      ∀ (E : Set ℕ) (K : PUnit → sProp 𝕄),
        iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare x6 ∗ owns (c : Thread nD τ) arg14 fullShare x7 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare x6 ∗ owns (c : Thread nD τ) arg14 fullShare x7 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0_moe_gate_up i tbM0_0 htbM0_0 tbM0_1 htbM0_1 tbM0_2 htbM0_2 tbM0_3 htbM0_3 tbM0_4 htbM0_4 arg7 harg7 arg8 harg8 arg9 harg9 arg10 harg10 arg11 harg11 arg12 harg12 arg13 harg13 arg14 harg14 arg15 harg15 arg16 harg16 arg17 harg17 arg18 harg18 arg19 harg19) K := by
    intro E K
    simp only [cc0_moe_gate_up_eq_skeleton]; unfold cc0_moe_gate_up_skel
    simp only [k0_part78_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part72_eq_skeleton, k0_part73_eq_skeleton, k0_part74_eq_skeleton, k0_part75_eq_skeleton, k0_part76_eq_skeleton, k0_part77_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, HT0, HT1, HT2, HT3, HT4, Hk⟩
    obtain rfl := harg7.eq_unread hf0; obtain rfl := harg8.eq_unread hf1; obtain rfl := harg9.eq_unread hf2; obtain rfl := harg10.eq_unread hf3; obtain rfl := harg11.eq_unread hf4; obtain rfl := harg12.eq_unread hf5; obtain rfl := harg13.eq_unread hf6; obtain rfl := harg14.eq_unread hf7
    sl_exec
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; · ipureintro; exact harg11.read_unread _
      iexact H4
    isplitl [H5]
    · iexists _; isplitr; · ipureintro; exact harg12.read_unread _
      iexact H5
    isplitl [H6]
    · iexists _; isplitr; · ipureintro; exact harg13.read_unread _
      iexact H6
    isplitl [H7]
    · iexists _; isplitr; · ipureintro; exact harg14.read_unread _
      iexact H7
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [HT1]; · iexact HT1
    isplitl [HT2]; · iexact HT2
    isplitl [HT3]; · iexact HT3
    iexact HT4

end Cert.Kernel.Body

end
-- ==== Proof.KernelFrame.lean ====
/- The frame of the program: under the side condition of the visit tables every run ends, every argument
   is as it was, and every semaphore counter is zero. What the kernel leaves in its outputs is not named here. -/
module

public import proofs.«01_k».proof.Proof.KernelRun

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (8, 9): nothing reads what the kernel leaves in them, so nothing
    of it is named (Lib/Pipeline/Dat.lean `Dat.toRForget`). -/
def forgets0 : Fin 10 → Bool := fun w => w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
    | ⟨9, h⟩ => Pipeline.Dat.unnamed (cfg := (cfgM m hO)) ⟨9, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare d)
    ∗ (∃ d, owns (c : Thread nD τ) (ms0_9 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ (∃ d, owns (c : Thread nD τ) (ms0_8 m hO t) fullShare d)
    ∗ (∃ d, owns (c : Thread nD τ) (ms0_9 m hO t) fullShare d))

set_option maxHeartbeats 4000000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2⟩, Hg⟩, ⟨HT0, HT1, HT2, HT3, HT4⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2) (tbl m 3) (tbl m 4)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HT0]; · iexact HT0
  isplitl [HT1]; · iexact HT1
  isplitl [HT2]; · iexact HT2
  isplitl [HT3]; · iexact HT3
  isplitl [HT4]; · iexact HT4
  iintro ⟨H0, H1, H2, H3, H4, H5, H6, H7, H8, H9, HS0, HS1, HS2, HT0, HT1, HT2, HT3, HT4⟩
  isplitl [HS0 HS1 HS2 Hg HT0 HT1 HT2 HT3 HT4]
  · isplitl [HS0 HS1 HS2 Hg]
    · isplitl [HS0 HS1 HS2]
      · isplitl [HS0]
        · iexact HS0
        isplitl [HS1]
        · iexact HS1
        iexact HS2
      iexact Hg
    isplitl [HT0]; · iexact HT0
    isplitl [HT1]; · iexact HT1
    isplitl [HT2]; · iexact HT2
    isplitl [HT3]; · iexact HT3
    iexact HT4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 8, 9) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (fun c => (dats m hO 0 c).toRForget forgets0) (A_eq m hO) (run_main m ρ hO)

/-- THE FRAME: every run ends with the arguments as they were and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.Kernel.Body

end
-- ==== Proof.Visits.lean ====
/- The visit tables as numbers: eight groups of rows of the given sizes, laid one after the other over 32 tiles of
   512 rows. A visit is a pair of a tile and a group that has a row in it; the visits are numbered group by group.
   Proved here: every row is met by a visit, every visit that meets a row is of the row's own group, and the tiles
   of successive visits never go back. -/
module

public import Mathlib.Algebra.BigOperators.Intervals
public import Mathlib.Algebra.Order.BigOperators.Group.Finset
public import Mathlib.Data.Finset.Card
public import Mathlib.Tactic.Ring
public import Mathlib.Tactic.Linarith

@[expose] public section

namespace Cert.Visits

/-- The sum of the first `j` values of `f`. -/
def pre (f : ℕ → ℕ) (j : ℕ) : ℕ := ∑ i ∈ Finset.range j, f i

theorem pre_zero (f : ℕ → ℕ) : pre f 0 = 0 := rfl
theorem pre_succ (f : ℕ → ℕ) (j : ℕ) : pre f (j + 1) = pre f j + f j := Finset.sum_range_succ f j

theorem pre_mono (f : ℕ → ℕ) {i j : ℕ} (h : i ≤ j) : pre f i ≤ pre f j := by
  induction h with
  | refl => exact le_rfl
  | step _ ih => rw [pre_succ]; omega

/-- How many of the first eight groups end at or below `x`. -/
def below (f : ℕ → ℕ) (x : ℕ) : ℕ := ((Finset.range 8).filter fun j => pre f (j + 1) ≤ x).card

/-- The group a place below the total lies in. -/
theorem exists_group (f : ℕ → ℕ) (x : ℕ) : ∀ n, x < pre f n → ∃ e, e < n ∧ pre f e ≤ x ∧ x < pre f (e + 1)
  | 0, h => by rw [pre_zero] at h; omega
  | n + 1, h => by
    by_cases hx : x < pre f n
    · obtain ⟨e, he, h1, h2⟩ := exists_group f x n hx
      exact ⟨e, by omega, h1, h2⟩
    · exact ⟨n, by omega, by omega, h⟩

/-- The count of groups ended names the group. -/
theorem below_eq (f : ℕ → ℕ) {x e : ℕ} (he : e < 8) (h1 : pre f e ≤ x) (h2 : x < pre f (e + 1)) : below f x = e := by
  have : (Finset.range 8).filter (fun j => pre f (j + 1) ≤ x) = Finset.range e := by
    ext j
    simp only [Finset.mem_filter, Finset.mem_range]
    constructor
    · rintro ⟨_, hj⟩
      by_contra hn
      have := pre_mono f (show e + 1 ≤ j + 1 by omega)
      omega
    · intro hj
      have := pre_mono f (show j + 1 ≤ e by omega)
      exact ⟨by omega, by omega⟩
  unfold below; rw [this, Finset.card_range]

theorem below_le (f : ℕ → ℕ) (x : ℕ) : below f x ≤ 8 := by
  unfold below; exact (Finset.card_filter_le _ _).trans (by simp)

variable (sz : ℕ → ℕ)

/-- The tiles group `j` has a row in. -/
def cnt (j : ℕ) : ℕ := if 0 < sz j then (pre sz (j + 1) + 511) / 512 - pre sz j / 512 else 0
/-- The number of visits. -/
def tot : ℕ := pre (cnt sz) 8
/-- The visit a table entry speaks of: past the last visit, the last. -/
def vis (v : ℕ) : ℕ := min v (tot sz - 1)
/-- The group of a table entry. -/
def grp (v : ℕ) : ℕ := min (below (cnt sz) (vis sz v)) 7
/-- The tile of a table entry. -/
def tile (v : ℕ) : ℕ := pre sz (grp sz v) / 512 + vis sz v - pre (cnt sz) (grp sz v)
/-- The first of the tile's rows that are the group's. -/
def lo (v : ℕ) : ℕ := pre sz (grp sz v) - 512 * tile sz v
/-- One past the last of them; zero past the last visit. -/
def hi (v : ℕ) : ℕ := if v < tot sz then min (pre sz (grp sz v + 1) - 512 * tile sz v) 512 else 0

variable {sz}

theorem cnt_pos {j : ℕ} (h : 0 < cnt sz j) : 0 < sz j := by
  unfold cnt at h; split at h
  · assumption
  · omega

theorem cnt_of_pos {j : ℕ} (h : 0 < sz j) : cnt sz j + pre sz j / 512 = (pre sz (j + 1) + 511) / 512 := by
  unfold cnt; rw [if_pos h, pre_succ]; omega

/-- There is a visit. -/
theorem tot_pos (hs : 0 < pre sz 8) : 0 < tot sz := by
  obtain ⟨e, he, h1, h2⟩ := exists_group sz 0 8 hs
  rw [pre_succ] at h2
  have h3 := cnt_of_pos (sz := sz) (j := e) (by omega)
  rw [pre_succ] at h3
  have h4 := pre_mono (cnt sz) (show e + 1 ≤ 8 by omega)
  rw [pre_succ] at h4
  unfold tot; omega

theorem vis_lt (hs : 0 < pre sz 8) (v : ℕ) : vis sz v < tot sz := by
  have := tot_pos hs; unfold vis; omega

/-- A table entry's visit is one of its group's. -/
theorem grp_spec (hs : 0 < pre sz 8) (v : ℕ) :
    grp sz v < 8 ∧ pre (cnt sz) (grp sz v) ≤ vis sz v ∧ vis sz v < pre (cnt sz) (grp sz v) + cnt sz (grp sz v) := by
  obtain ⟨e, he, h1, h2⟩ := exists_group (cnt sz) (vis sz v) 8 (vis_lt hs v)
  have : grp sz v = e := by unfold grp; rw [below_eq _ he h1 h2]; omega
  rw [this]; rw [pre_succ] at h2; exact ⟨he, h1, h2⟩

/-- What a table entry's tile is: between its group's first and last. -/
theorem tile_spec (hs : 0 < pre sz 8) (v : ℕ) :
    tile sz v + pre (cnt sz) (grp sz v) = pre sz (grp sz v) / 512 + vis sz v
      ∧ pre sz (grp sz v) / 512 ≤ tile sz v ∧ 512 * tile sz v < pre sz (grp sz v + 1) ∧ 0 < sz (grp sz v) := by
  obtain ⟨h0, h1, h2⟩ := grp_spec hs v
  have hp : 0 < sz (grp sz v) := cnt_pos (by omega)
  have hc := cnt_of_pos hp
  have ht : tile sz v = pre sz (grp sz v) / 512 + vis sz v - pre (cnt sz) (grp sz v) := rfl
  refine ⟨by omega, by omega, by omega, hp⟩

theorem tile_lt (hs : pre sz 8 = 16384) (v : ℕ) : tile sz v < 32 := by
  have hs' : 0 < pre sz 8 := by omega
  have h := (tile_spec hs' v).2.2.1
  have := pre_mono sz (show grp sz v + 1 ≤ 8 by have := (grp_spec hs' v).1; omega)
  omega

/-- A visit that meets a row is of the row's group. -/
theorem meets (hs : 0 < pre sz 8) {v r : ℕ} (ht : r / 512 = tile sz v) (h1 : lo sz v ≤ r % 512) (h2 : r % 512 < hi sz v) :
    below sz r = grp sz v ∧ grp sz v < 8 := by
  obtain ⟨h0, _, _⟩ := grp_spec hs v
  have hlo : lo sz v = pre sz (grp sz v) - 512 * tile sz v := rfl
  have hhi : hi sz v ≤ pre sz (grp sz v + 1) - 512 * tile sz v := by unfold hi; split <;> omega
  exact ⟨below_eq _ h0 (by omega) (by omega), h0⟩

/-- Every row is met. -/
theorem met (hs : 0 < pre sz 8) {r : ℕ} (hr : r < pre sz 8) :
    ∃ v, v < tot sz ∧ r / 512 = tile sz v ∧ lo sz v ≤ r % 512 ∧ r % 512 < hi sz v := by
  obtain ⟨e, he, h1, h2⟩ := exists_group sz r 8 hr
  have hp : 0 < sz e := by rw [pre_succ] at h2; omega
  have hc := cnt_of_pos hp
  have h4 := pre_mono (cnt sz) (show e + 1 ≤ 8 by omega)
  rw [pre_succ] at h4
  have htot : tot sz = pre (cnt sz) 8 := rfl
  obtain ⟨v, hv⟩ : ∃ v, v = pre (cnt sz) e + r / 512 - pre sz e / 512 := ⟨_, rfl⟩
  have hvt : v < tot sz := by omega
  have hvis : vis sz v = v := by unfold vis; omega
  have hg : grp sz v = e := by
    unfold grp; rw [hvis, below_eq (cnt sz) he (by omega) (by rw [pre_succ]; omega)]; omega
  have ht : tile sz v = r / 512 := by unfold tile; rw [hvis, hg]; omega
  refine ⟨v, hvt, ht.symm, ?_, ?_⟩
  · unfold lo; rw [hg, ht]; omega
  · unfold hi; rw [if_pos hvt, hg, ht]; omega

/-- The tiles never go back. -/
theorem tile_mono (hs : 0 < pre sz 8) {v w : ℕ} (h : v ≤ w) : tile sz v ≤ tile sz w := by
  have hvw : vis sz v ≤ vis sz w := by unfold vis; omega
  obtain ⟨a0, a1, a2⟩ := grp_spec hs v
  obtain ⟨b0, b1, b2⟩ := grp_spec hs w
  obtain ⟨c1, c2, c3, _⟩ := tile_spec hs v
  obtain ⟨d1, d2, d3, _⟩ := tile_spec hs w
  rcases Nat.lt_trichotomy (grp sz v) (grp sz w) with hg | hg | hg
  · have := pre_mono sz (show grp sz v + 1 ≤ grp sz w by omega)
    omega
  · rw [hg] at c1; omega
  · have := pre_mono (cnt sz) (show grp sz w + 1 ≤ grp sz v by omega)
    rw [pre_succ] at this; omega

/-- There are at most 39 visits: each of the eight groups adds at most one to the 32 tiles. -/
theorem tot_le (hs : pre sz 8 = 16384) : tot sz ≤ 39 := by
  have key : ∀ n, 0 < n → pre (cnt sz) n ≤ (pre sz n + 511) / 512 + (n - 1) := by
    intro n hn
    induction n with
    | zero => omega
    | succ k ih =>
      rw [pre_succ (cnt sz)]
      by_cases hz : 0 < sz k
      · have hc := cnt_of_pos hz
        rcases Nat.eq_zero_or_pos k with rfl | hk
        · simp only [pre_zero] at hc ⊢; omega
        · have := ih hk
          omega
      · have : cnt sz k = 0 := by unfold cnt; rw [if_neg hz]
        rw [this, pre_succ]
        rcases Nat.eq_zero_or_pos k with rfl | hk
        · simp only [pre_zero]; omega
        · have := ih hk
          omega
  have := key 8 (by omega)
  unfold tot; omega

end Cert.Visits
-- ==== Proof.TableWords.lean ====
/- The visit tables as 32-bit words: the chain of integer operations that computes the five tables from the eight
   group sizes, and that each word it leaves is the number `Visits` gives, when the sizes add up to 16384. -/
module

public import proofs.«01_k».proof.Proof.Visits
public import Idealize.ShloMosaic.Lib.Routing.Words
public import Idealize.ShloMosaic.Lib.Routing.Ops
public import Idealize.ShloMosaic.Lib.Routing.OpsSet

@[expose] public section

noncomputable section

namespace Cert.Tables

open Idealize.ShloMosaic Idealize.ShloMosaic.ValueIdx Idealize.ShloMosaic.Routing Idealize.ShloMosaic.WordCmp
open Cert.Visits (pre)

theorem b8 : shape0.BroadcastsInDim (shape1 8) (![] : Fin 0 → Fin (shape1 8).rank) := by decide
theorem b39 : shape0.BroadcastsInDim (shape1 39) (![] : Fin 0 → Fin (shape1 39).rank) := by decide
theorem b0 : shape0.BroadcastsInDim shape0 (![] : Fin 0 → Fin shape0.rank) := by decide
theorem bcol : (shape1 39).BroadcastsInDim (shape2 39 1) (![0] : Fin 1 → Fin (shape2 39 1).rank) := by decide
theorem bcol8 : (shape2 39 1).BroadcastsInDim (shape2 39 8) (![0, 1] : Fin 2 → Fin (shape2 39 8).rank) := by decide
theorem brow : (shape1 8).BroadcastsInDim (shape2 1 8) (![1] : Fin 1 → Fin (shape2 1 8).rank) := by decide
theorem brow8 : (shape2 1 8).BroadcastsInDim (shape2 39 8) (![0, 1] : Fin 2 → Fin (shape2 39 8).rank) := by decide
theorem rw8 : (shape1 8).ReduceWindows (![8] : Fin 1 → Nat) ![1] ![7] ![0] (shape1 8) := by decide
theorem hS0 : 0 < shape0.numel := by decide
theorem sl8 : (shape1 8).Slices ![7] (shape1 1) := by decide
theorem sc1 : (shape1 1).ShapeCasts shape0 := by decide
theorem red8 : (shape2 39 8).ReducesTo [1] (shape1 39) := by decide
theorem lt32 : (1 : Nat) < 32 := by decide
theorem gwf : GatherDims.WF (shape1 8) (shape2 39 1) (shape1 39) [] [0] [] [0] [] 1 ![1] := by decide

/-- The take of table entries by a column of group numbers. -/
def gd : GatherDims (shape1 8) (shape2 39 1) (shape1 39) where
  offsetDims := []
  collapsedSliceDims := [0]
  operandBatchingDims := []
  startIndicesBatchingDims := []
  startIndexMap := [0]
  indexVectorDim := 1
  sliceSizes := ![1]
  wf := gwf

abbrev V8 := IVec (shape1 8) 32
abbrev V39 := IVec (shape1 39) 32
abbrev k0 (b : BitVec 32) : IVec shape0 32 := constantI shape0 32 b
abbrev k8 (b : BitVec 32) : V8 := broadcastInDim (shape1 8) ![] b8 (k0 b)
abbrev k39 (b : BitVec 32) : V39 := broadcastInDim (shape1 39) ![] b39 (k0 b)

/-- Running sums. -/
def cum (x : V8) : V8 :=
  Host.reduceWindow IntOp.addi ![8] ![1] ![7] ![0] x (broadcastInDim shape0 ![] b0 (k0 0#32)) rw8 hS0
/-- Division rounding down. -/
def fdiv (x : V8) : V8 := pyDiv b8 x (k0 512#32)
/-- The tiles each group has a row in. -/
def cntW (s v0 v2 : V8) : V8 :=
  select (cmpi .sgt s (k8 0#32)) (subi (fdiv (subi (addi v0 (k8 512#32)) (k8 1#32))) v2) (k8 0#32)
/-- The number of visits. -/
def totW (v12 : V8) : IVec shape0 32 := shapeCast shape0 (extractStridedSlice (shape1 1) ![7] v12 sl8) sc1
/-- Each entry's visit. -/
def visW (v12 : V8) : V39 := minsi (iotaInDim (shape1 39) 32 0) (broadcastInDim (shape1 39) ![] b39 (subi (totW v12) (k0 1#32)))
/-- Each entry's group. -/
def grpW (v12 : V8) : V39 :=
  minsi (Host.reduce IntOp.addi (extui 32 (cmpi .sge
      (broadcastInDim (shape2 39 8) ![0, 1] bcol8 (broadcastInDim (shape2 39 1) ![0] bcol (visW v12)))
      (broadcastInDim (shape2 39 8) ![0, 1] brow8 (broadcastInDim (shape2 1 8) ![1] brow v12))) lt32) (k0 0#32) red8 hS0)
    (k39 7#32)
/-- A table of groups read at each entry's group. -/
def pick (x : V8) (e : V39) : V39 :=
  Host.gather gd x (broadcastInDim (shape2 39 1) ![0] bcol (select (cmpi .slt e (k39 0#32)) (addi e (k39 8#32)) e))
/-- Each entry's tile. -/
def tileW (v2 v11 v12 : V8) : V39 := subi (addi (pick v2 (grpW v12)) (visW v12)) (pick (subi v12 v11) (grpW v12))
/-- The first of the tile's rows that are the group's. -/
def loW (v1 v2 v11 v12 : V8) : V39 :=
  maxsi (subi (pick v1 (grpW v12)) (muli (tileW v2 v11 v12) (k39 512#32))) (k39 0#32)
/-- One past the last of them, before the entries past the last visit are cleared. -/
def endW (v0 v2 v11 v12 : V8) : V39 :=
  minsi (subi (pick v0 (grpW v12)) (muli (tileW v2 v11 v12) (k39 512#32))) (k39 512#32)
/-- Whether an entry is a visit. -/
def liveW (v12 : V8) : IVec (shape1 39) 1 := cmpi .slt (iotaInDim (shape1 39) 32 0) (broadcastInDim (shape1 39) ![] b39 (totW v12))

/-- The tables from the sizes. -/
def startT (s : V8) : V8 := subi (cum s) s
def firstT (s : V8) : V8 := fdiv (startT s)
def cntT (s : V8) : V8 := cntW s (cum s) (firstT s)
def vendT (s : V8) : V8 := cum (cntT s)
def grpT (s : V8) : V39 := grpW (vendT s)
def tileT (s : V8) : V39 := tileW (firstT s) (cntT s) (vendT s)
def loT (s : V8) : V39 := loW (startT s) (firstT s) (cntT s) (vendT s)
def hiT (s : V8) : V39 := select (liveW (vendT s)) (endW (cum s) (firstT s) (cntT s) (vendT s)) (k39 0#32)
def lo0T (s : V8) : V39 := maxsi (loT s) (k39 0#32)

/-! ## What the words are -/

theorem pre_eq (f : ℕ → ℕ) (n : ℕ) : ((List.range n).map f).sum = pre f n := by
  induction n with
  | zero => rfl
  | succ k ih => rw [List.range_succ, List.map_append, List.sum_append, ih, Visits.pre_succ]; simp

theorem sub_word {a b : ℕ} (h : b ≤ a) : BitVec.ofNat 32 a - BitVec.ofNat 32 b = BitVec.ofNat 32 (a - b) := ofNat32_sub h

theorem min_word {a b : ℕ} (ha : a < 2 ^ 31) (hb : b < 2 ^ 31) :
    IntOp.minsi (BitVec.ofNat 32 a) (BitVec.ofNat 32 b) = BitVec.ofNat 32 (min a b) := by
  unfold IntOp.minsi; rw [slt_ofNat32 ha hb]
  by_cases h : a < b
  · simp only [h, decide_true, if_true]; congr 1; omega
  · simp only [h, decide_false, Bool.false_eq_true, if_false]; congr 1; omega

theorem max_zero_word {a b : ℕ} (ha : a < 2 ^ 31) (hb : b < 2 ^ 31) :
    IntOp.maxsi (BitVec.ofNat 32 a - BitVec.ofNat 32 b) 0#32 = BitVec.ofNat 32 (a - b) := by
  unfold IntOp.maxsi
  rcases Nat.le_total b a with h | h
  · rw [ofNat32_sub h, show (0#32 : BitVec 32) = BitVec.ofNat 32 0 from rfl, slt_ofNat32 (by decide) (by omega)]
    by_cases h1 : 0 < a - b
    · simp only [h1, decide_true, if_true]
    · have : a - b = 0 := by omega
      simp [this]
  · have e : a - b = 0 := by omega
    rw [e, if_neg]
    simp only [BitVec.slt, BitVec.toInt_eq_toNat_bmod, BitVec.toNat_sub, BitVec.toNat_ofNat, decide_eq_true_eq, not_lt]
    rw [Nat.mod_eq_of_lt (show a < 2 ^ 32 by omega), Nat.mod_eq_of_lt (show b < 2 ^ 32 by omega)]
    simp only [Int.bmod]
    omega

section

variable {s : V8} {sz : ℕ → ℕ} (hs : ∀ i : Fin 8, s (ix1 i) = BitVec.ofNat 32 (sz i.val)) (hsum : pre sz 8 = 16384)

include hs hsum

theorem le_of_lt8 {i : ℕ} (hi : i < 8) : pre sz i + sz i ≤ 16384 := by
  rw [← Visits.pre_succ, ← hsum]; exact Visits.pre_mono sz (by omega)

theorem cum_at (i : Fin 8) : cum s (ix1 i) = BitVec.ofNat 32 (pre sz (i.val + 1)) := by
  unfold cum; rw [cumsum1 rfl s sz hs _ (bc0 _ _ _), pre_eq]

theorem startT_at (i : Fin 8) : startT s (ix1 i) = BitVec.ofNat 32 (pre sz i.val) := by
  unfold startT; rw [subi_ap, cum_at hs hsum, hs, sub_word (by rw [Visits.pre_succ]; omega), Visits.pre_succ]; congr 1; omega

theorem firstT_at (i : Fin 8) : firstT s (ix1 i) = BitVec.ofNat 32 (pre sz i.val / 512) := by
  have := le_of_lt8 hs hsum i.isLt
  exact pyDiv_ap b8 _ _ _ (startT_at hs hsum i) rfl (by omega) (by decide) (by decide)

theorem cntT_at (i : Fin 8) : cntT s (ix1 i) = BitVec.ofNat 32 (Visits.cnt sz i.val) := by
  have h := le_of_lt8 hs hsum i.isLt
  have hq : fdiv (subi (addi (cum s) (k8 512#32)) (k8 1#32)) (ix1 i) = BitVec.ofNat 32 ((pre sz (i.val + 1) + 511) / 512) := by
    refine pyDiv_ap b8 _ _ _ ?_ rfl (by rw [Visits.pre_succ]; omega) (by decide) (by decide)
    rw [subi_ap, addi_ap, cum_at hs hsum]
    show BitVec.ofNat 32 _ + BitVec.ofNat 32 512 - BitVec.ofNat 32 1 = _
    rw [← BitVec.ofNat_add, sub_word (by omega)]
    exact congrArg _ (by omega)
  unfold cntT cntW
  rw [select_at, cmpi_at, subi_ap, hq, firstT_at hs hsum, hs, sub_word (by rw [Visits.pre_succ]; omega)]
  show Scalar.select (IntOp.cmpi .sgt (BitVec.ofNat 32 _) (BitVec.ofNat 32 0)) _ (BitVec.ofNat 32 0) = _
  rw [cmpi_sgt_ofNat (by show _ < 2 ^ 31; omega) (by decide), select_decide]
  unfold Visits.cnt
  split <;> rfl

theorem cnt_sum : pre (Visits.cnt sz) 8 ≤ 39 := Visits.tot_le hsum

theorem vendT_at (i : Fin 8) : vendT s (ix1 i) = BitVec.ofNat 32 (pre (Visits.cnt sz) (i.val + 1)) := by
  unfold vendT cum; rw [cumsum1 rfl (cntT s) (Visits.cnt sz) (cntT_at hs hsum) _ (bc0 _ _ _), pre_eq]

theorem totW_at : totW (vendT s) ix0 = BitVec.ofNat 32 (Visits.tot sz) := by
  have : totW (vendT s) ix0 = vendT s (ix1 (7 : Fin 8)) := by
    unfold totW shapeCast extractStridedSlice
    refine congrArg (vendT s) (funext fun a => Fin.ext ?_)
    match a with
    | ⟨0, _⟩ => rfl
  rw [this, vendT_at hs hsum]; rfl

theorem visW_at (p : Fin 39) : visW (vendT s) (ix1 p) = BitVec.ofNat 32 (Visits.vis sz p.val) := by
  have h1 := Visits.tot_pos (sz := sz) (by omega)
  have h2 := Visits.tot_le hsum
  unfold visW
  show IntOp.minsi (BitVec.ofNat 32 p.val) (broadcastInDim (shape1 39) ![] b39 (subi (totW (vendT s)) (k0 1#32)) (ix1 p)) = _
  rw [bc0, subi_ap, totW_at hs hsum]
  show IntOp.minsi (BitVec.ofNat 32 p.val) (BitVec.ofNat 32 _ - BitVec.ofNat 32 1) = _
  rw [sub_word (by omega), min_word (by omega) (by omega)]; rfl

theorem grpT_at (p : Fin 39) : grpT s (ix1 p) = BitVec.ofNat 32 (Visits.grp sz p.val) := by
  have h2 := Visits.tot_le hsum
  have h3 := Visits.vis_lt (sz := sz) (by omega) p.val
  unfold grpT grpW
  show IntOp.minsi (Host.reduce IntOp.addi _ _ _ _ (ix1 p)) (BitVec.ofNat 32 7) = _
  rw [reduce_count (by decide) _ _ _ _ p (fun q => pre (Visits.cnt sz) (q + 1) ≤ Visits.vis sz p.val), min_word]
  · unfold Visits.grp Visits.below; rw [Nat.count_eq_card_filter_range]
  · exact Nat.lt_of_le_of_lt (Nat.count_le _) (by decide)
  · decide
  · intro q
    have h4 := Visits.pre_mono (Visits.cnt sz) (show q.val + 1 ≤ 8 by omega)
    have h5 := Visits.tot_le hsum
    unfold Visits.tot at h5
    rw [cmpi_at, bcRows, bcCols, visW_at hs hsum, vendT_at hs hsum,
      cmpi_sge_ofNat (by show _ < 2 ^ 31; omega) (by show _ < 2 ^ 31; omega), ofBool_decide_eq_one_iff]

theorem grp_lt (p : Fin 39) : Visits.grp sz p.val < 8 := (Visits.grp_spec (by omega) p.val).1

/-- A table of groups read at the entries' groups. -/
theorem pick_at (x : V8) (p : Fin 39) : pick x (grpT s) (ix1 p) = x (ix1 ⟨Visits.grp sz p.val, grp_lt hs hsum p⟩) := by
  have h := grp_lt hs hsum p
  unfold pick
  refine gather_take1 gd rfl rfl rfl rfl x _ p ⟨Visits.grp sz p.val, h⟩ ?_ (by decide)
  rw [bcCol, select_at, cmpi_at, grpT_at hs hsum]
  show Scalar.select (IntOp.cmpi .slt (BitVec.ofNat 32 _) (BitVec.ofNat 32 0)) _ _ = _
  rw [cmpi_slt_ofNat (by show _ < 2 ^ 31; omega) (by decide), select_decide, if_neg (by omega)]

theorem tileT_at (p : Fin 39) : tileT s (ix1 p) = BitVec.ofNat 32 (Visits.tile sz p.val) := by
  have h := Visits.grp_spec (sz := sz) (by omega) p.val
  unfold tileT tileW
  rw [subi_ap, addi_ap, ← show grpT s = grpW (vendT s) from rfl, pick_at hs hsum, pick_at hs hsum, firstT_at hs hsum, visW_at hs hsum, subi_ap,
    vendT_at hs hsum, cntT_at hs hsum, ← BitVec.ofNat_add, sub_word (by rw [Visits.pre_succ]; omega), Visits.pre_succ]
  rw [sub_word (by simp only; omega)]
  unfold Visits.tile; congr 1; simp only; omega

theorem tile_mul (p : Fin 39) : muli (tileT s) (k39 512#32) (ix1 p) = BitVec.ofNat 32 (512 * Visits.tile sz p.val) := by
  rw [muli_ap, tileT_at hs hsum]
  show BitVec.ofNat 32 _ * BitVec.ofNat 32 512 = _
  rw [← BitVec.ofNat_mul, Nat.mul_comm]

theorem loT_at (p : Fin 39) : loT s (ix1 p) = BitVec.ofNat 32 (Visits.lo sz p.val) := by
  have h := grp_lt hs hsum p
  have h1 := le_of_lt8 hs hsum h
  have h2 := Visits.tile_lt hsum p.val
  unfold loT loW
  show IntOp.maxsi (pick _ (grpT s) (ix1 p) - muli (tileT s) (k39 512#32) (ix1 p)) 0#32 = _
  rw [tile_mul hs hsum, pick_at hs hsum, startT_at hs hsum, max_zero_word (by simp only; omega) (by omega)]; rfl

theorem hiT_at (p : Fin 39) : hiT s (ix1 p) = BitVec.ofNat 32 (Visits.hi sz p.val) := by
  have h := grp_lt hs hsum p
  have h1 := le_of_lt8 hs hsum h
  have h2 := Visits.tile_lt hsum p.val
  have h3 := Visits.tile_spec (sz := sz) (by omega) p.val
  have h4 := Visits.tot_le hsum
  unfold hiT
  rw [select_at]
  unfold liveW endW
  show Scalar.select (IntOp.cmpi .slt (BitVec.ofNat 32 p.val) (broadcastInDim (shape1 39) ![] b39 (totW (vendT s)) (ix1 p)))
    (IntOp.minsi (pick _ (grpT s) (ix1 p) - muli (tileT s) (k39 512#32) (ix1 p)) (BitVec.ofNat 32 512)) (BitVec.ofNat 32 0) = _
  rw [bc0, totW_at hs hsum, cmpi_slt_ofNat (by show _ < 2 ^ 31; omega) (by show _ < 2 ^ 31; omega), select_decide,
    tile_mul hs hsum, pick_at hs hsum, cum_at hs hsum]
  rw [Visits.pre_succ] at h3
  rw [sub_word (by rw [Visits.pre_succ]; simp only; omega), min_word (by rw [Visits.pre_succ]; simp only; omega) (by decide)]
  unfold Visits.hi
  split <;> rfl

end

end Cert.Tables
-- ==== Proof.KernelTables.lean ====
/- The visit tables the kernel is handed are the tables of `TableWords`, computed from the group sizes; and with sizes that
   add up to the rows, every block a table names lies inside its array. -/
module

public import proofs.«01_k».proof.Proof.KernelKit
public import proofs.«01_k».proof.Proof.TableWords

@[expose] public section

set_option maxRecDepth 16384

noncomputable section

namespace Cert.Kernel.Body

open Cert.Kernel Cert.Kernel.Gen
open Idealize.ShloMosaic Idealize.ShloMosaic.TcCoe Idealize.ShloMosaic.Tactic

variable {F : FTy → Type} [BitOps F]

section Lines

variable (W : Valuation τ sig (Elt F))

theorem rd0_v0 : StableHlo.after (hostOps0 (F := F)) W main_v0 = (Tables.cum (W main_arg2)) := by
  after_reads_simp
  simp -implicitDefEqProofs only [StableHlo.TRef.toBuf, StableHlo.TRef.ofBuf, cast_cast, cast_eq]
  unfold Tables.cum
  rfl
theorem rd0_arg2 : StableHlo.after (hostOps0 (F := F)) W main_arg2 = W main_arg2 := by
  after_reads_simp
theorem rd1_v1 : StableHlo.after (hostOps0_1 (F := F)) W main_v1 = (subi (W main_v0) (W main_arg2)) := by
  after_reads_simp
  all_goals rfl
theorem rd1_c : StableHlo.after (hostOps0_1 (F := F)) W main_c = (Tables.k0 512#32) := by
  after_reads_simp
  all_goals rfl
theorem rd1_v0 : StableHlo.after (hostOps0_1 (F := F)) W main_v0 = W main_v0 := by
  after_reads_simp
theorem rd1_arg2 : StableHlo.after (hostOps0_1 (F := F)) W main_arg2 = W main_arg2 := by
  after_reads_simp
theorem rd2_v2 : StableHlo.after (hostOps0_2 (F := F)) W main_v2 = (Routing.pyDiv Tables.b8 (W main_v1) (W main_c)) := by
  after_reads_simp
  all_goals rfl
theorem rd2_v0 : StableHlo.after (hostOps0_2 (F := F)) W main_v0 = W main_v0 := by
  after_reads_simp
theorem rd2_v1 : StableHlo.after (hostOps0_2 (F := F)) W main_v1 = W main_v1 := by
  after_reads_simp
theorem rd2_arg2 : StableHlo.after (hostOps0_2 (F := F)) W main_arg2 = W main_arg2 := by
  after_reads_simp
theorem rd3_v4 : StableHlo.after (hostOps0_3 (F := F)) W main_v4 = (cmpi .sgt (W main_arg2) (Tables.k8 0#32)) := by
  after_reads_simp
  all_goals rfl
theorem rd3_v8 : StableHlo.after (hostOps0_3 (F := F)) W main_v8 = (subi (addi (W main_v0) (Tables.k8 512#32)) (Tables.k8 1#32)) := by
  after_reads_simp
  all_goals rfl
theorem rd3_c_3 : StableHlo.after (hostOps0_3 (F := F)) W main_c_3 = (Tables.k0 512#32) := by
  after_reads_simp
  all_goals rfl
theorem rd3_v0 : StableHlo.after (hostOps0_3 (F := F)) W main_v0 = W main_v0 := by
  after_reads_simp
theorem rd3_v1 : StableHlo.after (hostOps0_3 (F := F)) W main_v1 = W main_v1 := by
  after_reads_simp
theorem rd3_v2 : StableHlo.after (hostOps0_3 (F := F)) W main_v2 = W main_v2 := by
  after_reads_simp
theorem rd4_v9 : StableHlo.after (hostOps0_4 (F := F)) W main_v9 = (Routing.pyDiv Tables.b8 (W main_v8) (W main_c_3)) := by
  after_reads_simp
  all_goals rfl
theorem rd4_v0 : StableHlo.after (hostOps0_4 (F := F)) W main_v0 = W main_v0 := by
  after_reads_simp
theorem rd4_v1 : StableHlo.after (hostOps0_4 (F := F)) W main_v1 = W main_v1 := by
  after_reads_simp
theorem rd4_v2 : StableHlo.after (hostOps0_4 (F := F)) W main_v2 = W main_v2 := by
  after_reads_simp
theorem rd4_v4 : StableHlo.after (hostOps0_4 (F := F)) W main_v4 = W main_v4 := by
  after_reads_simp
theorem rd5_v10 : StableHlo.after (hostOps0_5 (F := F)) W main_v10 = (subi (W main_v9) (W main_v2)) := by
  after_reads_simp
  all_goals rfl
theorem rd5_c_4 : StableHlo.after (hostOps0_5 (F := F)) W main_c_4 = (Tables.k0 0#32) := by
  after_reads_simp
  all_goals rfl
theorem rd5_v0 : StableHlo.after (hostOps0_5 (F := F)) W main_v0 = W main_v0 := by
  after_reads_simp
theorem rd5_v1 : StableHlo.after (hostOps0_5 (F := F)) W main_v1 = W main_v1 := by
  after_reads_simp
theorem rd5_v2 : StableHlo.after (hostOps0_5 (F := F)) W main_v2 = W main_v2 := by
  after_reads_simp
theorem rd5_v4 : StableHlo.after (hostOps0_5 (F := F)) W main_v4 = W main_v4 := by
  after_reads_simp
theorem rd6_v11 : StableHlo.after (hostOps0_6 (F := F)) W main_v11 = (select (W main_v4) (W main_v10) (broadcastInDim (Routing.shape1 8) ![] Tables.b8 (W main_c_4))) := by
  after_reads_simp
  all_goals rfl
theorem rd6_v0 : StableHlo.after (hostOps0_6 (F := F)) W main_v0 = W main_v0 := by
  after_reads_simp
theorem rd6_v1 : StableHlo.after (hostOps0_6 (F := F)) W main_v1 = W main_v1 := by
  after_reads_simp
theorem rd6_v2 : StableHlo.after (hostOps0_6 (F := F)) W main_v2 = W main_v2 := by
  after_reads_simp
theorem rd7_v12 : StableHlo.after (hostOps0_7 (F := F)) W main_v12 = (Tables.cum (W main_v11)) := by
  after_reads_simp
  simp -implicitDefEqProofs only [StableHlo.TRef.toBuf, StableHlo.TRef.ofBuf, cast_cast, cast_eq]
  unfold Tables.cum
  rfl
theorem rd7_v0 : StableHlo.after (hostOps0_7 (F := F)) W main_v0 = W main_v0 := by
  after_reads_simp
theorem rd7_v1 : StableHlo.after (hostOps0_7 (F := F)) W main_v1 = W main_v1 := by
  after_reads_simp
theorem rd7_v2 : StableHlo.after (hostOps0_7 (F := F)) W main_v2 = W main_v2 := by
  after_reads_simp
theorem rd7_v11 : StableHlo.after (hostOps0_7 (F := F)) W main_v11 = W main_v11 := by
  after_reads_simp
theorem rd8_v27 : StableHlo.after (hostOps0_8 (F := F)) W main_v27 = (Tables.grpW (W main_v12)) := by
  after_reads_simp
  all_goals rfl
theorem rd8_v44 : StableHlo.after (hostOps0_8 (F := F)) W main_v44 = (Tables.tileW (W main_v2) (W main_v11) (W main_v12)) := by
  after_reads_simp
  all_goals rfl
theorem rd8_v56 : StableHlo.after (hostOps0_8 (F := F)) W main_v56 = (Tables.loW (W main_v1) (W main_v2) (W main_v11) (W main_v12)) := by
  after_reads_simp
  all_goals rfl
theorem rd8_v68 : StableHlo.after (hostOps0_8 (F := F)) W main_v68 = (Tables.endW (W main_v0) (W main_v2) (W main_v11) (W main_v12)) := by
  after_reads_simp
  all_goals rfl
theorem rd8_v70 : StableHlo.after (hostOps0_8 (F := F)) W main_v70 = (Tables.liveW (W main_v12)) := by
  after_reads_simp
  all_goals rfl
theorem rd8_c_20 : StableHlo.after (hostOps0_8 (F := F)) W main_c_20 = (Tables.k0 0#32) := by
  after_reads_simp
  all_goals rfl
theorem rd9_v71 : StableHlo.after (hostOps0_9 (F := F)) W main_v71 = (select (W main_v70) (W main_v68) (broadcastInDim (Routing.shape1 39) ![] Tables.b39 (W main_c_20))) := by
  after_reads_simp
  all_goals rfl
theorem rd9_v27 : StableHlo.after (hostOps0_9 (F := F)) W main_v27 = W main_v27 := by
  after_reads_simp
theorem rd9_v44 : StableHlo.after (hostOps0_9 (F := F)) W main_v44 = W main_v44 := by
  after_reads_simp
theorem rd9_v56 : StableHlo.after (hostOps0_9 (F := F)) W main_v56 = W main_v56 := by
  after_reads_simp
theorem rd10_v73 : StableHlo.after (hostOps0_10 (F := F)) W main_v73 = (maxsi (W main_v56) (Tables.k39 0#32)) := by
  after_reads_simp
  all_goals rfl
theorem rd10_v27 : StableHlo.after (hostOps0_10 (F := F)) W main_v27 = W main_v27 := by
  after_reads_simp
theorem rd10_v44 : StableHlo.after (hostOps0_10 (F := F)) W main_v44 = W main_v44 := by
  after_reads_simp
theorem rd10_v56 : StableHlo.after (hostOps0_10 (F := F)) W main_v56 = W main_v56 := by
  after_reads_simp
theorem rd10_v71 : StableHlo.after (hostOps0_10 (F := F)) W main_v71 = W main_v71 := by
  after_reads_simp

end Lines

variable (m : (ℓ : Loc nD τ sig) → Buf (Elt F) ℓ)

/-- The lines as one after the other. -/
theorem V_steps (c : Dev nD) (b : Ref sig .tc) : V m c b =
    StableHlo.after hostOps0_10 (StableHlo.after hostOps0_9 (StableHlo.after hostOps0_8 (StableHlo.after hostOps0_7
      (StableHlo.after hostOps0_6 (StableHlo.after hostOps0_5 (StableHlo.after hostOps0_4 (StableHlo.after hostOps0_3
        (StableHlo.after hostOps0_2 (StableHlo.after hostOps0_1 (StableHlo.after hostOps0 (fun b => m (c, b))))))))))))
      (Proc.tc.devRef b) := by
  unfold V
  simp only [hostLines, List.flatten_cons, List.flatten_nil, List.append_nil, StableHlo.after_append]

/-- The table of groups. -/
theorem V_v27 (c : Dev nD) : V m c main_v27 = Tables.grpT (V m c main_arg2) := by
  rw [V_main_arg2, V_steps]
  rw [rd10_v27, rd9_v27, rd8_v27, rd7_v12, rd6_v11, rd5_c_4, rd5_v10, rd5_v4, rd4_v2, rd4_v4, rd4_v9, rd3_c_3, rd3_v2, rd3_v4, rd3_v8, rd2_arg2, rd2_v0, rd2_v2, rd1_arg2, rd1_c, rd1_v0, rd1_v1, rd0_arg2, rd0_v0]
  rfl
/-- The table of tiles. -/
theorem V_v44 (c : Dev nD) : V m c main_v44 = Tables.tileT (V m c main_arg2) := by
  rw [V_main_arg2, V_steps]
  rw [rd10_v44, rd9_v44, rd8_v44, rd7_v11, rd7_v12, rd7_v2, rd6_v11, rd6_v2, rd5_c_4, rd5_v10, rd5_v2, rd5_v4, rd4_v2, rd4_v4, rd4_v9, rd3_c_3, rd3_v2, rd3_v4, rd3_v8, rd2_arg2, rd2_v0, rd2_v2, rd1_arg2, rd1_c, rd1_v0, rd1_v1, rd0_arg2, rd0_v0]
  rfl
/-- The table of first rows. -/
theorem V_v56 (c : Dev nD) : V m c main_v56 = Tables.loT (V m c main_arg2) := by
  rw [V_main_arg2, V_steps]
  rw [rd10_v56, rd9_v56, rd8_v56, rd7_v1, rd7_v11, rd7_v12, rd7_v2, rd6_v1, rd6_v11, rd6_v2, rd5_c_4, rd5_v1, rd5_v10, rd5_v2, rd5_v4, rd4_v1, rd4_v2, rd4_v4, rd4_v9, rd3_c_3, rd3_v1, rd3_v2, rd3_v4, rd3_v8, rd2_arg2, rd2_v0, rd2_v1, rd2_v2, rd1_arg2, rd1_c, rd1_v0, rd1_v1, rd0_arg2, rd0_v0]
  rfl
/-- The table of last rows. -/
theorem V_v71 (c : Dev nD) : V m c main_v71 = Tables.hiT (V m c main_arg2) := by
  rw [V_main_arg2, V_steps]
  rw [rd10_v71, rd9_v71, rd8_c_20, rd8_v68, rd8_v70, rd7_v0, rd7_v11, rd7_v12, rd7_v2, rd6_v0, rd6_v11, rd6_v2, rd5_c_4, rd5_v0, rd5_v10, rd5_v2, rd5_v4, rd4_v0, rd4_v2, rd4_v4, rd4_v9, rd3_c_3, rd3_v0, rd3_v2, rd3_v4, rd3_v8, rd2_arg2, rd2_v0, rd2_v2, rd1_arg2, rd1_c, rd1_v0, rd1_v1, rd0_arg2, rd0_v0]
  rfl
/-- The fifth table. -/
theorem V_v73 (c : Dev nD) : V m c main_v73 = Tables.lo0T (V m c main_arg2) := by
  rw [V_main_arg2, V_steps]
  rw [rd10_v73, rd9_v56, rd8_v56, rd7_v1, rd7_v11, rd7_v12, rd7_v2, rd6_v1, rd6_v11, rd6_v2, rd5_c_4, rd5_v1, rd5_v10, rd5_v2, rd5_v4, rd4_v1, rd4_v2, rd4_v4, rd4_v9, rd3_c_3, rd3_v1, rd3_v2, rd3_v4, rd3_v8, rd2_arg2, rd2_v0, rd2_v1, rd2_v2, rd1_arg2, rd1_c, rd1_v0, rd1_v1, rd0_arg2, rd0_v0]
  rfl

end Cert.Kernel.Body
-- ==== Proof.Sizes.lean ====
/- What the precondition says of the eight group sizes: read as natural numbers they add up to 16384. -/
module

public import proofs.«01_k».proof.Proof.TableWords
public import proofs.«01_k».proof.Proof.Gen.Pre_sizes_sum_to_rows

@[expose] public section

noncomputable section

namespace Cert.Sizes

open Idealize.ShloMosaic Idealize.ShloMosaic.ValueIdx Idealize.ShloMosaic.Routing Idealize.ShloMosaic.WordCmp
open Cert.Visits (pre)

/-- The group sizes as natural numbers; groups past the eighth have none. -/
def szOf (s : Tables.V8) (j : ℕ) : ℕ := if h : j < 8 then (s (ix1 ⟨j, h⟩)).toNat else 0

theorem szOf_at (s : Tables.V8) (i : Fin 8) : s (ix1 i) = BitVec.ofNat 32 (szOf s i.val) := by
  unfold szOf
  rw [dif_pos i.isLt]
  exact BitVec.eq_of_toNat_eq (by rw [BitVec.toNat_ofNat]; exact (Nat.mod_eq_of_lt (s (ix1 i)).isLt).symm)

theorem pre_range (f : ℕ → ℕ) (n : ℕ) : ((List.range n).map f).sum = pre f n := by
  induction n with
  | zero => rfl
  | succ n ih => rw [List.range_succ, List.map_append, List.sum_append, ih, Visits.pre_succ]; simp

theorem pre_le (f : ℕ → ℕ) (B : ℕ) (h : ∀ j, f j ≤ B) (n : ℕ) : pre f n ≤ n * B := by
  induction n with
  | zero => rw [Visits.pre_zero]; exact Nat.zero_le _
  | succ n ih => rw [Visits.pre_succ, Nat.succ_mul]; exact Nat.add_le_add ih (h n)

/-- The three conditions, as the program states them, give the sum without wrapping. -/
theorem sum_eq (s : Tables.V8) (h1 : cmpi .sge s (Tables.k8 0#32) = fun _ => 1#1) (h2 : cmpi .sle s (Tables.k8 16384#32) = fun _ => 1#1)
    (hr : (shape1 8).ReducesTo [0] shape0) (hu : 0 < shape0.numel)
    (h3 : cmpi .eq (Host.reduce IntOp.addi s (constantI shape0 32 0#32) hr hu) (constantI shape0 32 16384#32) = fun _ => 1#1) :
    pre (szOf s) 8 = 16384 := by
  have hB : ∀ j, szOf s j ≤ 16384 := by
    intro j
    unfold szOf
    split
    · rename_i h
      have e1 : IntOp.cmpi .sge (s (ix1 ⟨j, h⟩)) 0#32 = 1#1 := congrFun h1 (ix1 ⟨j, h⟩)
      have e2 : IntOp.cmpi .sle (s (ix1 ⟨j, h⟩)) 16384#32 = 1#1 := congrFun h2 (ix1 ⟨j, h⟩)
      rw [cmpi_sge_eq] at e1
      rw [cmpi_sle_eq] at e2
      have f1 : (0#32).toInt ≤ (s (ix1 ⟨j, h⟩)).toInt := by
        by_contra hc; rw [decide_eq_false hc] at e1; exact absurd e1 (by decide)
      have f2 : (s (ix1 ⟨j, h⟩)).toInt ≤ (16384#32).toInt := by
        by_contra hc; rw [decide_eq_false hc] at e2; exact absurd e2 (by decide)
      have g1 : (0#32).toInt = 0 := by decide
      have g2 : (16384#32).toInt = 16384 := by decide
      rw [g1] at f1
      rw [g2] at f2
      rw [BitVec.toInt_eq_toNat_cond] at f1 f2
      split at f1 <;> omega
    · exact Nat.zero_le _
  have e3 : IntOp.cmpi .eq (Host.reduce IntOp.addi s (constantI shape0 32 0#32) hr hu ix0) 16384#32 = 1#1 := congrFun h3 ix0
  rw [reduce_sum s (szOf s) (szOf_at s), pre_range, cmpi_eq_eq] at e3
  have f3 : BitVec.ofNat 32 (pre (szOf s) 8) = 16384#32 := by
    by_contra hc; rw [decide_eq_false hc] at e3; exact absurd e3 (by decide)
  have f4 := congrArg BitVec.toNat f3
  have hle := pre_le (szOf s) 16384 hB 8
  rw [BitVec.toNat_ofNat, BitVec.toNat_ofNat] at f4
  omega

section
variable {F : FTy → Type} [FloatOps F]
open Cert.Pre_sizes_sum_to_rows

/-- The precondition of a program's arguments gives the sum. -/
theorem sum_of_pre (a0 : FVec F S16384x5120 .fp8e4m3) (a1 : FVec F S16384x40 .f32) (s : IVec S8 32) (a3 : FVec F S8x5120x8192 .fp8e4m3) (a4 : FVec F S8x40x64 .f32)
    (a5 : FVec F S8x5120x8192 .fp8e4m3) (a6 : FVec F S8x40x64 .f32) (a7 a8 : FVec F S8x8192 .f32)
    (h : (fn (F := F) a0 a1 s a3 a4 a5 a6 a7 a8).1 = (fun _ => 1#1) ∧ (fn (F := F) a0 a1 s a3 a4 a5 a6 a7 a8).2.1 = (fun _ => 1#1)
      ∧ (fn (F := F) a0 a1 s a3 a4 a5 a6 a7 a8).2.2 = (fun _ => 1#1)) : pre (szOf s) 8 = 16384 :=
  sum_eq s h.1 h.2.1 _ _ h.2.2

end

end Cert.Sizes
-- ==== Proof.KernelOk.lean ====
/- The tables hold block numbers inside the arrays, so every transfer of `Kernel` is in bounds; and the block each
   window shows at a grid point, as numbers. -/
module

public import proofs.«01_k».proof.Proof.KernelKit
public import proofs.«01_k».proof.Proof.KernelTables
public import proofs.«01_k».proof.Proof.Sizes
public import Idealize.ShloMosaic.Lib.Affine

@[expose] public section

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx

variable {F : FTy → Type} [BitOps F]
variable (m : (ℓ : Loc nD τ sig) → Buf (Elt F) ℓ)

/-- The group sizes the program is given. -/
abbrev szs : ℕ → ℕ := Sizes.szOf (V m 0 main_arg2)

/-- The visit of a grid point. -/
abbrev vOf (i : grid0.Coords) : ℕ := (i 1).val

theorem off_eq (i : grid0.Coords) (a : Fin 1) : ((Rect.unit (s := S39) (k0_off1 i) S1.size (k0_off1_inb i)).emb (Shape.Idx.first (numel1_S1.symm ▸ Nat.one_pos)) a).val = (i 1).val := by
  have h : ∀ a, k0_off1 i a = (i 1).val := by
    intro a
    have hi : (i 1).val < 39 := (i 1).isLt
    have ha : a = 0 := Subsingleton.elim _ _
    subst ha
    show (Scalar.indexCast (BitVec.ofNat 32 (i 1).val)).toNat = (i 1).val
    exact Affine.nat_eq (Affine.indexCast (Affine.ofNat _ (by omega) : Affine.IsInt _ ((i 1).val : Int))) _ rfl
  have ha : a = 0 := Subsingleton.elim _ _
  subst ha
  have h1 : ((Shape.Idx.first (numel1_S1.symm ▸ Nat.one_pos) : S1.Idx) 0).val < 1 := ((Shape.Idx.first (numel1_S1.symm ▸ Nat.one_pos) : S1.Idx) 0).isLt
  show k0_off1 i 0 + 1 * ((Shape.Idx.first (numel1_S1.symm ▸ Nat.one_pos) : S1.Idx) 0).val = _
  rw [h]
  omega

theorem emb_eq (i : grid0.Coords) : (Rect.unit (s := S39) (k0_off1 i) S1.size (k0_off1_inb i)).emb (Shape.Idx.first (numel1_S1.symm ▸ Nat.one_pos)) = ix1 (n := 39) (i 1) := by
  funext a
  have ha : a = 0 := Subsingleton.elim _ _
  subst ha
  exact Fin.ext (off_eq i 0)

theorem tr_0_of (pf : pre0.Contents (Elt F)) (i : grid0.Coords) (g : ℕ)
    (h : (pf.at 1 (Rect.unit (s := S39) (k0_off1 i) S1.size (k0_off1_inb i)) numel1_S1).toNat = g) :
    cc0_transform_0 k0_off1_inb numel1_S1 pf i = ![g, 0] := by
  subst h
  have h0 : (BitVec.ofNat 32 (i 0).val).toNat = (i 0).val := by
    rw [BitVec.toNat_ofNat]; exact Nat.mod_eq_of_lt (by have h : (i 0).val < 32 := (i 0).isLt; omega)
  show ![(pf.at 1 (Rect.unit (s := S39) (k0_off1 i) S1.size (k0_off1_inb i)) numel1_S1).toNat, (0#32).toNat] = _
  rfl

theorem tr_1_of (pf : pre0.Contents (Elt F)) (i : grid0.Coords) (g : ℕ)
    (h : (pf.at 1 (Rect.unit (s := S39) (k0_off1 i) S1.size (k0_off1_inb i)) numel1_S1).toNat = g) :
    cc0_transform_1 k0_off1_inb numel1_S1 pf i = ![g, 0] := by
  subst h
  have h0 : (BitVec.ofNat 32 (i 0).val).toNat = (i 0).val := by
    rw [BitVec.toNat_ofNat]; exact Nat.mod_eq_of_lt (by have h : (i 0).val < 32 := (i 0).isLt; omega)
  show ![(pf.at 1 (Rect.unit (s := S39) (k0_off1 i) S1.size (k0_off1_inb i)) numel1_S1).toNat, (0#32).toNat] = _
  rfl

theorem tr_2_of (pf : pre0.Contents (Elt F)) (i : grid0.Coords) (g : ℕ)
    (h : (pf.at 0 (Rect.unit (s := S39) (k0_off1 i) S1.size (k0_off1_inb i)) numel1_S1).toNat = g) :
    cc0_transform_2 k0_off1_inb numel1_S1 pf i = ![g, 0, (i 0).val] := by
  subst h
  have h0 : (BitVec.ofNat 32 (i 0).val).toNat = (i 0).val := by
    rw [BitVec.toNat_ofNat]; exact Nat.mod_eq_of_lt (by have h : (i 0).val < 32 := (i 0).isLt; omega)
  show ![(pf.at 0 (Rect.unit (s := S39) (k0_off1 i) S1.size (k0_off1_inb i)) numel1_S1).toNat, (0#32).toNat, (BitVec.ofNat 32 (i 0).val).toNat] = _
  rw [h0]; rfl

theorem tr_3_of (pf : pre0.Contents (Elt F)) (i : grid0.Coords) (g : ℕ)
    (h : (pf.at 0 (Rect.unit (s := S39) (k0_off1 i) S1.size (k0_off1_inb i)) numel1_S1).toNat = g) :
    cc0_transform_3 k0_off1_inb numel1_S1 pf i = ![g, 0, 0] := by
  subst h
  have h0 : (BitVec.ofNat 32 (i 0).val).toNat = (i 0).val := by
    rw [BitVec.toNat_ofNat]; exact Nat.mod_eq_of_lt (by have h : (i 0).val < 32 := (i 0).isLt; omega)
  show ![(pf.at 0 (Rect.unit (s := S39) (k0_off1 i) S1.size (k0_off1_inb i)) numel1_S1).toNat, (0#32).toNat, (0#32).toNat] = _
  rfl

theorem tr_4_of (pf : pre0.Contents (Elt F)) (i : grid0.Coords) (g : ℕ)
    (h : (pf.at 0 (Rect.unit (s := S39) (k0_off1 i) S1.size (k0_off1_inb i)) numel1_S1).toNat = g) :
    cc0_transform_4 k0_off1_inb numel1_S1 pf i = ![g, 0, (i 0).val] := by
  subst h
  have h0 : (BitVec.ofNat 32 (i 0).val).toNat = (i 0).val := by
    rw [BitVec.toNat_ofNat]; exact Nat.mod_eq_of_lt (by have h : (i 0).val < 32 := (i 0).isLt; omega)
  show ![(pf.at 0 (Rect.unit (s := S39) (k0_off1 i) S1.size (k0_off1_inb i)) numel1_S1).toNat, (0#32).toNat, (BitVec.ofNat 32 (i 0).val).toNat] = _
  rw [h0]; rfl

theorem tr_5_of (pf : pre0.Contents (Elt F)) (i : grid0.Coords) (g : ℕ)
    (h : (pf.at 0 (Rect.unit (s := S39) (k0_off1 i) S1.size (k0_off1_inb i)) numel1_S1).toNat = g) :
    cc0_transform_5 k0_off1_inb numel1_S1 pf i = ![g, 0, 0] := by
  subst h
  have h0 : (BitVec.ofNat 32 (i 0).val).toNat = (i 0).val := by
    rw [BitVec.toNat_ofNat]; exact Nat.mod_eq_of_lt (by have h : (i 0).val < 32 := (i 0).isLt; omega)
  show ![(pf.at 0 (Rect.unit (s := S39) (k0_off1 i) S1.size (k0_off1_inb i)) numel1_S1).toNat, (0#32).toNat, (0#32).toNat] = _
  rfl

theorem tr_6_of (pf : pre0.Contents (Elt F)) (i : grid0.Coords) (g : ℕ)
    (h : (pf.at 0 (Rect.unit (s := S39) (k0_off1 i) S1.size (k0_off1_inb i)) numel1_S1).toNat = g) :
    cc0_transform_6 k0_off1_inb numel1_S1 pf i = ![g, 0, (i 0).val] := by
  subst h
  have h0 : (BitVec.ofNat 32 (i 0).val).toNat = (i 0).val := by
    rw [BitVec.toNat_ofNat]; exact Nat.mod_eq_of_lt (by have h : (i 0).val < 32 := (i 0).isLt; omega)
  show ![(pf.at 0 (Rect.unit (s := S39) (k0_off1 i) S1.size (k0_off1_inb i)) numel1_S1).toNat, (0#32).toNat, (BitVec.ofNat 32 (i 0).val).toNat] = _
  rw [h0]; rfl

theorem tr_7_of (pf : pre0.Contents (Elt F)) (i : grid0.Coords) (g : ℕ)
    (h : (pf.at 0 (Rect.unit (s := S39) (k0_off1 i) S1.size (k0_off1_inb i)) numel1_S1).toNat = g) :
    cc0_transform_7 k0_off1_inb numel1_S1 pf i = ![g, 0, (i 0).val] := by
  subst h
  have h0 : (BitVec.ofNat 32 (i 0).val).toNat = (i 0).val := by
    rw [BitVec.toNat_ofNat]; exact Nat.mod_eq_of_lt (by have h : (i 0).val < 32 := (i 0).isLt; omega)
  show ![(pf.at 0 (Rect.unit (s := S39) (k0_off1 i) S1.size (k0_off1_inb i)) numel1_S1).toNat, (0#32).toNat, (BitVec.ofNat 32 (i 0).val).toNat] = _
  rw [h0]; rfl

theorem tr_8_of (pf : pre0.Contents (Elt F)) (i : grid0.Coords) (g : ℕ)
    (h : (pf.at 1 (Rect.unit (s := S39) (k0_off1 i) S1.size (k0_off1_inb i)) numel1_S1).toNat = g) :
    cc0_transform_8 k0_off1_inb numel1_S1 pf i = ![g, (i 0).val] := by
  subst h
  have h0 : (BitVec.ofNat 32 (i 0).val).toNat = (i 0).val := by
    rw [BitVec.toNat_ofNat]; exact Nat.mod_eq_of_lt (by have h : (i 0).val < 32 := (i 0).isLt; omega)
  show ![(pf.at 1 (Rect.unit (s := S39) (k0_off1 i) S1.size (k0_off1_inb i)) numel1_S1).toNat, (BitVec.ofNat 32 (i 0).val).toNat] = _
  rw [h0]

theorem tr_9_of (pf : pre0.Contents (Elt F)) (i : grid0.Coords) (g : ℕ)
    (h : (pf.at 1 (Rect.unit (s := S39) (k0_off1 i) S1.size (k0_off1_inb i)) numel1_S1).toNat = g) :
    cc0_transform_9 k0_off1_inb numel1_S1 pf i = ![(i 0).val, g, 0] := by
  subst h
  have h0 : (BitVec.ofNat 32 (i 0).val).toNat = (i 0).val := by
    rw [BitVec.toNat_ofNat]; exact Nat.mod_eq_of_lt (by have h : (i 0).val < 32 := (i 0).isLt; omega)
  show ![(BitVec.ofNat 32 (i 0).val).toNat, (pf.at 1 (Rect.unit (s := S39) (k0_off1 i) S1.size (k0_off1_inb i)) numel1_S1).toNat, (0#32).toNat] = _
  rw [h0]; rfl
section
variable (hs : Visits.pre (szs m) 8 = 16384)
include hs

theorem tbl_grp (i : grid0.Coords) : (tbl m).at 0 (Rect.unit (s := S39) (k0_off1 i) S1.size (k0_off1_inb i)) numel1_S1 = BitVec.ofNat 32 (Visits.grp (szs m) (vOf i)) := by
  have h : tbl m 0 = Tables.grpT (V m 0 main_arg2) := V_v27 m 0
  exact (congrFun h _).trans ((congrArg (Tables.grpT (V m 0 main_arg2)) (emb_eq i)).trans (Tables.grpT_at (Sizes.szOf_at _) hs (i 1)))

theorem tbl_tile (i : grid0.Coords) : (tbl m).at 1 (Rect.unit (s := S39) (k0_off1 i) S1.size (k0_off1_inb i)) numel1_S1 = BitVec.ofNat 32 (Visits.tile (szs m) (vOf i)) := by
  have h : tbl m 1 = Tables.tileT (V m 0 main_arg2) := V_v44 m 0
  exact (congrFun h _).trans ((congrArg (Tables.tileT (V m 0 main_arg2)) (emb_eq i)).trans (Tables.tileT_at (Sizes.szOf_at _) hs (i 1)))

theorem tbl_lo (i : grid0.Coords) : (tbl m).at 2 (Rect.unit (s := S39) (k0_off1 i) S1.size (k0_off1_inb i)) numel1_S1 = BitVec.ofNat 32 (Visits.lo (szs m) (vOf i)) := by
  have h : tbl m 2 = Tables.loT (V m 0 main_arg2) := V_v56 m 0
  exact (congrFun h _).trans ((congrArg (Tables.loT (V m 0 main_arg2)) (emb_eq i)).trans (Tables.loT_at (Sizes.szOf_at _) hs (i 1)))

theorem tbl_hi (i : grid0.Coords) : (tbl m).at 3 (Rect.unit (s := S39) (k0_off1 i) S1.size (k0_off1_inb i)) numel1_S1 = BitVec.ofNat 32 (Visits.hi (szs m) (vOf i)) := by
  have h : tbl m 3 = Tables.hiT (V m 0 main_arg2) := V_v71 m 0
  exact (congrFun h _).trans ((congrArg (Tables.hiT (V m 0 main_arg2)) (emb_eq i)).trans (Tables.hiT_at (Sizes.szOf_at _) hs (i 1)))

theorem grp8 (i : grid0.Coords) : Visits.grp (szs m) (vOf i) < 8 := (Visits.grp_spec (by omega) _).1
theorem tile32 (i : grid0.Coords) : Visits.tile (szs m) (vOf i) < 32 := Visits.tile_lt hs _

/-- The block window 0 shows. -/
theorem tr_0 (i : grid0.Coords) : cc0_transform_0 k0_off1_inb numel1_S1 (tbl m) i = ![Visits.tile (szs m) (vOf i), 0] := by
  refine tr_0_of (tbl m) i _ ?_
  rw [tbl_tile m hs i, BitVec.toNat_ofNat]
  exact Nat.mod_eq_of_lt (by have := tile32 m hs i; omega)

/-- The block window 1 shows. -/
theorem tr_1 (i : grid0.Coords) : cc0_transform_1 k0_off1_inb numel1_S1 (tbl m) i = ![Visits.tile (szs m) (vOf i), 0] := by
  refine tr_1_of (tbl m) i _ ?_
  rw [tbl_tile m hs i, BitVec.toNat_ofNat]
  exact Nat.mod_eq_of_lt (by have := tile32 m hs i; omega)

/-- The block window 2 shows. -/
theorem tr_2 (i : grid0.Coords) : cc0_transform_2 k0_off1_inb numel1_S1 (tbl m) i = ![Visits.grp (szs m) (vOf i), 0, (i 0).val] := by
  refine tr_2_of (tbl m) i _ ?_
  rw [tbl_grp m hs i, BitVec.toNat_ofNat]
  exact Nat.mod_eq_of_lt (by have := grp8 m hs i; omega)

/-- The block window 3 shows. -/
theorem tr_3 (i : grid0.Coords) : cc0_transform_3 k0_off1_inb numel1_S1 (tbl m) i = ![Visits.grp (szs m) (vOf i), 0, 0] := by
  refine tr_3_of (tbl m) i _ ?_
  rw [tbl_grp m hs i, BitVec.toNat_ofNat]
  exact Nat.mod_eq_of_lt (by have := grp8 m hs i; omega)

/-- The block window 4 shows. -/
theorem tr_4 (i : grid0.Coords) : cc0_transform_4 k0_off1_inb numel1_S1 (tbl m) i = ![Visits.grp (szs m) (vOf i), 0, (i 0).val] := by
  refine tr_4_of (tbl m) i _ ?_
  rw [tbl_grp m hs i, BitVec.toNat_ofNat]
  exact Nat.mod_eq_of_lt (by have := grp8 m hs i; omega)

/-- The block window 5 shows. -/
theorem tr_5 (i : grid0.Coords) : cc0_transform_5 k0_off1_inb numel1_S1 (tbl m) i = ![Visits.grp (szs m) (vOf i), 0, 0] := by
  refine tr_5_of (tbl m) i _ ?_
  rw [tbl_grp m hs i, BitVec.toNat_ofNat]
  exact Nat.mod_eq_of_lt (by have := grp8 m hs i; omega)

/-- The block window 6 shows. -/
theorem tr_6 (i : grid0.Coords) : cc0_transform_6 k0_off1_inb numel1_S1 (tbl m) i = ![Visits.grp (szs m) (vOf i), 0, (i 0).val] := by
  refine tr_6_of (tbl m) i _ ?_
  rw [tbl_grp m hs i, BitVec.toNat_ofNat]
  exact Nat.mod_eq_of_lt (by have := grp8 m hs i; omega)

/-- The block window 7 shows. -/
theorem tr_7 (i : grid0.Coords) : cc0_transform_7 k0_off1_inb numel1_S1 (tbl m) i = ![Visits.grp (szs m) (vOf i), 0, (i 0).val] := by
  refine tr_7_of (tbl m) i _ ?_
  rw [tbl_grp m hs i, BitVec.toNat_ofNat]
  exact Nat.mod_eq_of_lt (by have := grp8 m hs i; omega)

/-- The block window 8 shows. -/
theorem tr_8 (i : grid0.Coords) : cc0_transform_8 k0_off1_inb numel1_S1 (tbl m) i = ![Visits.tile (szs m) (vOf i), (i 0).val] := by
  refine tr_8_of (tbl m) i _ ?_
  rw [tbl_tile m hs i, BitVec.toNat_ofNat]
  exact Nat.mod_eq_of_lt (by have := tile32 m hs i; omega)

/-- The block window 9 shows. -/
theorem tr_9 (i : grid0.Coords) : cc0_transform_9 k0_off1_inb numel1_S1 (tbl m) i = ![(i 0).val, Visits.tile (szs m) (vOf i), 0] := by
  refine tr_9_of (tbl m) i _ ?_
  rw [tbl_tile m hs i, BitVec.toNat_ofNat]
  exact Nat.mod_eq_of_lt (by have := tile32 m hs i; omega)

/-- Every block is inside its array and made of whole words. -/
theorem ok_of_sum : Ok m := by
  have hn : ∀ i : grid0.Coords, (i 0).val < 32 := fun i => (i 0).isLt
  have hg := grp8 m hs
  have ht := tile32 m hs
  refine ⟨?_, ?_, ?_, ?_, ?_, ?_, ?_, ?_, ?_, ?_⟩
  · intro i
    have h1 := hn i; have h2 := hg i; have h3 := ht i
    refine ⟨?_, ?_⟩
    · intro a
      rw [tr_0 m hs i]
      match a with
      | ⟨0, _⟩ => show (Visits.tile (szs m) (vOf i) + 1) * 512 ≤ 16384; omega
      | ⟨1, _⟩ => show (0 + 1) * 5120 ≤ 5120; omega
      | ⟨_ + 2, h⟩ => exact absurd h (Nat.not_lt.2 (Nat.le_add_left _ _))
    · right
      exact Affine.words_of_packed (Affine.packed_dvd (by decide) (Dvd.dvd.mul_left (by decide) _) (by decide))
  · intro i
    have h1 := hn i; have h2 := hg i; have h3 := ht i
    refine ⟨?_, ?_⟩
    · intro a
      rw [tr_1 m hs i]
      match a with
      | ⟨0, _⟩ => show (Visits.tile (szs m) (vOf i) + 1) * 512 ≤ 16384; omega
      | ⟨1, _⟩ => show (0 + 1) * 40 ≤ 40; omega
      | ⟨_ + 2, h⟩ => exact absurd h (Nat.not_lt.2 (Nat.le_add_left _ _))
    · exact Or.inl rfl
  · intro i
    have h1 := hn i; have h2 := hg i; have h3 := ht i
    refine ⟨?_, ?_⟩
    · intro a
      rw [tr_2 m hs i]
      match a with
      | ⟨0, _⟩ => show (Visits.grp (szs m) (vOf i) + 1) * 1 ≤ 8; omega
      | ⟨1, _⟩ => show (0 + 1) * 5120 ≤ 5120; omega
      | ⟨2, _⟩ => show ((i 0).val + 1) * 256 ≤ 8192; omega
      | ⟨_ + 3, h⟩ => exact absurd h (Nat.not_lt.2 (Nat.le_add_left _ _))
    · right
      refine Affine.words_rows (by decide) ?_ rfl
      show cc0_transform_2 k0_off1_inb numel1_S1 (tbl m) i 1 * 5120 = 0
      rw [tr_2 m hs i]; rfl
  · intro i
    have h1 := hn i; have h2 := hg i; have h3 := ht i
    refine ⟨?_, ?_⟩
    · intro a
      rw [tr_3 m hs i]
      match a with
      | ⟨0, _⟩ => show (Visits.grp (szs m) (vOf i) + 1) * 1 ≤ 8; omega
      | ⟨1, _⟩ => show (0 + 1) * 40 ≤ 40; omega
      | ⟨2, _⟩ => show (0 + 1) * 64 ≤ 64; omega
      | ⟨_ + 3, h⟩ => exact absurd h (Nat.not_lt.2 (Nat.le_add_left _ _))
    · exact Or.inl rfl
  · intro i
    have h1 := hn i; have h2 := hg i; have h3 := ht i
    refine ⟨?_, ?_⟩
    · intro a
      rw [tr_4 m hs i]
      match a with
      | ⟨0, _⟩ => show (Visits.grp (szs m) (vOf i) + 1) * 1 ≤ 8; omega
      | ⟨1, _⟩ => show (0 + 1) * 5120 ≤ 5120; omega
      | ⟨2, _⟩ => show ((i 0).val + 1) * 256 ≤ 8192; omega
      | ⟨_ + 3, h⟩ => exact absurd h (Nat.not_lt.2 (Nat.le_add_left _ _))
    · right
      refine Affine.words_rows (by decide) ?_ rfl
      show cc0_transform_4 k0_off1_inb numel1_S1 (tbl m) i 1 * 5120 = 0
      rw [tr_4 m hs i]; rfl
  · intro i
    have h1 := hn i; have h2 := hg i; have h3 := ht i
    refine ⟨?_, ?_⟩
    · intro a
      rw [tr_5 m hs i]
      match a with
      | ⟨0, _⟩ => show (Visits.grp (szs m) (vOf i) + 1) * 1 ≤ 8; omega
      | ⟨1, _⟩ => show (0 + 1) * 40 ≤ 40; omega
      | ⟨2, _⟩ => show (0 + 1) * 64 ≤ 64; omega
      | ⟨_ + 3, h⟩ => exact absurd h (Nat.not_lt.2 (Nat.le_add_left _ _))
    · exact Or.inl rfl
  · intro i
    have h1 := hn i; have h2 := hg i; have h3 := ht i
    refine ⟨?_, ?_⟩
    · intro a
      rw [tr_6 m hs i]
      match a with
      | ⟨0, _⟩ => show (Visits.grp (szs m) (vOf i) + 1) * 1 ≤ 8; omega
      | ⟨1, _⟩ => show (0 + 1) * 1 ≤ 1; omega
      | ⟨2, _⟩ => show ((i 0).val + 1) * 256 ≤ 8192; omega
      | ⟨_ + 3, h⟩ => exact absurd h (Nat.not_lt.2 (Nat.le_add_left _ _))
    · exact Or.inl rfl
  · intro i
    have h1 := hn i; have h2 := hg i; have h3 := ht i
    refine ⟨?_, ?_⟩
    · intro a
      rw [tr_7 m hs i]
      match a with
      | ⟨0, _⟩ => show (Visits.grp (szs m) (vOf i) + 1) * 1 ≤ 8; omega
      | ⟨1, _⟩ => show (0 + 1) * 1 ≤ 1; omega
      | ⟨2, _⟩ => show ((i 0).val + 1) * 256 ≤ 8192; omega
      | ⟨_ + 3, h⟩ => exact absurd h (Nat.not_lt.2 (Nat.le_add_left _ _))
    · exact Or.inl rfl
  · intro i
    have h1 := hn i; have h2 := hg i; have h3 := ht i
    refine ⟨?_, ?_⟩
    · intro a
      rw [tr_8 m hs i]
      match a with
      | ⟨0, _⟩ => show (Visits.tile (szs m) (vOf i) + 1) * 512 ≤ 16384; omega
      | ⟨1, _⟩ => show ((i 0).val + 1) * 256 ≤ 8192; omega
      | ⟨_ + 2, h⟩ => exact absurd h (Nat.not_lt.2 (Nat.le_add_left _ _))
    · right
      exact Affine.words_of_packed (Affine.packed_dvd (by decide) (Dvd.dvd.mul_left (by decide) _) (by decide))
  · intro i
    have h1 := hn i; have h2 := hg i; have h3 := ht i
    refine ⟨?_, ?_⟩
    · intro a
      rw [tr_9 m hs i]
      match a with
      | ⟨0, _⟩ => show ((i 0).val + 1) * 1 ≤ 32; omega
      | ⟨1, _⟩ => show (Visits.tile (szs m) (vOf i) + 1) * 512 ≤ 16384; omega
      | ⟨2, _⟩ => show (0 + 1) * 2 ≤ 2; omega
      | ⟨_ + 3, h⟩ => exact absurd h (Nat.not_lt.2 (Nat.le_add_left _ _))
    · exact Or.inl rfl

end

end Cert.Kernel.Body
-- ==== Proof.KernelIdealKit.lean ====
/- What the launch of the kernel starts from: the memory when the kernel is entered (after the host lines that
   compute the visit tables), the tables themselves, the block of each window at a grid point, and the frame claim
   read off a run of the pipeline. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import Idealize.ShloMosaic.Lib.Claim
public import Idealize.ShloMosaic.Lib.StableHlo.RunRead

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a grid point -/

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_gate_up (grid0.coords t) (Memref.whole main_v27) (Memref.isWhole_whole _) (Memref.whole main_v44) (Memref.isWhole_whole _) (Memref.whole main_v56) (Memref.isWhole_whole _) (Memref.whole main_v71) (Memref.isWhole_whole _) (Memref.whole main_v73) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) (Memref.whole cc0_scratch2) (Memref.isWhole_whole _)

/-! ## @main up to the region -/

/-- The host lines before the kernel, stretch by stretch. -/
abbrev hostLines : List (List (HloOp τ sig (Elt F))) :=
  [hostOps0, hostOps0_1, hostOps0_2, hostOps0_3, hostOps0_4, hostOps0_5, hostOps0_6, hostOps0_7, hostOps0_8, hostOps0_9, hostOps0_10]

theorem hostOps0_fresh : (hostOps0 : List (HloOp τ sig (Elt F))).Forall fun op => op.fresh = ∅ := by
  simp only [List.Forall]; repeat' constructor

theorem hostOps0_1_fresh : (hostOps0_1 : List (HloOp τ sig (Elt F))).Forall fun op => op.fresh = ∅ := by
  simp only [List.Forall]; repeat' constructor

theorem hostOps0_2_fresh : (hostOps0_2 : List (HloOp τ sig (Elt F))).Forall fun op => op.fresh = ∅ := by
  simp only [List.Forall]; repeat' constructor

theorem hostOps0_3_fresh : (hostOps0_3 : List (HloOp τ sig (Elt F))).Forall fun op => op.fresh = ∅ := by
  simp only [List.Forall]; repeat' constructor

theorem hostOps0_4_fresh : (hostOps0_4 : List (HloOp τ sig (Elt F))).Forall fun op => op.fresh = ∅ := by
  simp only [List.Forall]; repeat' constructor

theorem hostOps0_5_fresh : (hostOps0_5 : List (HloOp τ sig (Elt F))).Forall fun op => op.fresh = ∅ := by
  simp only [List.Forall]; repeat' constructor

theorem hostOps0_6_fresh : (hostOps0_6 : List (HloOp τ sig (Elt F))).Forall fun op => op.fresh = ∅ := by
  simp only [List.Forall]; repeat' constructor

theorem hostOps0_7_fresh : (hostOps0_7 : List (HloOp τ sig (Elt F))).Forall fun op => op.fresh = ∅ := by
  simp only [List.Forall]; repeat' constructor

theorem hostOps0_8_fresh : (hostOps0_8 : List (HloOp τ sig (Elt F))).Forall fun op => op.fresh = ∅ := by
  simp only [List.Forall]; repeat' constructor

theorem hostOps0_9_fresh : (hostOps0_9 : List (HloOp τ sig (Elt F))).Forall fun op => op.fresh = ∅ := by
  simp only [List.Forall]; repeat' constructor

theorem hostOps0_10_fresh : (hostOps0_10 : List (HloOp τ sig (Elt F))).Forall fun op => op.fresh = ∅ := by
  simp only [List.Forall]; repeat' constructor

/-- Core `c`'s buffers when the region is entered: what the host lines leave of the launch memory. -/
def V (c : Dev nD) (b : Ref sig .tc) : Buf (Elt F) ((c : Thread nD τ).loc b) :=
  StableHlo.after (hostLines (F := F)).flatten (fun b => m (c, b)) b

/-- @main up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines
    ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩
    fun c => main_chain c

theorem V_main_arg0 (c : Dev nD) : V m c main_arg0 = m ((c : Thread nD τ).loc main_arg0) := by
  unfold V
  after_reads_simp
theorem V_main_arg1 (c : Dev nD) : V m c main_arg1 = m ((c : Thread nD τ).loc main_arg1) := by
  unfold V
  after_reads_simp
theorem V_main_arg2 (c : Dev nD) : V m c main_arg2 = m ((c : Thread nD τ).loc main_arg2) := by
  unfold V
  after_reads_simp
theorem V_main_arg3 (c : Dev nD) : V m c main_arg3 = m ((c : Thread nD τ).loc main_arg3) := by
  unfold V
  after_reads_simp
theorem V_main_arg4 (c : Dev nD) : V m c main_arg4 = m ((c : Thread nD τ).loc main_arg4) := by
  unfold V
  after_reads_simp
theorem V_main_arg5 (c : Dev nD) : V m c main_arg5 = m ((c : Thread nD τ).loc main_arg5) := by
  unfold V
  after_reads_simp
theorem V_main_arg6 (c : Dev nD) : V m c main_arg6 = m ((c : Thread nD τ).loc main_arg6) := by
  unfold V
  after_reads_simp
theorem V_main_arg7 (c : Dev nD) : V m c main_arg7 = m ((c : Thread nD τ).loc main_arg7) := by
  unfold V
  after_reads_simp
theorem V_main_arg8 (c : Dev nD) : V m c main_arg8 = m ((c : Thread nD τ).loc main_arg8) := by
  unfold V
  after_reads_simp
/-! ## The prefetched tables, read off the launch memory -/

/-- The tables' contents when the region is entered (`V`; device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The pipeline's side condition of the tables' contents: every window whose index map reads a table has its block
    inside the array at every point (the printed `ok0`; `True` when no map reads a table). The frame holds under it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S39 .i32 := Memref.whole main_v27
abbrev htbM0_0 : tbM0_0.IsWhole := Memref.isWhole_whole _
abbrev tbM0_1 : Memref sig .tc .smem S39 .i32 := Memref.whole main_v44
abbrev htbM0_1 : tbM0_1.IsWhole := Memref.isWhole_whole _
abbrev tbM0_2 : Memref sig .tc .smem S39 .i32 := Memref.whole main_v56
abbrev htbM0_2 : tbM0_2.IsWhole := Memref.isWhole_whole _
abbrev tbM0_3 : Memref sig .tc .smem S39 .i32 := Memref.whole main_v71
abbrev htbM0_3 : tbM0_3.IsWhole := Memref.isWhole_whole _
abbrev tbM0_4 : Memref sig .tc .smem S39 .i32 := Memref.whole main_v73
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (by decide : main_arg2 ∈ Pipeline.restRefs sig spec0)).trans (V_main_arg2 m c),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c)),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

/-! ## The kernel body on any staging memrefs: its operands -/

/-- Each window's current staging memref at point `t`, spelled as the pipeline passes it (`bodyAt0`), and its wholeness. -/
abbrev ms0_0 (hO : Ok m) (t : Fin (cfgM m hO).N) : Memref sig .tc .vmem S512x5120 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x40 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x5120x256 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .smem S1x40x64 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x5120x256 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .smem S1x40x64 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x256 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S512x256 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x512x2 .f32 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S512x5120 .bf16 := Memref.whole cc0_scratch0
abbrev scM0_1 : Memref sig .tc .vmem S5120x256 .bf16 := Memref.whole cc0_scratch1
abbrev scM0_2 : Memref sig .tc .vmem S5120x256 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.KernelIdealRun.lean ====
/- The kernel body run once, on any whole staging buffers: it ends with its inputs as they were, some contents in the
   scratch buffers, and in the two outputs the contents `kernelRun0_V` names, which depend only on the inputs, on the
   tables and on what the outputs held before. -/
module

public import proofs.«01_k».proof.Proof.KernelIdealKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 16000000 in
/-- The body's triple: on whole staging memrefs, the inputs at their contents and the outputs at `y8`, `y9`, the body
    runs to the continuation holding the inputs as they were, the scratch at some contents, and the outputs at the
    pair found by the run. -/
def kernelRun0_V (c : Dev nD) (i : grid0.Coords) (arg7 : Memref sig .tc .vmem S512x5120 .fp8e4m3) (harg7 : arg7.IsWhole) (arg8 : Memref sig .tc .vmem S512x40 .f32) (harg8 : arg8.IsWhole) (arg9 : Memref sig .tc .vmem S1x5120x256 .fp8e4m3) (harg9 : arg9.IsWhole) (arg10 : Memref sig .tc .smem S1x40x64 .f32) (harg10 : arg10.IsWhole) (arg11 : Memref sig .tc .vmem S1x5120x256 .fp8e4m3) (harg11 : arg11.IsWhole) (arg12 : Memref sig .tc .smem S1x40x64 .f32) (harg12 : arg12.IsWhole) (arg13 : Memref sig .tc .vmem S1x1x256 .f32) (harg13 : arg13.IsWhole) (arg14 : Memref sig .tc .vmem S1x1x256 .f32) (harg14 : arg14.IsWhole) (arg15 : Memref sig .tc .vmem S512x256 .fp8e4m3) (harg15 : arg15.IsWhole) (arg16 : Memref sig .tc .vmem S1x512x2 .f32) (harg16 : arg16.IsWhole) (arg17 : Memref sig .tc .vmem S512x5120 .bf16) (harg17 : arg17.IsWhole) (arg18 : Memref sig .tc .vmem S5120x256 .bf16) (harg18 : arg18.IsWhole) (arg19 : Memref sig .tc .vmem S5120x256 .bf16) (harg19 : arg19.IsWhole)
    (x0 : Vec F S512x5120 .fp8e4m3) (x1 : Vec F S512x40 .f32) (x2 : Vec F S1x5120x256 .fp8e4m3) (x3 : Vec F S1x40x64 .f32) (x4 : Vec F S1x5120x256 .fp8e4m3) (x5 : Vec F S1x40x64 .f32) (x6 : Vec F S1x1x256 .f32) (x7 : Vec F S1x1x256 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)
    (y8 : Vec F S512x256 .fp8e4m3) (y9 : Vec F S1x512x2 .f32) :
    { o : Vec F S512x256 .fp8e4m3 × Vec F S1x512x2 .f32 // ∀ (E : Set ℕ) (K : PUnit → sProp 𝕄),
        iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare x6 ∗ owns (c : Thread nD τ) arg14 fullShare x7 ∗ owns (c : Thread nD τ) arg15 fullShare y8 ∗ owns (c : Thread nD τ) arg16 fullShare y9 ∗ (∃ d, owns (c : Thread nD τ) arg17 fullShare d) ∗ (∃ d, owns (c : Thread nD τ) arg18 fullShare d) ∗ (∃ d, owns (c : Thread nD τ) arg19 fullShare d) ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare x6 ∗ owns (c : Thread nD τ) arg14 fullShare x7 ∗ owns (c : Thread nD τ) arg15 fullShare o.1 ∗ owns (c : Thread nD τ) arg16 fullShare o.2 ∗ (∃ d, owns (c : Thread nD τ) arg17 fullShare d) ∗ (∃ d, owns (c : Thread nD τ) arg18 fullShare d) ∗ (∃ d, owns (c : Thread nD τ) arg19 fullShare d) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0_moe_gate_up i tbM0_0 htbM0_0 tbM0_1 htbM0_1 tbM0_2 htbM0_2 tbM0_3 htbM0_3 tbM0_4 htbM0_4 arg7 harg7 arg8 harg8 arg9 harg9 arg10 harg10 arg11 harg11 arg12 harg12 arg13 harg13 arg14 harg14 arg15 harg15 arg16 harg16 arg17 harg17 arg18 harg18 arg19 harg19) K } := by
    refine ⟨⟨?_, ?_⟩, ?_⟩
    rotate_left 2
    intro E K
    simp only [cc0_moe_gate_up_eq_skeleton]; unfold cc0_moe_gate_up_skel
    simp only [k0_part78_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part72_eq_skeleton, k0_part73_eq_skeleton, k0_part74_eq_skeleton, k0_part75_eq_skeleton, k0_part76_eq_skeleton, k0_part77_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, HT0, HT1, HT2, HT3, HT4, Hk⟩
    obtain rfl := harg7.eq_unread hf0; obtain rfl := harg8.eq_unread hf1; obtain rfl := harg9.eq_unread hf2; obtain rfl := harg10.eq_unread hf3; obtain rfl := harg11.eq_unread hf4; obtain rfl := harg12.eq_unread hf5; obtain rfl := harg13.eq_unread hf6; obtain rfl := harg14.eq_unread hf7; obtain rfl := harg15.eq_unread hf8; obtain rfl := harg16.eq_unread hf9
    sl_exec
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; · ipureintro; exact harg11.read_unread _
      iexact H4
    isplitl [H5]
    · iexists _; isplitr; · ipureintro; exact harg12.read_unread _
      iexact H5
    isplitl [H6]
    · iexists _; isplitr; · ipureintro; exact harg13.read_unread _
      iexact H6
    isplitl [H7]
    · iexists _; isplitr; · ipureintro; exact harg14.read_unread _
      iexact H7
    isplitl [H8]
    · iexists _; isplitr; swap; · iexact H8
      ipureintro; rfl
    isplitl [H9]
    · iexists _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [HT1]; · iexact HT1
    isplitl [HT2]; · iexact HT2
    isplitl [HT3]; · iexact HT3
    iexact HT4

end Cert.KernelIdeal.Body

end
-- ==== Proof.KernelIdealFrame.lean ====
/- The frame of the program: under the side condition of the visit tables every run ends, every argument
   is as it was, and every semaphore counter is zero. What the body leaves in an output buffer is related to what the buffer held. -/
module

public import proofs.«01_k».proof.Proof.KernelIdealRun

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the outputs at `Dat.unnamed` (`rdats` says what they hold); the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
    | ⟨9, h⟩ => Pipeline.Dat.unnamed (cfg := (cfgM m hO)) ⟨9, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## What the body leaves in the outputs -/

/-- What the body leaves in the two outputs' buffers at point `t`, which held `y8` and `y9`. -/
def outAt (hO : Ok m) (c : Dev nD) (t : Fin (cfgM m hO).N) (y8 : Vec F S512x256 .fp8e4m3) (y9 : Vec F S1x512x2 .f32) : Vec F S512x256 .fp8e4m3 × Vec F S1x512x2 .f32 :=
  (kernelRun0_V c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (Memref.whole cc0_scratch0) (Memref.isWhole_whole _) (Memref.whole cc0_scratch1) (Memref.isWhole_whole _) (Memref.whole cc0_scratch2) (Memref.isWhole_whole _)
    (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2) (tbl m 3) (tbl m 4) y8 y9).1

/-- The proof data read relationally: an output's buffer is left as the run of the body says, given what it held. -/
def rdats (hO : Ok m) (c : Dev nD) : Pipeline.RDat τ (Elt F) Unit ℕ (UR sig nD τ) ℕ (cfgM m hO) c :=
  (dats m hO 0 c).toR.override fun w => match w with
    | ⟨0, _⟩ => none | ⟨1, _⟩ => none | ⟨2, _⟩ => none | ⟨3, _⟩ => none | ⟨4, _⟩ => none | ⟨5, _⟩ => none | ⟨6, _⟩ => none | ⟨7, _⟩ => none
    | ⟨8, _⟩ => some fun t Y X => ∃ y9, X = (outAt m hO c t Y y9).1
    | ⟨9, _⟩ => some fun t Y X => ∃ y8, X = (outAt m hO c t y8 Y).2

theorem rdats_A (hO : Ok m) (c : Dev nD) (w : Fin (cfgM m hO).W) : (rdats m hO c).A w = V m c (Pipeline.arrRef spec0 w) := A_eq m hO c w

theorem rdats_after8 (hO : Ok m) (c : Dev nD) : (rdats m hO c).after 8 = fun t Y X => ∃ y9, X = (outAt m hO c t Y y9).1 :=
  (dats m hO 0 c).toR.override_after_of_eq_some rfl
theorem rdats_after9 (hO : Ok m) (c : Dev nD) : (rdats m hO c).after 9 = fun t Y X => ∃ y8, X = (outAt m hO c t y8 Y).2 :=
  (dats m hO 0 c).toR.override_after_of_eq_some rfl

/-! ## The body obligation, at a generic point -/

/-- What the body is called with at point `t`, the windows one by one, -/
def bodyPre (hO : Ok m) (c : Dev nD) (t : Fin (cfgM m hO).N) (y8 : Vec F S512x256 .fp8e4m3) (y9 : Vec F S1x512x2 .f32) : sProp 𝕄 :=
  iprop((dats m hO 0 c).Φ t.castSucc ∗ (dats m hO 0 c).owesAt () t.castSucc
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ owns (c : Thread nD τ) (ms0_4 m hO t) fullShare (iblk m hO c 4 t)
    ∗ owns (c : Thread nD τ) (ms0_5 m hO t) fullShare (iblk m hO c 5 t)
    ∗ owns (c : Thread nD τ) (ms0_6 m hO t) fullShare (iblk m hO c 6 t)
    ∗ owns (c : Thread nD τ) (ms0_7 m hO t) fullShare (iblk m hO c 7 t)
    ∗ owns (c : Thread nD τ) (ms0_8 m hO t) fullShare y8
    ∗ owns (c : Thread nD τ) (ms0_9 m hO t) fullShare y9)

/-- and what it returns. -/
def bodyPost (hO : Ok m) (c : Dev nD) (t : Fin (cfgM m hO).N) (y8 : Vec F S512x256 .fp8e4m3) (y9 : Vec F S1x512x2 .f32) : sProp 𝕄 :=
  iprop((dats m hO 0 c).Φ t.succ ∗ (dats m hO 0 c).owesAt () t.succ
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ owns (c : Thread nD τ) (ms0_4 m hO t) fullShare (iblk m hO c 4 t)
    ∗ owns (c : Thread nD τ) (ms0_5 m hO t) fullShare (iblk m hO c 5 t)
    ∗ owns (c : Thread nD τ) (ms0_6 m hO t) fullShare (iblk m hO c 6 t)
    ∗ owns (c : Thread nD τ) (ms0_7 m hO t) fullShare (iblk m hO c 7 t)
    ∗ owns (c : Thread nD τ) (ms0_8 m hO t) fullShare (outAt m hO c t y8 y9).1
    ∗ owns (c : Thread nD τ) (ms0_9 m hO t) fullShare (outAt m hO c t y8 y9).2)

set_option maxHeartbeats 4000000 in
/-- The body at any point: the run applies; the invariant hands the body its scratch buffers at some contents and takes
    them back at some contents; the core owes nothing throughout. -/
theorem sound_body (hO : Ok m) (c : Dev nD) (t : Fin (cfgM m hO).N) (y8 : Vec F S512x256 .fp8e4m3) (y9 : Vec F S1x512x2 .f32) :
    bodyPre m hO c t y8 y9 ⊢ wp frame (wpE (defs₀ (F := F)) Variants.none c none) Set.univ (bodyAt0 (adm m hO) t) (fun _ => bodyPost m hO c t y8 y9) := by
  unfold bodyPre bodyPost bodyAt0
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2⟩, Hg⟩, ⟨HT0, HT1, HT2, HT3, HT4⟩⟩, Ho, H0, H1, H2, H3, H4, H5, H6, H7, H8, H9⟩
  unfold outAt
  iapply ((kernelRun0_V c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2) (tbl m 3) (tbl m 4) y8 y9).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HT0]; · iexact HT0
  isplitl [HT1]; · iexact HT1
  isplitl [HT2]; · iexact HT2
  isplitl [HT3]; · iexact HT3
  isplitl [HT4]; · iexact HT4
  iintro ⟨H0, H1, H2, H3, H4, H5, H6, H7, H8, H9, HS0, HS1, HS2, HT0, HT1, HT2, HT3, HT4⟩
  isplitl [HS0 HS1 HS2 Hg HT0 HT1 HT2 HT3 HT4]
  · isplitl [HS0 HS1 HS2 Hg]
    · isplitl [HS0 HS1 HS2]
      · isplitl [HS0]
        · iexact HS0
        isplitl [HS1]
        · iexact HS1
        iexact HS2
      iexact Hg
    isplitl [HT0]; · iexact HT0
    isplitl [HT1]; · iexact HT1
    isplitl [HT2]; · iexact HT2
    isplitl [HT3]; · iexact HT3
    iexact HT4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The relational body obligation, at every point. -/
theorem body_obligation (hO : Ok m) (c : Dev nD) : (rdats (F := F) m hO c).BodyObligation (defs₀ (F := F)) Variants.none () Set.univ := fun t Y hY => by
  have e0 : Y 0 = iblk m hO c 0 t := by
    obtain ⟨d, hd⟩ := (dats m hO 0 c).toR_finds 0 t (Y 0) (((dats m hO 0 c).toR.override_finds rfl t (Y 0)).mp (hY 0))
    exact hd.trans (before0_0 m hO c t d)
  have e1 : Y 1 = iblk m hO c 1 t := by
    obtain ⟨d, hd⟩ := (dats m hO 0 c).toR_finds 1 t (Y 1) (((dats m hO 0 c).toR.override_finds rfl t (Y 1)).mp (hY 1))
    exact hd.trans (before0_1 m hO c t d)
  have e2 : Y 2 = iblk m hO c 2 t := by
    obtain ⟨d, hd⟩ := (dats m hO 0 c).toR_finds 2 t (Y 2) (((dats m hO 0 c).toR.override_finds rfl t (Y 2)).mp (hY 2))
    exact hd.trans (before0_2 m hO c t d)
  have e3 : Y 3 = iblk m hO c 3 t := by
    obtain ⟨d, hd⟩ := (dats m hO 0 c).toR_finds 3 t (Y 3) (((dats m hO 0 c).toR.override_finds rfl t (Y 3)).mp (hY 3))
    exact hd.trans (before0_3 m hO c t d)
  have e4 : Y 4 = iblk m hO c 4 t := by
    obtain ⟨d, hd⟩ := (dats m hO 0 c).toR_finds 4 t (Y 4) (((dats m hO 0 c).toR.override_finds rfl t (Y 4)).mp (hY 4))
    exact hd.trans (before0_4 m hO c t d)
  have e5 : Y 5 = iblk m hO c 5 t := by
    obtain ⟨d, hd⟩ := (dats m hO 0 c).toR_finds 5 t (Y 5) (((dats m hO 0 c).toR.override_finds rfl t (Y 5)).mp (hY 5))
    exact hd.trans (before0_5 m hO c t d)
  have e6 : Y 6 = iblk m hO c 6 t := by
    obtain ⟨d, hd⟩ := (dats m hO 0 c).toR_finds 6 t (Y 6) (((dats m hO 0 c).toR.override_finds rfl t (Y 6)).mp (hY 6))
    exact hd.trans (before0_6 m hO c t d)
  have e7 : Y 7 = iblk m hO c 7 t := by
    obtain ⟨d, hd⟩ := (dats m hO 0 c).toR_finds 7 t (Y 7) (((dats m hO 0 c).toR.override_finds rfl t (Y 7)).mp (hY 7))
    exact hd.trans (before0_7 m hO c t d)
  rw [bigSep_W0, bigSep_W0, defs₀_row m hO]
  rw [e0, e1, e2, e3, e4, e5, e6, e7]
  refine triple_restated (sound_body m hO c t (Y 8) (Y 9)) rfl .rfl fun _ => ?_
  unfold bodyPost
  refine sep_mono .rfl (sep_mono .rfl ?_)
  iintro ⟨H0, H1, H2, H3, H4, H5, H6, H7, H8, H9⟩
  isplitl [H0]
  · iexists _; isplitr; swap; · iexact H0
    ipureintro
    exact (after0_0 m hO c t).symm
  isplitl [H1]
  · iexists _; isplitr; swap; · iexact H1
    ipureintro
    exact (after0_1 m hO c t).symm
  isplitl [H2]
  · iexists _; isplitr; swap; · iexact H2
    ipureintro
    exact (after0_2 m hO c t).symm
  isplitl [H3]
  · iexists _; isplitr; swap; · iexact H3
    ipureintro
    exact (after0_3 m hO c t).symm
  isplitl [H4]
  · iexists _; isplitr; swap; · iexact H4
    ipureintro
    exact (after0_4 m hO c t).symm
  isplitl [H5]
  · iexists _; isplitr; swap; · iexact H5
    ipureintro
    exact (after0_5 m hO c t).symm
  isplitl [H6]
  · iexists _; isplitr; swap; · iexact H6
    ipureintro
    exact (after0_6 m hO c t).symm
  isplitl [H7]
  · iexists _; isplitr; swap; · iexact H7
    ipureintro
    exact (after0_7 m hO c t).symm
  isplitl [H8]
  · iexists _; isplitr; swap; · iexact H8
    ipureintro
    exact ⟨Y 9, rfl⟩
  iexists _; isplitr; swap; · iexact H9
  ipureintro
  exact ⟨Y 8, rfl⟩

/-! ## The run and the frame -/

/-- Every run ends with the arrays as the relational data say, and every semaphore counter at zero. -/
theorem run_main_quiescent (hO : Ok m) : θ_run defs (onTc (τ := τ) (main (F := F))) (s₀ m ρ) (fun r => (Pipeline.RDat.FramePost ((Pipeline.pin pcfgs fun _ => adm m hO) 0) (fun c => rdats m hO c) (V m)) r ∧ r.2.sem = fun _ => 0) :=
  Pipeline.RDat.θ_run_frameP (Q' := _) pcfgs (fun _ => adm m hO) (0 : Fin 1) launch0 defs₀ Variants.none (fun c => rdats m hO c) m ρ main
    (hbody := fun c => body_obligation m hO c) (hshare := fun c => (rdats m hO c).share_full fun _ => rfl)
    (howed := fun _ _ => rfl) (V := V m) (hmain := hmain m Variants.none) (hA := rdats_A m hO) (hpf := V_pre m) (hΦ := fun _ _ => rfl)
    (hQ' := fun _ h => h)

theorem run_main (hO : Ok m) : θ_run defs (onTc (τ := τ) (main (F := F))) (s₀ m ρ) (Pipeline.RDat.FramePost ((Pipeline.pin pcfgs fun _ => adm m hO) 0) (fun c => rdats m hO c) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (fun c => rdats m hO c) (rdats_A m hO) (run_main m ρ hO)

/-- THE FRAME: every run ends with the arguments as they were and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.KernelIdeal.Body

end
-- ==== Proof.KernelIdealTables.lean ====
/- The visit tables the idealized kernel is handed are the tables of `TableWords`, computed from the group sizes; and with sizes that
   add up to the rows, every block a table names lies inside its array. -/
module

public import proofs.«01_k».proof.Proof.KernelIdealKit
public import proofs.«01_k».proof.Proof.TableWords

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

section Lines

variable (W : Valuation τ sig (Elt F))

theorem rd0_v0 : StableHlo.after (hostOps0 (F := F)) W main_v0 = (Tables.cum (W main_arg2)) := by
  after_reads_simp
  simp -implicitDefEqProofs only [StableHlo.TRef.toBuf, StableHlo.TRef.ofBuf, cast_cast, cast_eq]
  unfold Tables.cum
  rfl
theorem rd0_arg2 : StableHlo.after (hostOps0 (F := F)) W main_arg2 = W main_arg2 := by
  after_reads_simp
theorem rd1_v1 : StableHlo.after (hostOps0_1 (F := F)) W main_v1 = (subi (W main_v0) (W main_arg2)) := by
  after_reads_simp
  all_goals rfl
theorem rd1_c : StableHlo.after (hostOps0_1 (F := F)) W main_c = (Tables.k0 512#32) := by
  after_reads_simp
  all_goals rfl
theorem rd1_v0 : StableHlo.after (hostOps0_1 (F := F)) W main_v0 = W main_v0 := by
  after_reads_simp
theorem rd1_arg2 : StableHlo.after (hostOps0_1 (F := F)) W main_arg2 = W main_arg2 := by
  after_reads_simp
theorem rd2_v2 : StableHlo.after (hostOps0_2 (F := F)) W main_v2 = (Routing.pyDiv Tables.b8 (W main_v1) (W main_c)) := by
  after_reads_simp
  all_goals rfl
theorem rd2_v0 : StableHlo.after (hostOps0_2 (F := F)) W main_v0 = W main_v0 := by
  after_reads_simp
theorem rd2_v1 : StableHlo.after (hostOps0_2 (F := F)) W main_v1 = W main_v1 := by
  after_reads_simp
theorem rd2_arg2 : StableHlo.after (hostOps0_2 (F := F)) W main_arg2 = W main_arg2 := by
  after_reads_simp
theorem rd3_v4 : StableHlo.after (hostOps0_3 (F := F)) W main_v4 = (cmpi .sgt (W main_arg2) (Tables.k8 0#32)) := by
  after_reads_simp
  all_goals rfl
theorem rd3_v8 : StableHlo.after (hostOps0_3 (F := F)) W main_v8 = (subi (addi (W main_v0) (Tables.k8 512#32)) (Tables.k8 1#32)) := by
  after_reads_simp
  all_goals rfl
theorem rd3_c_3 : StableHlo.after (hostOps0_3 (F := F)) W main_c_3 = (Tables.k0 512#32) := by
  after_reads_simp
  all_goals rfl
theorem rd3_v0 : StableHlo.after (hostOps0_3 (F := F)) W main_v0 = W main_v0 := by
  after_reads_simp
theorem rd3_v1 : StableHlo.after (hostOps0_3 (F := F)) W main_v1 = W main_v1 := by
  after_reads_simp
theorem rd3_v2 : StableHlo.after (hostOps0_3 (F := F)) W main_v2 = W main_v2 := by
  after_reads_simp
theorem rd4_v9 : StableHlo.after (hostOps0_4 (F := F)) W main_v9 = (Routing.pyDiv Tables.b8 (W main_v8) (W main_c_3)) := by
  after_reads_simp
  all_goals rfl
theorem rd4_v0 : StableHlo.after (hostOps0_4 (F := F)) W main_v0 = W main_v0 := by
  after_reads_simp
theorem rd4_v1 : StableHlo.after (hostOps0_4 (F := F)) W main_v1 = W main_v1 := by
  after_reads_simp
theorem rd4_v2 : StableHlo.after (hostOps0_4 (F := F)) W main_v2 = W main_v2 := by
  after_reads_simp
theorem rd4_v4 : StableHlo.after (hostOps0_4 (F := F)) W main_v4 = W main_v4 := by
  after_reads_simp
theorem rd5_v10 : StableHlo.after (hostOps0_5 (F := F)) W main_v10 = (subi (W main_v9) (W main_v2)) := by
  after_reads_simp
  all_goals rfl
theorem rd5_c_4 : StableHlo.after (hostOps0_5 (F := F)) W main_c_4 = (Tables.k0 0#32) := by
  after_reads_simp
  all_goals rfl
theorem rd5_v0 : StableHlo.after (hostOps0_5 (F := F)) W main_v0 = W main_v0 := by
  after_reads_simp
theorem rd5_v1 : StableHlo.after (hostOps0_5 (F := F)) W main_v1 = W main_v1 := by
  after_reads_simp
theorem rd5_v2 : StableHlo.after (hostOps0_5 (F := F)) W main_v2 = W main_v2 := by
  after_reads_simp
theorem rd5_v4 : StableHlo.after (hostOps0_5 (F := F)) W main_v4 = W main_v4 := by
  after_reads_simp
theorem rd6_v11 : StableHlo.after (hostOps0_6 (F := F)) W main_v11 = (select (W main_v4) (W main_v10) (broadcastInDim (Routing.shape1 8) ![] Tables.b8 (W main_c_4))) := by
  after_reads_simp
  all_goals rfl
theorem rd6_v0 : StableHlo.after (hostOps0_6 (F := F)) W main_v0 = W main_v0 := by
  after_reads_simp
theorem rd6_v1 : StableHlo.after (hostOps0_6 (F := F)) W main_v1 = W main_v1 := by
  after_reads_simp
theorem rd6_v2 : StableHlo.after (hostOps0_6 (F := F)) W main_v2 = W main_v2 := by
  after_reads_simp
theorem rd7_v12 : StableHlo.after (hostOps0_7 (F := F)) W main_v12 = (Tables.cum (W main_v11)) := by
  after_reads_simp
  simp -implicitDefEqProofs only [StableHlo.TRef.toBuf, StableHlo.TRef.ofBuf, cast_cast, cast_eq]
  unfold Tables.cum
  rfl
theorem rd7_v0 : StableHlo.after (hostOps0_7 (F := F)) W main_v0 = W main_v0 := by
  after_reads_simp
theorem rd7_v1 : StableHlo.after (hostOps0_7 (F := F)) W main_v1 = W main_v1 := by
  after_reads_simp
theorem rd7_v2 : StableHlo.after (hostOps0_7 (F := F)) W main_v2 = W main_v2 := by
  after_reads_simp
theorem rd7_v11 : StableHlo.after (hostOps0_7 (F := F)) W main_v11 = W main_v11 := by
  after_reads_simp
theorem rd8_v27 : StableHlo.after (hostOps0_8 (F := F)) W main_v27 = (Tables.grpW (W main_v12)) := by
  after_reads_simp
  all_goals rfl
theorem rd8_v44 : StableHlo.after (hostOps0_8 (F := F)) W main_v44 = (Tables.tileW (W main_v2) (W main_v11) (W main_v12)) := by
  after_reads_simp
  all_goals rfl
theorem rd8_v56 : StableHlo.after (hostOps0_8 (F := F)) W main_v56 = (Tables.loW (W main_v1) (W main_v2) (W main_v11) (W main_v12)) := by
  after_reads_simp
  all_goals rfl
theorem rd8_v68 : StableHlo.after (hostOps0_8 (F := F)) W main_v68 = (Tables.endW (W main_v0) (W main_v2) (W main_v11) (W main_v12)) := by
  after_reads_simp
  all_goals rfl
theorem rd8_v70 : StableHlo.after (hostOps0_8 (F := F)) W main_v70 = (Tables.liveW (W main_v12)) := by
  after_reads_simp
  all_goals rfl
theorem rd8_c_20 : StableHlo.after (hostOps0_8 (F := F)) W main_c_20 = (Tables.k0 0#32) := by
  after_reads_simp
  all_goals rfl
theorem rd9_v71 : StableHlo.after (hostOps0_9 (F := F)) W main_v71 = (select (W main_v70) (W main_v68) (broadcastInDim (Routing.shape1 39) ![] Tables.b39 (W main_c_20))) := by
  after_reads_simp
  all_goals rfl
theorem rd9_v27 : StableHlo.after (hostOps0_9 (F := F)) W main_v27 = W main_v27 := by
  after_reads_simp
theorem rd9_v44 : StableHlo.after (hostOps0_9 (F := F)) W main_v44 = W main_v44 := by
  after_reads_simp
theorem rd9_v56 : StableHlo.after (hostOps0_9 (F := F)) W main_v56 = W main_v56 := by
  after_reads_simp
theorem rd10_v73 : StableHlo.after (hostOps0_10 (F := F)) W main_v73 = (maxsi (W main_v56) (Tables.k39 0#32)) := by
  after_reads_simp
  all_goals rfl
theorem rd10_v27 : StableHlo.after (hostOps0_10 (F := F)) W main_v27 = W main_v27 := by
  after_reads_simp
theorem rd10_v44 : StableHlo.after (hostOps0_10 (F := F)) W main_v44 = W main_v44 := by
  after_reads_simp
theorem rd10_v56 : StableHlo.after (hostOps0_10 (F := F)) W main_v56 = W main_v56 := by
  after_reads_simp
theorem rd10_v71 : StableHlo.after (hostOps0_10 (F := F)) W main_v71 = W main_v71 := by
  after_reads_simp

end Lines

variable (m : (ℓ : Loc nD τ sig) → Buf (Elt F) ℓ)

/-- The lines as one after the other. -/
theorem V_steps (c : Dev nD) (b : Ref sig .tc) : V m c b =
    StableHlo.after hostOps0_10 (StableHlo.after hostOps0_9 (StableHlo.after hostOps0_8 (StableHlo.after hostOps0_7
      (StableHlo.after hostOps0_6 (StableHlo.after hostOps0_5 (StableHlo.after hostOps0_4 (StableHlo.after hostOps0_3
        (StableHlo.after hostOps0_2 (StableHlo.after hostOps0_1 (StableHlo.after hostOps0 (fun b => m (c, b))))))))))))
      (Proc.tc.devRef b) := by
  unfold V
  simp only [hostLines, List.flatten_cons, List.flatten_nil, List.append_nil, StableHlo.after_append]

/-- The table of groups. -/
theorem V_v27 (c : Dev nD) : V m c main_v27 = Tables.grpT (V m c main_arg2) := by
  rw [V_main_arg2, V_steps]
  rw [rd10_v27, rd9_v27, rd8_v27, rd7_v12, rd6_v11, rd5_c_4, rd5_v10, rd5_v4, rd4_v2, rd4_v4, rd4_v9, rd3_c_3, rd3_v2, rd3_v4, rd3_v8, rd2_arg2, rd2_v0, rd2_v2, rd1_arg2, rd1_c, rd1_v0, rd1_v1, rd0_arg2, rd0_v0]
  rfl
/-- The table of tiles. -/
theorem V_v44 (c : Dev nD) : V m c main_v44 = Tables.tileT (V m c main_arg2) := by
  rw [V_main_arg2, V_steps]
  rw [rd10_v44, rd9_v44, rd8_v44, rd7_v11, rd7_v12, rd7_v2, rd6_v11, rd6_v2, rd5_c_4, rd5_v10, rd5_v2, rd5_v4, rd4_v2, rd4_v4, rd4_v9, rd3_c_3, rd3_v2, rd3_v4, rd3_v8, rd2_arg2, rd2_v0, rd2_v2, rd1_arg2, rd1_c, rd1_v0, rd1_v1, rd0_arg2, rd0_v0]
  rfl
/-- The table of first rows. -/
theorem V_v56 (c : Dev nD) : V m c main_v56 = Tables.loT (V m c main_arg2) := by
  rw [V_main_arg2, V_steps]
  rw [rd10_v56, rd9_v56, rd8_v56, rd7_v1, rd7_v11, rd7_v12, rd7_v2, rd6_v1, rd6_v11, rd6_v2, rd5_c_4, rd5_v1, rd5_v10, rd5_v2, rd5_v4, rd4_v1, rd4_v2, rd4_v4, rd4_v9, rd3_c_3, rd3_v1, rd3_v2, rd3_v4, rd3_v8, rd2_arg2, rd2_v0, rd2_v1, rd2_v2, rd1_arg2, rd1_c, rd1_v0, rd1_v1, rd0_arg2, rd0_v0]
  rfl
/-- The table of last rows. -/
theorem V_v71 (c : Dev nD) : V m c main_v71 = Tables.hiT (V m c main_arg2) := by
  rw [V_main_arg2, V_steps]
  rw [rd10_v71, rd9_v71, rd8_c_20, rd8_v68, rd8_v70, rd7_v0, rd7_v11, rd7_v12, rd7_v2, rd6_v0, rd6_v11, rd6_v2, rd5_c_4, rd5_v0, rd5_v10, rd5_v2, rd5_v4, rd4_v0, rd4_v2, rd4_v4, rd4_v9, rd3_c_3, rd3_v0, rd3_v2, rd3_v4, rd3_v8, rd2_arg2, rd2_v0, rd2_v2, rd1_arg2, rd1_c, rd1_v0, rd1_v1, rd0_arg2, rd0_v0]
  rfl
/-- The fifth table. -/
theorem V_v73 (c : Dev nD) : V m c main_v73 = Tables.lo0T (V m c main_arg2) := by
  rw [V_main_arg2, V_steps]
  rw [rd10_v73, rd9_v56, rd8_v56, rd7_v1, rd7_v11, rd7_v12, rd7_v2, rd6_v1, rd6_v11, rd6_v2, rd5_c_4, rd5_v1, rd5_v10, rd5_v2, rd5_v4, rd4_v1, rd4_v2, rd4_v4, rd4_v9, rd3_c_3, rd3_v1, rd3_v2, rd3_v4, rd3_v8, rd2_arg2, rd2_v0, rd2_v1, rd2_v2, rd1_arg2, rd1_c, rd1_v0, rd1_v1, rd0_arg2, rd0_v0]
  rfl

end Cert.KernelIdeal.Body
-- ==== Proof.KernelIdealOk.lean ====
/- The tables hold block numbers inside the arrays, so every transfer of `KernelIdeal` is in bounds; and the block each
   window shows at a grid point, as numbers. -/
module

public import proofs.«01_k».proof.Proof.KernelIdealKit
public import proofs.«01_k».proof.Proof.KernelIdealTables
public import proofs.«01_k».proof.Proof.Sizes
public import Idealize.ShloMosaic.Lib.Affine

@[expose] public section

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx

variable {F : FTy → Type} [FloatOps F]
variable (m : (ℓ : Loc nD τ sig) → Buf (Elt F) ℓ)

/-- The group sizes the program is given. -/
abbrev szs : ℕ → ℕ := Sizes.szOf (V m 0 main_arg2)

/-- The visit of a grid point. -/
abbrev vOf (i : grid0.Coords) : ℕ := (i 1).val

theorem off_eq (i : grid0.Coords) (a : Fin 1) : ((Rect.unit (s := S39) (k0_off1 i) S1.size (k0_off1_inb i)).emb (Shape.Idx.first (numel1_S1.symm ▸ Nat.one_pos)) a).val = (i 1).val := by
  have h : ∀ a, k0_off1 i a = (i 1).val := by
    intro a
    have hi : (i 1).val < 39 := (i 1).isLt
    have ha : a = 0 := Subsingleton.elim _ _
    subst ha
    show (Scalar.indexCast (BitVec.ofNat 32 (i 1).val)).toNat = (i 1).val
    exact Affine.nat_eq (Affine.indexCast (Affine.ofNat _ (by omega) : Affine.IsInt _ ((i 1).val : Int))) _ rfl
  have ha : a = 0 := Subsingleton.elim _ _
  subst ha
  have h1 : ((Shape.Idx.first (numel1_S1.symm ▸ Nat.one_pos) : S1.Idx) 0).val < 1 := ((Shape.Idx.first (numel1_S1.symm ▸ Nat.one_pos) : S1.Idx) 0).isLt
  show k0_off1 i 0 + 1 * ((Shape.Idx.first (numel1_S1.symm ▸ Nat.one_pos) : S1.Idx) 0).val = _
  rw [h]
  omega

theorem emb_eq (i : grid0.Coords) : (Rect.unit (s := S39) (k0_off1 i) S1.size (k0_off1_inb i)).emb (Shape.Idx.first (numel1_S1.symm ▸ Nat.one_pos)) = ix1 (n := 39) (i 1) := by
  funext a
  have ha : a = 0 := Subsingleton.elim _ _
  subst ha
  exact Fin.ext (off_eq i 0)

theorem tr_0_of (pf : pre0.Contents (Elt F)) (i : grid0.Coords) (g : ℕ)
    (h : (pf.at 1 (Rect.unit (s := S39) (k0_off1 i) S1.size (k0_off1_inb i)) numel1_S1).toNat = g) :
    cc0_transform_0 k0_off1_inb numel1_S1 pf i = ![g, 0] := by
  subst h
  have h0 : (BitVec.ofNat 32 (i 0).val).toNat = (i 0).val := by
    rw [BitVec.toNat_ofNat]; exact Nat.mod_eq_of_lt (by have h : (i 0).val < 32 := (i 0).isLt; omega)
  show ![(pf.at 1 (Rect.unit (s := S39) (k0_off1 i) S1.size (k0_off1_inb i)) numel1_S1).toNat, (0#32).toNat] = _
  rfl

theorem tr_1_of (pf : pre0.Contents (Elt F)) (i : grid0.Coords) (g : ℕ)
    (h : (pf.at 1 (Rect.unit (s := S39) (k0_off1 i) S1.size (k0_off1_inb i)) numel1_S1).toNat = g) :
    cc0_transform_1 k0_off1_inb numel1_S1 pf i = ![g, 0] := by
  subst h
  have h0 : (BitVec.ofNat 32 (i 0).val).toNat = (i 0).val := by
    rw [BitVec.toNat_ofNat]; exact Nat.mod_eq_of_lt (by have h : (i 0).val < 32 := (i 0).isLt; omega)
  show ![(pf.at 1 (Rect.unit (s := S39) (k0_off1 i) S1.size (k0_off1_inb i)) numel1_S1).toNat, (0#32).toNat] = _
  rfl

theorem tr_2_of (pf : pre0.Contents (Elt F)) (i : grid0.Coords) (g : ℕ)
    (h : (pf.at 0 (Rect.unit (s := S39) (k0_off1 i) S1.size (k0_off1_inb i)) numel1_S1).toNat = g) :
    cc0_transform_2 k0_off1_inb numel1_S1 pf i = ![g, 0, (i 0).val] := by
  subst h
  have h0 : (BitVec.ofNat 32 (i 0).val).toNat = (i 0).val := by
    rw [BitVec.toNat_ofNat]; exact Nat.mod_eq_of_lt (by have h : (i 0).val < 32 := (i 0).isLt; omega)
  show ![(pf.at 0 (Rect.unit (s := S39) (k0_off1 i) S1.size (k0_off1_inb i)) numel1_S1).toNat, (0#32).toNat, (BitVec.ofNat 32 (i 0).val).toNat] = _
  rw [h0]; rfl

theorem tr_3_of (pf : pre0.Contents (Elt F)) (i : grid0.Coords) (g : ℕ)
    (h : (pf.at 0 (Rect.unit (s := S39) (k0_off1 i) S1.size (k0_off1_inb i)) numel1_S1).toNat = g) :
    cc0_transform_3 k0_off1_inb numel1_S1 pf i = ![g, 0, 0] := by
  subst h
  have h0 : (BitVec.ofNat 32 (i 0).val).toNat = (i 0).val := by
    rw [BitVec.toNat_ofNat]; exact Nat.mod_eq_of_lt (by have h : (i 0).val < 32 := (i 0).isLt; omega)
  show ![(pf.at 0 (Rect.unit (s := S39) (k0_off1 i) S1.size (k0_off1_inb i)) numel1_S1).toNat, (0#32).toNat, (0#32).toNat] = _
  rfl

theorem tr_4_of (pf : pre0.Contents (Elt F)) (i : grid0.Coords) (g : ℕ)
    (h : (pf.at 0 (Rect.unit (s := S39) (k0_off1 i) S1.size (k0_off1_inb i)) numel1_S1).toNat = g) :
    cc0_transform_4 k0_off1_inb numel1_S1 pf i = ![g, 0, (i 0).val] := by
  subst h
  have h0 : (BitVec.ofNat 32 (i 0).val).toNat = (i 0).val := by
    rw [BitVec.toNat_ofNat]; exact Nat.mod_eq_of_lt (by have h : (i 0).val < 32 := (i 0).isLt; omega)
  show ![(pf.at 0 (Rect.unit (s := S39) (k0_off1 i) S1.size (k0_off1_inb i)) numel1_S1).toNat, (0#32).toNat, (BitVec.ofNat 32 (i 0).val).toNat] = _
  rw [h0]; rfl

theorem tr_5_of (pf : pre0.Contents (Elt F)) (i : grid0.Coords) (g : ℕ)
    (h : (pf.at 0 (Rect.unit (s := S39) (k0_off1 i) S1.size (k0_off1_inb i)) numel1_S1).toNat = g) :
    cc0_transform_5 k0_off1_inb numel1_S1 pf i = ![g, 0, 0] := by
  subst h
  have h0 : (BitVec.ofNat 32 (i 0).val).toNat = (i 0).val := by
    rw [BitVec.toNat_ofNat]; exact Nat.mod_eq_of_lt (by have h : (i 0).val < 32 := (i 0).isLt; omega)
  show ![(pf.at 0 (Rect.unit (s := S39) (k0_off1 i) S1.size (k0_off1_inb i)) numel1_S1).toNat, (0#32).toNat, (0#32).toNat] = _
  rfl

theorem tr_6_of (pf : pre0.Contents (Elt F)) (i : grid0.Coords) (g : ℕ)
    (h : (pf.at 0 (Rect.unit (s := S39) (k0_off1 i) S1.size (k0_off1_inb i)) numel1_S1).toNat = g) :
    cc0_transform_6 k0_off1_inb numel1_S1 pf i = ![g, 0, (i 0).val] := by
  subst h
  have h0 : (BitVec.ofNat 32 (i 0).val).toNat = (i 0).val := by
    rw [BitVec.toNat_ofNat]; exact Nat.mod_eq_of_lt (by have h : (i 0).val < 32 := (i 0).isLt; omega)
  show ![(pf.at 0 (Rect.unit (s := S39) (k0_off1 i) S1.size (k0_off1_inb i)) numel1_S1).toNat, (0#32).toNat, (BitVec.ofNat 32 (i 0).val).toNat] = _
  rw [h0]; rfl

theorem tr_7_of (pf : pre0.Contents (Elt F)) (i : grid0.Coords) (g : ℕ)
    (h : (pf.at 0 (Rect.unit (s := S39) (k0_off1 i) S1.size (k0_off1_inb i)) numel1_S1).toNat = g) :
    cc0_transform_7 k0_off1_inb numel1_S1 pf i = ![g, 0, (i 0).val] := by
  subst h
  have h0 : (BitVec.ofNat 32 (i 0).val).toNat = (i 0).val := by
    rw [BitVec.toNat_ofNat]; exact Nat.mod_eq_of_lt (by have h : (i 0).val < 32 := (i 0).isLt; omega)
  show ![(pf.at 0 (Rect.unit (s := S39) (k0_off1 i) S1.size (k0_off1_inb i)) numel1_S1).toNat, (0#32).toNat, (BitVec.ofNat 32 (i 0).val).toNat] = _
  rw [h0]; rfl

theorem tr_8_of (pf : pre0.Contents (Elt F)) (i : grid0.Coords) (g : ℕ)
    (h : (pf.at 1 (Rect.unit (s := S39) (k0_off1 i) S1.size (k0_off1_inb i)) numel1_S1).toNat = g) :
    cc0_transform_8 k0_off1_inb numel1_S1 pf i = ![g, (i 0).val] := by
  subst h
  have h0 : (BitVec.ofNat 32 (i 0).val).toNat = (i 0).val := by
    rw [BitVec.toNat_ofNat]; exact Nat.mod_eq_of_lt (by have h : (i 0).val < 32 := (i 0).isLt; omega)
  show ![(pf.at 1 (Rect.unit (s := S39) (k0_off1 i) S1.size (k0_off1_inb i)) numel1_S1).toNat, (BitVec.ofNat 32 (i 0).val).toNat] = _
  rw [h0]

theorem tr_9_of (pf : pre0.Contents (Elt F)) (i : grid0.Coords) (g : ℕ)
    (h : (pf.at 1 (Rect.unit (s := S39) (k0_off1 i) S1.size (k0_off1_inb i)) numel1_S1).toNat = g) :
    cc0_transform_9 k0_off1_inb numel1_S1 pf i = ![(i 0).val, g, 0] := by
  subst h
  have h0 : (BitVec.ofNat 32 (i 0).val).toNat = (i 0).val := by
    rw [BitVec.toNat_ofNat]; exact Nat.mod_eq_of_lt (by have h : (i 0).val < 32 := (i 0).isLt; omega)
  show ![(BitVec.ofNat 32 (i 0).val).toNat, (pf.at 1 (Rect.unit (s := S39) (k0_off1 i) S1.size (k0_off1_inb i)) numel1_S1).toNat, (0#32).toNat] = _
  rw [h0]; rfl
section
variable (hs : Visits.pre (szs m) 8 = 16384)
include hs

theorem tbl_grp (i : grid0.Coords) : (tbl m).at 0 (Rect.unit (s := S39) (k0_off1 i) S1.size (k0_off1_inb i)) numel1_S1 = BitVec.ofNat 32 (Visits.grp (szs m) (vOf i)) := by
  have h : tbl m 0 = Tables.grpT (V m 0 main_arg2) := V_v27 m 0
  exact (congrFun h _).trans ((congrArg (Tables.grpT (V m 0 main_arg2)) (emb_eq i)).trans (Tables.grpT_at (Sizes.szOf_at _) hs (i 1)))

theorem tbl_tile (i : grid0.Coords) : (tbl m).at 1 (Rect.unit (s := S39) (k0_off1 i) S1.size (k0_off1_inb i)) numel1_S1 = BitVec.ofNat 32 (Visits.tile (szs m) (vOf i)) := by
  have h : tbl m 1 = Tables.tileT (V m 0 main_arg2) := V_v44 m 0
  exact (congrFun h _).trans ((congrArg (Tables.tileT (V m 0 main_arg2)) (emb_eq i)).trans (Tables.tileT_at (Sizes.szOf_at _) hs (i 1)))

theorem tbl_lo (i : grid0.Coords) : (tbl m).at 2 (Rect.unit (s := S39) (k0_off1 i) S1.size (k0_off1_inb i)) numel1_S1 = BitVec.ofNat 32 (Visits.lo (szs m) (vOf i)) := by
  have h : tbl m 2 = Tables.loT (V m 0 main_arg2) := V_v56 m 0
  exact (congrFun h _).trans ((congrArg (Tables.loT (V m 0 main_arg2)) (emb_eq i)).trans (Tables.loT_at (Sizes.szOf_at _) hs (i 1)))

theorem tbl_hi (i : grid0.Coords) : (tbl m).at 3 (Rect.unit (s := S39) (k0_off1 i) S1.size (k0_off1_inb i)) numel1_S1 = BitVec.ofNat 32 (Visits.hi (szs m) (vOf i)) := by
  have h : tbl m 3 = Tables.hiT (V m 0 main_arg2) := V_v71 m 0
  exact (congrFun h _).trans ((congrArg (Tables.hiT (V m 0 main_arg2)) (emb_eq i)).trans (Tables.hiT_at (Sizes.szOf_at _) hs (i 1)))

theorem grp8 (i : grid0.Coords) : Visits.grp (szs m) (vOf i) < 8 := (Visits.grp_spec (by omega) _).1
theorem tile32 (i : grid0.Coords) : Visits.tile (szs m) (vOf i) < 32 := Visits.tile_lt hs _

/-- The block window 0 shows. -/
theorem tr_0 (i : grid0.Coords) : cc0_transform_0 k0_off1_inb numel1_S1 (tbl m) i = ![Visits.tile (szs m) (vOf i), 0] := by
  refine tr_0_of (tbl m) i _ ?_
  rw [tbl_tile m hs i, BitVec.toNat_ofNat]
  exact Nat.mod_eq_of_lt (by have := tile32 m hs i; omega)

/-- The block window 1 shows. -/
theorem tr_1 (i : grid0.Coords) : cc0_transform_1 k0_off1_inb numel1_S1 (tbl m) i = ![Visits.tile (szs m) (vOf i), 0] := by
  refine tr_1_of (tbl m) i _ ?_
  rw [tbl_tile m hs i, BitVec.toNat_ofNat]
  exact Nat.mod_eq_of_lt (by have := tile32 m hs i; omega)

/-- The block window 2 shows. -/
theorem tr_2 (i : grid0.Coords) : cc0_transform_2 k0_off1_inb numel1_S1 (tbl m) i = ![Visits.grp (szs m) (vOf i), 0, (i 0).val] := by
  refine tr_2_of (tbl m) i _ ?_
  rw [tbl_grp m hs i, BitVec.toNat_ofNat]
  exact Nat.mod_eq_of_lt (by have := grp8 m hs i; omega)

/-- The block window 3 shows. -/
theorem tr_3 (i : grid0.Coords) : cc0_transform_3 k0_off1_inb numel1_S1 (tbl m) i = ![Visits.grp (szs m) (vOf i), 0, 0] := by
  refine tr_3_of (tbl m) i _ ?_
  rw [tbl_grp m hs i, BitVec.toNat_ofNat]
  exact Nat.mod_eq_of_lt (by have := grp8 m hs i; omega)

/-- The block window 4 shows. -/
theorem tr_4 (i : grid0.Coords) : cc0_transform_4 k0_off1_inb numel1_S1 (tbl m) i = ![Visits.grp (szs m) (vOf i), 0, (i 0).val] := by
  refine tr_4_of (tbl m) i _ ?_
  rw [tbl_grp m hs i, BitVec.toNat_ofNat]
  exact Nat.mod_eq_of_lt (by have := grp8 m hs i; omega)

/-- The block window 5 shows. -/
theorem tr_5 (i : grid0.Coords) : cc0_transform_5 k0_off1_inb numel1_S1 (tbl m) i = ![Visits.grp (szs m) (vOf i), 0, 0] := by
  refine tr_5_of (tbl m) i _ ?_
  rw [tbl_grp m hs i, BitVec.toNat_ofNat]
  exact Nat.mod_eq_of_lt (by have := grp8 m hs i; omega)

/-- The block window 6 shows. -/
theorem tr_6 (i : grid0.Coords) : cc0_transform_6 k0_off1_inb numel1_S1 (tbl m) i = ![Visits.grp (szs m) (vOf i), 0, (i 0).val] := by
  refine tr_6_of (tbl m) i _ ?_
  rw [tbl_grp m hs i, BitVec.toNat_ofNat]
  exact Nat.mod_eq_of_lt (by have := grp8 m hs i; omega)

/-- The block window 7 shows. -/
theorem tr_7 (i : grid0.Coords) : cc0_transform_7 k0_off1_inb numel1_S1 (tbl m) i = ![Visits.grp (szs m) (vOf i), 0, (i 0).val] := by
  refine tr_7_of (tbl m) i _ ?_
  rw [tbl_grp m hs i, BitVec.toNat_ofNat]
  exact Nat.mod_eq_of_lt (by have := grp8 m hs i; omega)

/-- The block window 8 shows. -/
theorem tr_8 (i : grid0.Coords) : cc0_transform_8 k0_off1_inb numel1_S1 (tbl m) i = ![Visits.tile (szs m) (vOf i), (i 0).val] := by
  refine tr_8_of (tbl m) i _ ?_
  rw [tbl_tile m hs i, BitVec.toNat_ofNat]
  exact Nat.mod_eq_of_lt (by have := tile32 m hs i; omega)

/-- The block window 9 shows. -/
theorem tr_9 (i : grid0.Coords) : cc0_transform_9 k0_off1_inb numel1_S1 (tbl m) i = ![(i 0).val, Visits.tile (szs m) (vOf i), 0] := by
  refine tr_9_of (tbl m) i _ ?_
  rw [tbl_tile m hs i, BitVec.toNat_ofNat]
  exact Nat.mod_eq_of_lt (by have := tile32 m hs i; omega)

/-- Every block is inside its array and made of whole words. -/
theorem ok_of_sum : Ok m := by
  have hn : ∀ i : grid0.Coords, (i 0).val < 32 := fun i => (i 0).isLt
  have hg := grp8 m hs
  have ht := tile32 m hs
  refine ⟨?_, ?_, ?_, ?_, ?_, ?_, ?_, ?_, ?_, ?_⟩
  · intro i
    have h1 := hn i; have h2 := hg i; have h3 := ht i
    refine ⟨?_, ?_⟩
    · intro a
      rw [tr_0 m hs i]
      match a with
      | ⟨0, _⟩ => show (Visits.tile (szs m) (vOf i) + 1) * 512 ≤ 16384; omega
      | ⟨1, _⟩ => show (0 + 1) * 5120 ≤ 5120; omega
      | ⟨_ + 2, h⟩ => exact absurd h (Nat.not_lt.2 (Nat.le_add_left _ _))
    · right
      exact Affine.words_of_packed (Affine.packed_dvd (by decide) (Dvd.dvd.mul_left (by decide) _) (by decide))
  · intro i
    have h1 := hn i; have h2 := hg i; have h3 := ht i
    refine ⟨?_, ?_⟩
    · intro a
      rw [tr_1 m hs i]
      match a with
      | ⟨0, _⟩ => show (Visits.tile (szs m) (vOf i) + 1) * 512 ≤ 16384; omega
      | ⟨1, _⟩ => show (0 + 1) * 40 ≤ 40; omega
      | ⟨_ + 2, h⟩ => exact absurd h (Nat.not_lt.2 (Nat.le_add_left _ _))
    · exact Or.inl rfl
  · intro i
    have h1 := hn i; have h2 := hg i; have h3 := ht i
    refine ⟨?_, ?_⟩
    · intro a
      rw [tr_2 m hs i]
      match a with
      | ⟨0, _⟩ => show (Visits.grp (szs m) (vOf i) + 1) * 1 ≤ 8; omega
      | ⟨1, _⟩ => show (0 + 1) * 5120 ≤ 5120; omega
      | ⟨2, _⟩ => show ((i 0).val + 1) * 256 ≤ 8192; omega
      | ⟨_ + 3, h⟩ => exact absurd h (Nat.not_lt.2 (Nat.le_add_left _ _))
    · right
      refine Affine.words_rows (by decide) ?_ rfl
      show cc0_transform_2 k0_off1_inb numel1_S1 (tbl m) i 1 * 5120 = 0
      rw [tr_2 m hs i]; rfl
  · intro i
    have h1 := hn i; have h2 := hg i; have h3 := ht i
    refine ⟨?_, ?_⟩
    · intro a
      rw [tr_3 m hs i]
      match a with
      | ⟨0, _⟩ => show (Visits.grp (szs m) (vOf i) + 1) * 1 ≤ 8; omega
      | ⟨1, _⟩ => show (0 + 1) * 40 ≤ 40; omega
      | ⟨2, _⟩ => show (0 + 1) * 64 ≤ 64; omega
      | ⟨_ + 3, h⟩ => exact absurd h (Nat.not_lt.2 (Nat.le_add_left _ _))
    · exact Or.inl rfl
  · intro i
    have h1 := hn i; have h2 := hg i; have h3 := ht i
    refine ⟨?_, ?_⟩
    · intro a
      rw [tr_4 m hs i]
      match a with
      | ⟨0, _⟩ => show (Visits.grp (szs m) (vOf i) + 1) * 1 ≤ 8; omega
      | ⟨1, _⟩ => show (0 + 1) * 5120 ≤ 5120; omega
      | ⟨2, _⟩ => show ((i 0).val + 1) * 256 ≤ 8192; omega
      | ⟨_ + 3, h⟩ => exact absurd h (Nat.not_lt.2 (Nat.le_add_left _ _))
    · right
      refine Affine.words_rows (by decide) ?_ rfl
      show cc0_transform_4 k0_off1_inb numel1_S1 (tbl m) i 1 * 5120 = 0
      rw [tr_4 m hs i]; rfl
  · intro i
    have h1 := hn i; have h2 := hg i; have h3 := ht i
    refine ⟨?_, ?_⟩
    · intro a
      rw [tr_5 m hs i]
      match a with
      | ⟨0, _⟩ => show (Visits.grp (szs m) (vOf i) + 1) * 1 ≤ 8; omega
      | ⟨1, _⟩ => show (0 + 1) * 40 ≤ 40; omega
      | ⟨2, _⟩ => show (0 + 1) * 64 ≤ 64; omega
      | ⟨_ + 3, h⟩ => exact absurd h (Nat.not_lt.2 (Nat.le_add_left _ _))
    · exact Or.inl rfl
  · intro i
    have h1 := hn i; have h2 := hg i; have h3 := ht i
    refine ⟨?_, ?_⟩
    · intro a
      rw [tr_6 m hs i]
      match a with
      | ⟨0, _⟩ => show (Visits.grp (szs m) (vOf i) + 1) * 1 ≤ 8; omega
      | ⟨1, _⟩ => show (0 + 1) * 1 ≤ 1; omega
      | ⟨2, _⟩ => show ((i 0).val + 1) * 256 ≤ 8192; omega
      | ⟨_ + 3, h⟩ => exact absurd h (Nat.not_lt.2 (Nat.le_add_left _ _))
    · exact Or.inl rfl
  · intro i
    have h1 := hn i; have h2 := hg i; have h3 := ht i
    refine ⟨?_, ?_⟩
    · intro a
      rw [tr_7 m hs i]
      match a with
      | ⟨0, _⟩ => show (Visits.grp (szs m) (vOf i) + 1) * 1 ≤ 8; omega
      | ⟨1, _⟩ => show (0 + 1) * 1 ≤ 1; omega
      | ⟨2, _⟩ => show ((i 0).val + 1) * 256 ≤ 8192; omega
      | ⟨_ + 3, h⟩ => exact absurd h (Nat.not_lt.2 (Nat.le_add_left _ _))
    · exact Or.inl rfl
  · intro i
    have h1 := hn i; have h2 := hg i; have h3 := ht i
    refine ⟨?_, ?_⟩
    · intro a
      rw [tr_8 m hs i]
      match a with
      | ⟨0, _⟩ => show (Visits.tile (szs m) (vOf i) + 1) * 512 ≤ 16384; omega
      | ⟨1, _⟩ => show ((i 0).val + 1) * 256 ≤ 8192; omega
      | ⟨_ + 2, h⟩ => exact absurd h (Nat.not_lt.2 (Nat.le_add_left _ _))
    · right
      exact Affine.words_of_packed (Affine.packed_dvd (by decide) (Dvd.dvd.mul_left (by decide) _) (by decide))
  · intro i
    have h1 := hn i; have h2 := hg i; have h3 := ht i
    refine ⟨?_, ?_⟩
    · intro a
      rw [tr_9 m hs i]
      match a with
      | ⟨0, _⟩ => show ((i 0).val + 1) * 1 ≤ 32; omega
      | ⟨1, _⟩ => show (Visits.tile (szs m) (vOf i) + 1) * 512 ≤ 16384; omega
      | ⟨2, _⟩ => show (0 + 1) * 2 ≤ 2; omega
      | ⟨_ + 3, h⟩ => exact absurd h (Nat.not_lt.2 (Nat.le_add_left _ _))
    · exact Or.inl rfl

end

end Cert.KernelIdeal.Body
-- ==== Proof.KernelIdealTiles.lean ====
/- The kernel's body at the extended reals, its scratch buffers: the scaled copies of the rows and of the two weight blocks that the body
   stores piece by piece are the codes times their blocks' scales. -/
module

public import proofs.«01_k».proof.Proof.KernelIdealRun
public import Idealize.ShloMosaic.Lib.Pointwise
public import Idealize.ShloMosaic.Lib.WholeRead
public import Idealize.ShloMosaic.Lib.Pipeline.ValueKit.Tiles

@[expose] public section

set_option maxRecDepth 16384
set_option maxHeartbeats 4000000

noncomputable section

namespace Cert.KernelIdeal.Body

open Cert.KernelIdeal Cert.KernelIdeal.Gen
open Idealize.ShloMosaic Idealize.ShloMosaic.TcCoe

/-- A row's code times the scale of its block of 128 columns. -/
def XB (x0 : Vec Ideal S512x5120 .fp8e4m3) (x1 : Vec Ideal S512x40 .f32) (r : Fin 512) (k : Fin 5120) : EReal :=
  x0 (ix2 r k) * x1 (ix2 r ⟨k.val / 128, by omega⟩)

/-- A weight's code times the scale of its 128 by 128 block; `n` numbers the blocks of 256 columns. -/
def WB (n : Fin 32) (x2 : Vec Ideal S1x5120x256 .fp8e4m3) (x3 : Vec Ideal S1x40x64 .f32) (k : Fin 5120) (l : Fin 256) : EReal :=
  x2 (ix3 0 k l) * x3 (ix3 0 ⟨k.val / 128, by omega⟩ ⟨2 * n.val + l.val / 128, by omega⟩)

/-- The piece `k` of the scaled rows, as the body computes it. -/
def pieceX (k : ℕ) (v7 : Vec Ideal S512x5120 .fp8e4m3) (v8 : Vec Ideal S512x40 .f32) (h7 : S512x5120.Slices ![0, 128 * k] S512x128)
    (h8 : S512x40.Slices ![0, k] S512x1) : FVec Ideal S512x128 .bf16 :=
  have v9 : FVec Ideal S512x1 .f32 := extractStridedSlice S512x1 ![0, k] v8 h8
  have v10 : FVec Ideal S512x1 .f32 := shapeCast S512x1 v9 shapeCasts_S512x1_S512x1
  have v11 : FVec Ideal S512x128 .f32 := broadcastTo S512x128 v10 broadcasts_S512x1_S512x128
  have v12 : FVec Ideal S512x128 .fp8e4m3 := extractStridedSlice S512x128 ![0, 128 * k] v7 h7
  have v13 : FVec Ideal S512x128 .bf16 := extf .bf16 v12 bitsLt_fp8e4m3_bf16
  have v14 : FVec Ideal S512x128 .bf16 := truncf .bf16 v11 bitsLt_bf16_f32
  have v15 : FVec Ideal S512x128 .bf16 := mulf v13 v14
  have v16 : FVec Ideal S512x128 .bf16 := shapeCast S512x128 v15 shapeCasts_S512x128_S512x128
  v16

/-- That piece is the scaled rows' columns `128 k` to `128 k + 127`. -/
theorem tileX (k : ℕ) (v7 : Vec Ideal S512x5120 .fp8e4m3) (v8 : Vec Ideal S512x40 .f32) (h7) (h8) (y : S512x5120.Idx) :
    View.TileAt (Val := Elt Ideal) (S := S512x5120) (e := .bf16) y ![0, 128 * k] S512x128.size (pieceX k v7 v8 h7 h8) (XB v7 v8 (y 0) (y 1)) := by
  intro x hx
  idx_vars x
  idx_vars y
  have e0 := hx 0
  have e1 := hx 1
  unfold XB pieceX
  pointwise
  have e0' : y0.val = 0 + x0.val := e0
  have e1' : y1.val = 128 * k + x1.val := e1
  obtain rfl : y0 = x0 := Fin.ext (by omega)
  rw [show y1 = ⟨128 * k + x1.val, e1' ▸ y1.isLt⟩ from Fin.ext e1']
  refine congrArg (v7 _ * v8 ·) (congrArg (ix2 y0) (Fin.ext ?_))
  show k = (128 * k + x1.val) / 128
  omega

/-- A scale read out of its array. -/
theorem scal (kb nb : ℕ) (n : Fin 32) (hk : kb < 40) (hn : nb < 2) (m : Memref sig .tc .smem S1x40x64 .f32) (hm : m.IsWhole) (x3 : Vec Ideal S1x40x64 .f32) (off : Fin 3 → ℕ)
    (inb : ∀ a, off a + S1x1x1.size a ≤ S1x40x64.size a) (h0) (h : off = ![0, kb, 2 * n.val + nb]) :
    View.readAt (Elt Ideal) m.view (Rect.unit (s := S1x40x64) off S1x1x1.size inb).toLoadRect (hm.unread x3) (Shape.Idx.first h0)
      = x3 (ix3 0 ⟨kb, hk⟩ ⟨2 * n.val + nb, by omega⟩) := by
  subst h
  rw [hm.readAt_unread]
  refine congrArg x3 (funext fun a => Fin.ext ?_)
  match a with
  | ⟨0, _⟩ => rfl
  | ⟨1, _⟩ => rfl
  | ⟨2, _⟩ => rfl

/-- The piece `(kb, nb)` of a scaled weight block, as the body computes it. -/
def pieceW (s : Elt Ideal .f32) (v : Vec Ideal S1x128x128 .fp8e4m3) : FVec Ideal S128x128 .bf16 :=
  have v1440 : FVec Ideal S128x128 .f32 := broadcast S128x128 s
  have v1441 : FVec Ideal S128x128 .bf16 := truncf .bf16 v1440 bitsLt_bf16_f32
  have v1443 : FVec Ideal S128x128 .fp8e4m3 := shapeCast S128x128 v shapeCasts_S1x128x128_S128x128
  have v1444 : FVec Ideal S128x128 .bf16 := extf .bf16 v1443 bitsLt_fp8e4m3_bf16
  have v1445 : FVec Ideal S128x128 .bf16 := mulf v1444 v1441
  have v1448 : FVec Ideal S128x128 .bf16 := shapeCast S128x128 v1445 shapeCasts_S128x128_S128x128
  v1448

/-- That piece is the scaled weights' rows `128 kb` to `128 kb + 127` and columns `128 nb` to `128 nb + 127`. -/
theorem tileW (kb nb : ℕ) (n : Fin 32) (hk : kb < 40) (hn : nb < 2) (m : Memref sig .tc .vmem S1x5120x256 .fp8e4m3) (hm : m.IsWhole)
    (x2 : Vec Ideal S1x5120x256 .fp8e4m3) (x3 : Vec Ideal S1x40x64 .f32)
    (s : Elt Ideal .f32) (hs : s = x3 (ix3 0 ⟨kb, hk⟩ ⟨2 * n.val + nb, by omega⟩))
    (inb : ∀ a, ![0, 128 * kb, 128 * nb] a + S1x128x128.size a ≤ S1x5120x256.size a) (y : S5120x256.Idx) :
    View.TileAt (Val := Elt Ideal) (S := S5120x256) (e := .bf16) y ![128 * kb, 128 * nb] S128x128.size
      (pieceW s (View.readAt (Elt Ideal) m.view (Rect.unit (s := S1x5120x256) ![0, 128 * kb, 128 * nb] S1x128x128.size inb).toLoadRect (hm.unread x2)))
      (WB n x2 x3 (y 0) (y 1)) := by
  subst hs
  intro x hx
  idx_vars x
  idx_vars y
  have e0 := hx 0
  have e1 := hx 1
  unfold WB pieceW
  pointwise
  rw [hm.readAt_unread]
  pointwise
  have e0' : y0.val = 128 * kb + x0.val := e0
  have e1' : y1.val = 128 * nb + x1.val := e1
  rw [show y0 = ⟨128 * kb + x0.val, e0' ▸ y0.isLt⟩ from Fin.ext e0', show y1 = ⟨128 * nb + x1.val, e1' ▸ y1.isLt⟩ from Fin.ext e1']
  refine congrArg (x2 _ * x3 ·) (congrArg₂ (ix3 0) (Fin.ext ?_) (Fin.ext ?_))
  · show kb = (128 * kb + x0.val) / 128
    omega
  · show 2 * n.val + nb = 2 * n.val + (128 * nb + x1.val) / 128
    omega

section
variable (c : Dev nD) (i : grid0.Coords)

/-- The whole loads of the rows' codes and scales. -/
theorem load0 (arg7 : Memref sig .tc .vmem S512x5120 .fp8e4m3) (harg7 : arg7.IsWhole) (x0 : Vec Ideal S512x5120 .fp8e4m3) :
    kernelRun0_V.sl.r_2 c arg7 harg7 x0 = x0 := by
  funext x
  unfold kernelRun0_V.sl.r_2
  idx_vars x
  rw [harg7.readAt_unread]
  pointwise

theorem load1 (arg8 : Memref sig .tc .vmem S512x40 .f32) (harg8 : arg8.IsWhole) (x1 : Vec Ideal S512x40 .f32) :
    kernelRun0_V.sl.r_3 c arg8 harg8 x1 = x1 := by
  funext x
  unfold kernelRun0_V.sl.r_3
  idx_vars x
  rw [harg8.readAt_unread]
  pointwise

/-- The scaled rows. -/
theorem xb_at (arg7 : Memref sig .tc .vmem S512x5120 .fp8e4m3) (harg7 : arg7.IsWhole) (arg8 : Memref sig .tc .vmem S512x40 .f32) (harg8 : arg8.IsWhole)
    (x0 : Vec Ideal S512x5120 .fp8e4m3) (x1 : Vec Ideal S512x40 .f32) (y : S512x5120.Idx) :
    View.canon (kernelRun0_V.sl.HS0_40 (F := Ideal) c arg7 harg7 arg8 harg8 x0 x1) y = XB x0 x1 (y 0) (y 1) := by
  refine View.canon_eq_of_allAt _ y _ (View.cover_of_tiled_head _ _ _ rfl y) ?_
  have h0 := load0 c arg7 harg7 x0
  have h1 := load1 c arg8 harg8 x1
  suffices h : View.AllAt (kernelRun0_V.sl.HS0_40 (F := Ideal) c arg7 harg7 arg8 harg8 x0 x1) y
      (XB (kernelRun0_V.sl.r_2 c arg7 harg7 x0) (kernelRun0_V.sl.r_3 c arg8 harg8 x1) (y 0) (y 1)) by rwa [h0, h1] at h
  exact
    (View.allAt_cons_unit _ _ _ _ _ (tileX 39 (kernelRun0_V.sl.r_2 c arg7 harg7 x0) (kernelRun0_V.sl.r_3 c arg8 harg8 x1) slices_S512x5120_o0_4992_S512x128 slices_S512x40_o0_39_S512x1 y)
    (View.allAt_cons_unit _ _ _ _ _ (tileX 38 (kernelRun0_V.sl.r_2 c arg7 harg7 x0) (kernelRun0_V.sl.r_3 c arg8 harg8 x1) slices_S512x5120_o0_4864_S512x128 slices_S512x40_o0_38_S512x1 y)
    (View.allAt_cons_unit _ _ _ _ _ (tileX 37 (kernelRun0_V.sl.r_2 c arg7 harg7 x0) (kernelRun0_V.sl.r_3 c arg8 harg8 x1) slices_S512x5120_o0_4736_S512x128 slices_S512x40_o0_37_S512x1 y)
    (View.allAt_cons_unit _ _ _ _ _ (tileX 36 (kernelRun0_V.sl.r_2 c arg7 harg7 x0) (kernelRun0_V.sl.r_3 c arg8 harg8 x1) slices_S512x5120_o0_4608_S512x128 slices_S512x40_o0_36_S512x1 y)
    (View.allAt_cons_unit _ _ _ _ _ (tileX 35 (kernelRun0_V.sl.r_2 c arg7 harg7 x0) (kernelRun0_V.sl.r_3 c arg8 harg8 x1) slices_S512x5120_o0_4480_S512x128 slices_S512x40_o0_35_S512x1 y)
    (View.allAt_cons_unit _ _ _ _ _ (tileX 34 (kernelRun0_V.sl.r_2 c arg7 harg7 x0) (kernelRun0_V.sl.r_3 c arg8 harg8 x1) slices_S512x5120_o0_4352_S512x128 slices_S512x40_o0_34_S512x1 y)
    (View.allAt_cons_unit _ _ _ _ _ (tileX 33 (kernelRun0_V.sl.r_2 c arg7 harg7 x0) (kernelRun0_V.sl.r_3 c arg8 harg8 x1) slices_S512x5120_o0_4224_S512x128 slices_S512x40_o0_33_S512x1 y)
    (View.allAt_cons_unit _ _ _ _ _ (tileX 32 (kernelRun0_V.sl.r_2 c arg7 harg7 x0) (kernelRun0_V.sl.r_3 c arg8 harg8 x1) slices_S512x5120_o0_4096_S512x128 slices_S512x40_o0_32_S512x1 y)
    (View.allAt_cons_unit _ _ _ _ _ (tileX 31 (kernelRun0_V.sl.r_2 c arg7 harg7 x0) (kernelRun0_V.sl.r_3 c arg8 harg8 x1) slices_S512x5120_o0_3968_S512x128 slices_S512x40_o0_31_S512x1 y)
    (View.allAt_cons_unit _ _ _ _ _ (tileX 30 (kernelRun0_V.sl.r_2 c arg7 harg7 x0) (kernelRun0_V.sl.r_3 c arg8 harg8 x1) slices_S512x5120_o0_3840_S512x128 slices_S512x40_o0_30_S512x1 y)
    (View.allAt_cons_unit _ _ _ _ _ (tileX 29 (kernelRun0_V.sl.r_2 c arg7 harg7 x0) (kernelRun0_V.sl.r_3 c arg8 harg8 x1) slices_S512x5120_o0_3712_S512x128 slices_S512x40_o0_29_S512x1 y)
    (View.allAt_cons_unit _ _ _ _ _ (tileX 28 (kernelRun0_V.sl.r_2 c arg7 harg7 x0) (kernelRun0_V.sl.r_3 c arg8 harg8 x1) slices_S512x5120_o0_3584_S512x128 slices_S512x40_o0_28_S512x1 y)
    (View.allAt_cons_unit _ _ _ _ _ (tileX 27 (kernelRun0_V.sl.r_2 c arg7 harg7 x0) (kernelRun0_V.sl.r_3 c arg8 harg8 x1) slices_S512x5120_o0_3456_S512x128 slices_S512x40_o0_27_S512x1 y)
    (View.allAt_cons_unit _ _ _ _ _ (tileX 26 (kernelRun0_V.sl.r_2 c arg7 harg7 x0) (kernelRun0_V.sl.r_3 c arg8 harg8 x1) slices_S512x5120_o0_3328_S512x128 slices_S512x40_o0_26_S512x1 y)
    (View.allAt_cons_unit _ _ _ _ _ (tileX 25 (kernelRun0_V.sl.r_2 c arg7 harg7 x0) (kernelRun0_V.sl.r_3 c arg8 harg8 x1) slices_S512x5120_o0_3200_S512x128 slices_S512x40_o0_25_S512x1 y)
    (View.allAt_cons_unit _ _ _ _ _ (tileX 24 (kernelRun0_V.sl.r_2 c arg7 harg7 x0) (kernelRun0_V.sl.r_3 c arg8 harg8 x1) slices_S512x5120_o0_3072_S512x128 slices_S512x40_o0_24_S512x1 y)
    (View.allAt_cons_unit _ _ _ _ _ (tileX 23 (kernelRun0_V.sl.r_2 c arg7 harg7 x0) (kernelRun0_V.sl.r_3 c arg8 harg8 x1) slices_S512x5120_o0_2944_S512x128 slices_S512x40_o0_23_S512x1 y)
    (View.allAt_cons_unit _ _ _ _ _ (tileX 22 (kernelRun0_V.sl.r_2 c arg7 harg7 x0) (kernelRun0_V.sl.r_3 c arg8 harg8 x1) slices_S512x5120_o0_2816_S512x128 slices_S512x40_o0_22_S512x1 y)
    (View.allAt_cons_unit _ _ _ _ _ (tileX 21 (kernelRun0_V.sl.r_2 c arg7 harg7 x0) (kernelRun0_V.sl.r_3 c arg8 harg8 x1) slices_S512x5120_o0_2688_S512x128 slices_S512x40_o0_21_S512x1 y)
    (View.allAt_cons_unit _ _ _ _ _ (tileX 20 (kernelRun0_V.sl.r_2 c arg7 harg7 x0) (kernelRun0_V.sl.r_3 c arg8 harg8 x1) slices_S512x5120_o0_2560_S512x128 slices_S512x40_o0_20_S512x1 y)
    (View.allAt_cons_unit _ _ _ _ _ (tileX 19 (kernelRun0_V.sl.r_2 c arg7 harg7 x0) (kernelRun0_V.sl.r_3 c arg8 harg8 x1) slices_S512x5120_o0_2432_S512x128 slices_S512x40_o0_19_S512x1 y)
    (View.allAt_cons_unit _ _ _ _ _ (tileX 18 (kernelRun0_V.sl.r_2 c arg7 harg7 x0) (kernelRun0_V.sl.r_3 c arg8 harg8 x1) slices_S512x5120_o0_2304_S512x128 slices_S512x40_o0_18_S512x1 y)
    (View.allAt_cons_unit _ _ _ _ _ (tileX 17 (kernelRun0_V.sl.r_2 c arg7 harg7 x0) (kernelRun0_V.sl.r_3 c arg8 harg8 x1) slices_S512x5120_o0_2176_S512x128 slices_S512x40_o0_17_S512x1 y)
    (View.allAt_cons_unit _ _ _ _ _ (tileX 16 (kernelRun0_V.sl.r_2 c arg7 harg7 x0) (kernelRun0_V.sl.r_3 c arg8 harg8 x1) slices_S512x5120_o0_2048_S512x128 slices_S512x40_o0_16_S512x1 y)
    (View.allAt_cons_unit _ _ _ _ _ (tileX 15 (kernelRun0_V.sl.r_2 c arg7 harg7 x0) (kernelRun0_V.sl.r_3 c arg8 harg8 x1) slices_S512x5120_o0_1920_S512x128 slices_S512x40_o0_15_S512x1 y)
    (View.allAt_cons_unit _ _ _ _ _ (tileX 14 (kernelRun0_V.sl.r_2 c arg7 harg7 x0) (kernelRun0_V.sl.r_3 c arg8 harg8 x1) slices_S512x5120_o0_1792_S512x128 slices_S512x40_o0_14_S512x1 y)
    (View.allAt_cons_unit _ _ _ _ _ (tileX 13 (kernelRun0_V.sl.r_2 c arg7 harg7 x0) (kernelRun0_V.sl.r_3 c arg8 harg8 x1) slices_S512x5120_o0_1664_S512x128 slices_S512x40_o0_13_S512x1 y)
    (View.allAt_cons_unit _ _ _ _ _ (tileX 12 (kernelRun0_V.sl.r_2 c arg7 harg7 x0) (kernelRun0_V.sl.r_3 c arg8 harg8 x1) slices_S512x5120_o0_1536_S512x128 slices_S512x40_o0_12_S512x1 y)
    (View.allAt_cons_unit _ _ _ _ _ (tileX 11 (kernelRun0_V.sl.r_2 c arg7 harg7 x0) (kernelRun0_V.sl.r_3 c arg8 harg8 x1) slices_S512x5120_o0_1408_S512x128 slices_S512x40_o0_11_S512x1 y)
    (View.allAt_cons_unit _ _ _ _ _ (tileX 10 (kernelRun0_V.sl.r_2 c arg7 harg7 x0) (kernelRun0_V.sl.r_3 c arg8 harg8 x1) slices_S512x5120_o0_1280_S512x128 slices_S512x40_o0_10_S512x1 y)
    (View.allAt_cons_unit _ _ _ _ _ (tileX 9 (kernelRun0_V.sl.r_2 c arg7 harg7 x0) (kernelRun0_V.sl.r_3 c arg8 harg8 x1) slices_S512x5120_o0_1152_S512x128 slices_S512x40_o0_9_S512x1 y)
    (View.allAt_cons_unit _ _ _ _ _ (tileX 8 (kernelRun0_V.sl.r_2 c arg7 harg7 x0) (kernelRun0_V.sl.r_3 c arg8 harg8 x1) slices_S512x5120_o0_1024_S512x128 slices_S512x40_o0_8_S512x1 y)
    (View.allAt_cons_unit _ _ _ _ _ (tileX 7 (kernelRun0_V.sl.r_2 c arg7 harg7 x0) (kernelRun0_V.sl.r_3 c arg8 harg8 x1) slices_S512x5120_o0_896_S512x128 slices_S512x40_o0_7_S512x1 y)
    (View.allAt_cons_unit _ _ _ _ _ (tileX 6 (kernelRun0_V.sl.r_2 c arg7 harg7 x0) (kernelRun0_V.sl.r_3 c arg8 harg8 x1) slices_S512x5120_o0_768_S512x128 slices_S512x40_o0_6_S512x1 y)
    (View.allAt_cons_unit _ _ _ _ _ (tileX 5 (kernelRun0_V.sl.r_2 c arg7 harg7 x0) (kernelRun0_V.sl.r_3 c arg8 harg8 x1) slices_S512x5120_o0_640_S512x128 slices_S512x40_o0_5_S512x1 y)
    (View.allAt_cons_unit _ _ _ _ _ (tileX 4 (kernelRun0_V.sl.r_2 c arg7 harg7 x0) (kernelRun0_V.sl.r_3 c arg8 harg8 x1) slices_S512x5120_o0_512_S512x128 slices_S512x40_o0_4_S512x1 y)
    (View.allAt_cons_unit _ _ _ _ _ (tileX 3 (kernelRun0_V.sl.r_2 c arg7 harg7 x0) (kernelRun0_V.sl.r_3 c arg8 harg8 x1) slices_S512x5120_o0_384_S512x128 slices_S512x40_o0_3_S512x1 y)
    (View.allAt_cons_unit _ _ _ _ _ (tileX 2 (kernelRun0_V.sl.r_2 c arg7 harg7 x0) (kernelRun0_V.sl.r_3 c arg8 harg8 x1) slices_S512x5120_o0_256_S512x128 slices_S512x40_o0_2_S512x1 y)
    (View.allAt_cons_unit _ _ _ _ _ (tileX 1 (kernelRun0_V.sl.r_2 c arg7 harg7 x0) (kernelRun0_V.sl.r_3 c arg8 harg8 x1) slices_S512x5120_o0_128_S512x128 slices_S512x40_o0_1_S512x1 y)
    (View.allAt_cons_unit _ _ _ _ _ (tileX 0 (kernelRun0_V.sl.r_2 c arg7 harg7 x0) (kernelRun0_V.sl.r_3 c arg8 harg8 x1) slices_S512x5120_o0_0_S512x128 slices_S512x40_o0_0_S512x1 y)
    (View.allAt_nil _ _)))))))))))))))))))))))))))))))))))))))))

/-- The scaled gate weights. -/
theorem gate_at (arg9 : Memref sig .tc .vmem S1x5120x256 .fp8e4m3) (harg9 : arg9.IsWhole) (arg10 : Memref sig .tc .smem S1x40x64 .f32) (harg10 : arg10.IsWhole)
    (x2 : Vec Ideal S1x5120x256 .fp8e4m3) (x3 : Vec Ideal S1x40x64 .f32) (y : S5120x256.Idx) :
    View.canon (kernelRun0_V.sl.HS1_80 (F := Ideal) c i arg9 harg9 arg10 harg10 x2 x3) y = WB (i 0) x2 x3 (y 0) (y 1) := by
  refine View.canon_eq_of_allAt _ y _ (View.cover_of_tiled_head _ _ _ rfl y) ?_
  exact
    (View.allAt_cons_unit _ _ _ _ _ (tileW 39 1 (i 0) (by decide) (by decide) arg9 harg9 x2 x3 _ (scal 39 1 (i 0) (by decide) (by decide) arg10 harg10 x3 _ _ _ (k0_off41_eq i ⟨1, by decide⟩)) _ y)
    (View.allAt_cons_unit _ _ _ _ _ (tileW 39 0 (i 0) (by decide) (by decide) arg9 harg9 x2 x3 _ (scal 39 0 (i 0) (by decide) (by decide) arg10 harg10 x3 _ _ _ (k0_off41_eq i ⟨0, by decide⟩)) _ y)
    (View.allAt_cons_unit _ _ _ _ _ (tileW 38 1 (i 0) (by decide) (by decide) arg9 harg9 x2 x3 _ (scal 38 1 (i 0) (by decide) (by decide) arg10 harg10 x3 _ _ _ (k0_off40_eq i ⟨1, by decide⟩)) _ y)
    (View.allAt_cons_unit _ _ _ _ _ (tileW 38 0 (i 0) (by decide) (by decide) arg9 harg9 x2 x3 _ (scal 38 0 (i 0) (by decide) (by decide) arg10 harg10 x3 _ _ _ (k0_off40_eq i ⟨0, by decide⟩)) _ y)
    (View.allAt_cons_unit _ _ _ _ _ (tileW 37 1 (i 0) (by decide) (by decide) arg9 harg9 x2 x3 _ (scal 37 1 (i 0) (by decide) (by decide) arg10 harg10 x3 _ _ _ (k0_off39_eq i ⟨1, by decide⟩)) _ y)
    (View.allAt_cons_unit _ _ _ _ _ (tileW 37 0 (i 0) (by decide) (by decide) arg9 harg9 x2 x3 _ (scal 37 0 (i 0) (by decide) (by decide) arg10 harg10 x3 _ _ _ (k0_off39_eq i ⟨0, by decide⟩)) _ y)
    (View.allAt_cons_unit _ _ _ _ _ (tileW 36 1 (i 0) (by decide) (by decide) arg9 harg9 x2 x3 _ (scal 36 1 (i 0) (by decide) (by decide) arg10 harg10 x3 _ _ _ (k0_off38_eq i ⟨1, by decide⟩)) _ y)
    (View.allAt_cons_unit _ _ _ _ _ (tileW 36 0 (i 0) (by decide) (by decide) arg9 harg9 x2 x3 _ (scal 36 0 (i 0) (by decide) (by decide) arg10 harg10 x3 _ _ _ (k0_off38_eq i ⟨0, by decide⟩)) _ y)
    (View.allAt_cons_unit _ _ _ _ _ (tileW 35 1 (i 0) (by decide) (by decide) arg9 harg9 x2 x3 _ (scal 35 1 (i 0) (by decide) (by decide) arg10 harg10 x3 _ _ _ (k0_off37_eq i ⟨1, by decide⟩)) _ y)
    (View.allAt_cons_unit _ _ _ _ _ (tileW 35 0 (i 0) (by decide) (by decide) arg9 harg9 x2 x3 _ (scal 35 0 (i 0) (by decide) (by decide) arg10 harg10 x3 _ _ _ (k0_off37_eq i ⟨0, by decide⟩)) _ y)
    (View.allAt_cons_unit _ _ _ _ _ (tileW 34 1 (i 0) (by decide) (by decide) arg9 harg9 x2 x3 _ (scal 34 1 (i 0) (by decide) (by decide) arg10 harg10 x3 _ _ _ (k0_off36_eq i ⟨1, by decide⟩)) _ y)
    (View.allAt_cons_unit _ _ _ _ _ (tileW 34 0 (i 0) (by decide) (by decide) arg9 harg9 x2 x3 _ (scal 34 0 (i 0) (by decide) (by decide) arg10 harg10 x3 _ _ _ (k0_off36_eq i ⟨0, by decide⟩)) _ y)
    (View.allAt_cons_unit _ _ _ _ _ (tileW 33 1 (i 0) (by decide) (by decide) arg9 harg9 x2 x3 _ (scal 33 1 (i 0) (by decide) (by decide) arg10 harg10 x3 _ _ _ (k0_off35_eq i ⟨1, by decide⟩)) _ y)
    (View.allAt_cons_unit _ _ _ _ _ (tileW 33 0 (i 0) (by decide) (by decide) arg9 harg9 x2 x3 _ (scal 33 0 (i 0) (by decide) (by decide) arg10 harg10 x3 _ _ _ (k0_off35_eq i ⟨0, by decide⟩)) _ y)
    (View.allAt_cons_unit _ _ _ _ _ (tileW 32 1 (i 0) (by decide) (by decide) arg9 harg9 x2 x3 _ (scal 32 1 (i 0) (by decide) (by decide) arg10 harg10 x3 _ _ _ (k0_off34_eq i ⟨1, by decide⟩)) _ y)
    (View.allAt_cons_unit _ _ _ _ _ (tileW 32 0 (i 0) (by decide) (by decide) arg9 harg9 x2 x3 _ (scal 32 0 (i 0) (by decide) (by decide) arg10 harg10 x3 _ _ _ (k0_off34_eq i ⟨0, by decide⟩)) _ y)
    (View.allAt_cons_unit _ _ _ _ _ (tileW 31 1 (i 0) (by decide) (by decide) arg9 harg9 x2 x3 _ (scal 31 1 (i 0) (by decide) (by decide) arg10 harg10 x3 _ _ _ (k0_off33_eq i ⟨1, by decide⟩)) _ y)
    (View.allAt_cons_unit _ _ _ _ _ (tileW 31 0 (i 0) (by decide) (by decide) arg9 harg9 x2 x3 _ (scal 31 0 (i 0) (by decide) (by decide) arg10 harg10 x3 _ _ _ (k0_off33_eq i ⟨0, by decide⟩)) _ y)
    (View.allAt_cons_unit _ _ _ _ _ (tileW 30 1 (i 0) (by decide) (by decide) arg9 harg9 x2 x3 _ (scal 30 1 (i 0) (by decide) (by decide) arg10 harg10 x3 _ _ _ (k0_off32_eq i ⟨1, by decide⟩)) _ y)
    (View.allAt_cons_unit _ _ _ _ _ (tileW 30 0 (i 0) (by decide) (by decide) arg9 harg9 x2 x3 _ (scal 30 0 (i 0) (by decide) (by decide) arg10 harg10 x3 _ _ _ (k0_off32_eq i ⟨0, by decide⟩)) _ y)
    (View.allAt_cons_unit _ _ _ _ _ (tileW 29 1 (i 0) (by decide) (by decide) arg9 harg9 x2 x3 _ (scal 29 1 (i 0) (by decide) (by decide) arg10 harg10 x3 _ _ _ (k0_off31_eq i ⟨1, by decide⟩)) _ y)
    (View.allAt_cons_unit _ _ _ _ _ (tileW 29 0 (i 0) (by decide) (by decide) arg9 harg9 x2 x3 _ (scal 29 0 (i 0) (by decide) (by decide) arg10 harg10 x3 _ _ _ (k0_off31_eq i ⟨0, by decide⟩)) _ y)
    (View.allAt_cons_unit _ _ _ _ _ (tileW 28 1 (i 0) (by decide) (by decide) arg9 harg9 x2 x3 _ (scal 28 1 (i 0) (by decide) (by decide) arg10 harg10 x3 _ _ _ (k0_off30_eq i ⟨1, by decide⟩)) _ y)
    (View.allAt_cons_unit _ _ _ _ _ (tileW 28 0 (i 0) (by decide) (by decide) arg9 harg9 x2 x3 _ (scal 28 0 (i 0) (by decide) (by decide) arg10 harg10 x3 _ _ _ (k0_off30_eq i ⟨0, by decide⟩)) _ y)
    (View.allAt_cons_unit _ _ _ _ _ (tileW 27 1 (i 0) (by decide) (by decide) arg9 harg9 x2 x3 _ (scal 27 1 (i 0) (by decide) (by decide) arg10 harg10 x3 _ _ _ (k0_off29_eq i ⟨1, by decide⟩)) _ y)
    (View.allAt_cons_unit _ _ _ _ _ (tileW 27 0 (i 0) (by decide) (by decide) arg9 harg9 x2 x3 _ (scal 27 0 (i 0) (by decide) (by decide) arg10 harg10 x3 _ _ _ (k0_off29_eq i ⟨0, by decide⟩)) _ y)
    (View.allAt_cons_unit _ _ _ _ _ (tileW 26 1 (i 0) (by decide) (by decide) arg9 harg9 x2 x3 _ (scal 26 1 (i 0) (by decide) (by decide) arg10 harg10 x3 _ _ _ (k0_off28_eq i ⟨1, by decide⟩)) _ y)
    (View.allAt_cons_unit _ _ _ _ _ (tileW 26 0 (i 0) (by decide) (by decide) arg9 harg9 x2 x3 _ (scal 26 0 (i 0) (by decide) (by decide) arg10 harg10 x3 _ _ _ (k0_off28_eq i ⟨0, by decide⟩)) _ y)
    (View.allAt_cons_unit _ _ _ _ _ (tileW 25 1 (i 0) (by decide) (by decide) arg9 harg9 x2 x3 _ (scal 25 1 (i 0) (by decide) (by decide) arg10 harg10 x3 _ _ _ (k0_off27_eq i ⟨1, by decide⟩)) _ y)
    (View.allAt_cons_unit _ _ _ _ _ (tileW 25 0 (i 0) (by decide) (by decide) arg9 harg9 x2 x3 _ (scal 25 0 (i 0) (by decide) (by decide) arg10 harg10 x3 _ _ _ (k0_off27_eq i ⟨0, by decide⟩)) _ y)
    (View.allAt_cons_unit _ _ _ _ _ (tileW 24 1 (i 0) (by decide) (by decide) arg9 harg9 x2 x3 _ (scal 24 1 (i 0) (by decide) (by decide) arg10 harg10 x3 _ _ _ (k0_off26_eq i ⟨1, by decide⟩)) _ y)
    (View.allAt_cons_unit _ _ _ _ _ (tileW 24 0 (i 0) (by decide) (by decide) arg9 harg9 x2 x3 _ (scal 24 0 (i 0) (by decide) (by decide) arg10 harg10 x3 _ _ _ (k0_off26_eq i ⟨0, by decide⟩)) _ y)
    (View.allAt_cons_unit _ _ _ _ _ (tileW 23 1 (i 0) (by decide) (by decide) arg9 harg9 x2 x3 _ (scal 23 1 (i 0) (by decide) (by decide) arg10 harg10 x3 _ _ _ (k0_off25_eq i ⟨1, by decide⟩)) _ y)
    (View.allAt_cons_unit _ _ _ _ _ (tileW 23 0 (i 0) (by decide) (by decide) arg9 harg9 x2 x3 _ (scal 23 0 (i 0) (by decide) (by decide) arg10 harg10 x3 _ _ _ (k0_off25_eq i ⟨0, by decide⟩)) _ y)
    (View.allAt_cons_unit _ _ _ _ _ (tileW 22 1 (i 0) (by decide) (by decide) arg9 harg9 x2 x3 _ (scal 22 1 (i 0) (by decide) (by decide) arg10 harg10 x3 _ _ _ (k0_off24_eq i ⟨1, by decide⟩)) _ y)
    (View.allAt_cons_unit _ _ _ _ _ (tileW 22 0 (i 0) (by decide) (by decide) arg9 harg9 x2 x3 _ (scal 22 0 (i 0) (by decide) (by decide) arg10 harg10 x3 _ _ _ (k0_off24_eq i ⟨0, by decide⟩)) _ y)
    (View.allAt_cons_unit _ _ _ _ _ (tileW 21 1 (i 0) (by decide) (by decide) arg9 harg9 x2 x3 _ (scal 21 1 (i 0) (by decide) (by decide) arg10 harg10 x3 _ _ _ (k0_off23_eq i ⟨1, by decide⟩)) _ y)
    (View.allAt_cons_unit _ _ _ _ _ (tileW 21 0 (i 0) (by decide) (by decide) arg9 harg9 x2 x3 _ (scal 21 0 (i 0) (by decide) (by decide) arg10 harg10 x3 _ _ _ (k0_off23_eq i ⟨0, by decide⟩)) _ y)
    (View.allAt_cons_unit _ _ _ _ _ (tileW 20 1 (i 0) (by decide) (by decide) arg9 harg9 x2 x3 _ (scal 20 1 (i 0) (by decide) (by decide) arg10 harg10 x3 _ _ _ (k0_off22_eq i ⟨1, by decide⟩)) _ y)
    (View.allAt_cons_unit _ _ _ _ _ (tileW 20 0 (i 0) (by decide) (by decide) arg9 harg9 x2 x3 _ (scal 20 0 (i 0) (by decide) (by decide) arg10 harg10 x3 _ _ _ (k0_off22_eq i ⟨0, by decide⟩)) _ y)
    (View.allAt_cons_unit _ _ _ _ _ (tileW 19 1 (i 0) (by decide) (by decide) arg9 harg9 x2 x3 _ (scal 19 1 (i 0) (by decide) (by decide) arg10 harg10 x3 _ _ _ (k0_off21_eq i ⟨1, by decide⟩)) _ y)
    (View.allAt_cons_unit _ _ _ _ _ (tileW 19 0 (i 0) (by decide) (by decide) arg9 harg9 x2 x3 _ (scal 19 0 (i 0) (by decide) (by decide) arg10 harg10 x3 _ _ _ (k0_off21_eq i ⟨0, by decide⟩)) _ y)
    (View.allAt_cons_unit _ _ _ _ _ (tileW 18 1 (i 0) (by decide) (by decide) arg9 harg9 x2 x3 _ (scal 18 1 (i 0) (by decide) (by decide) arg10 harg10 x3 _ _ _ (k0_off20_eq i ⟨1, by decide⟩)) _ y)
    (View.allAt_cons_unit _ _ _ _ _ (tileW 18 0 (i 0) (by decide) (by decide) arg9 harg9 x2 x3 _ (scal 18 0 (i 0) (by decide) (by decide) arg10 harg10 x3 _ _ _ (k0_off20_eq i ⟨0, by decide⟩)) _ y)
    (View.allAt_cons_unit _ _ _ _ _ (tileW 17 1 (i 0) (by decide) (by decide) arg9 harg9 x2 x3 _ (scal 17 1 (i 0) (by decide) (by decide) arg10 harg10 x3 _ _ _ (k0_off19_eq i ⟨1, by decide⟩)) _ y)
    (View.allAt_cons_unit _ _ _ _ _ (tileW 17 0 (i 0) (by decide) (by decide) arg9 harg9 x2 x3 _ (scal 17 0 (i 0) (by decide) (by decide) arg10 harg10 x3 _ _ _ (k0_off19_eq i ⟨0, by decide⟩)) _ y)
    (View.allAt_cons_unit _ _ _ _ _ (tileW 16 1 (i 0) (by decide) (by decide) arg9 harg9 x2 x3 _ (scal 16 1 (i 0) (by decide) (by decide) arg10 harg10 x3 _ _ _ (k0_off18_eq i ⟨1, by decide⟩)) _ y)
    (View.allAt_cons_unit _ _ _ _ _ (tileW 16 0 (i 0) (by decide) (by decide) arg9 harg9 x2 x3 _ (scal 16 0 (i 0) (by decide) (by decide) arg10 harg10 x3 _ _ _ (k0_off18_eq i ⟨0, by decide⟩)) _ y)
    (View.allAt_cons_unit _ _ _ _ _ (tileW 15 1 (i 0) (by decide) (by decide) arg9 harg9 x2 x3 _ (scal 15 1 (i 0) (by decide) (by decide) arg10 harg10 x3 _ _ _ (k0_off17_eq i ⟨1, by decide⟩)) _ y)
    (View.allAt_cons_unit _ _ _ _ _ (tileW 15 0 (i 0) (by decide) (by decide) arg9 harg9 x2 x3 _ (scal 15 0 (i 0) (by decide) (by decide) arg10 harg10 x3 _ _ _ (k0_off17_eq i ⟨0, by decide⟩)) _ y)
    (View.allAt_cons_unit _ _ _ _ _ (tileW 14 1 (i 0) (by decide) (by decide) arg9 harg9 x2 x3 _ (scal 14 1 (i 0) (by decide) (by decide) arg10 harg10 x3 _ _ _ (k0_off16_eq i ⟨1, by decide⟩)) _ y)
    (View.allAt_cons_unit _ _ _ _ _ (tileW 14 0 (i 0) (by decide) (by decide) arg9 harg9 x2 x3 _ (scal 14 0 (i 0) (by decide) (by decide) arg10 harg10 x3 _ _ _ (k0_off16_eq i ⟨0, by decide⟩)) _ y)
    (View.allAt_cons_unit _ _ _ _ _ (tileW 13 1 (i 0) (by decide) (by decide) arg9 harg9 x2 x3 _ (scal 13 1 (i 0) (by decide) (by decide) arg10 harg10 x3 _ _ _ (k0_off15_eq i ⟨1, by decide⟩)) _ y)
    (View.allAt_cons_unit _ _ _ _ _ (tileW 13 0 (i 0) (by decide) (by decide) arg9 harg9 x2 x3 _ (scal 13 0 (i 0) (by decide) (by decide) arg10 harg10 x3 _ _ _ (k0_off15_eq i ⟨0, by decide⟩)) _ y)
    (View.allAt_cons_unit _ _ _ _ _ (tileW 12 1 (i 0) (by decide) (by decide) arg9 harg9 x2 x3 _ (scal 12 1 (i 0) (by decide) (by decide) arg10 harg10 x3 _ _ _ (k0_off14_eq i ⟨1, by decide⟩)) _ y)
    (View.allAt_cons_unit _ _ _ _ _ (tileW 12 0 (i 0) (by decide) (by decide) arg9 harg9 x2 x3 _ (scal 12 0 (i 0) (by decide) (by decide) arg10 harg10 x3 _ _ _ (k0_off14_eq i ⟨0, by decide⟩)) _ y)
    (View.allAt_cons_unit _ _ _ _ _ (tileW 11 1 (i 0) (by decide) (by decide) arg9 harg9 x2 x3 _ (scal 11 1 (i 0) (by decide) (by decide) arg10 harg10 x3 _ _ _ (k0_off13_eq i ⟨1, by decide⟩)) _ y)
    (View.allAt_cons_unit _ _ _ _ _ (tileW 11 0 (i 0) (by decide) (by decide) arg9 harg9 x2 x3 _ (scal 11 0 (i 0) (by decide) (by decide) arg10 harg10 x3 _ _ _ (k0_off13_eq i ⟨0, by decide⟩)) _ y)
    (View.allAt_cons_unit _ _ _ _ _ (tileW 10 1 (i 0) (by decide) (by decide) arg9 harg9 x2 x3 _ (scal 10 1 (i 0) (by decide) (by decide) arg10 harg10 x3 _ _ _ (k0_off12_eq i ⟨1, by decide⟩)) _ y)
    (View.allAt_cons_unit _ _ _ _ _ (tileW 10 0 (i 0) (by decide) (by decide) arg9 harg9 x2 x3 _ (scal 10 0 (i 0) (by decide) (by decide) arg10 harg10 x3 _ _ _ (k0_off12_eq i ⟨0, by decide⟩)) _ y)
    (View.allAt_cons_unit _ _ _ _ _ (tileW 9 1 (i 0) (by decide) (by decide) arg9 harg9 x2 x3 _ (scal 9 1 (i 0) (by decide) (by decide) arg10 harg10 x3 _ _ _ (k0_off11_eq i ⟨1, by decide⟩)) _ y)
    (View.allAt_cons_unit _ _ _ _ _ (tileW 9 0 (i 0) (by decide) (by decide) arg9 harg9 x2 x3 _ (scal 9 0 (i 0) (by decide) (by decide) arg10 harg10 x3 _ _ _ (k0_off11_eq i ⟨0, by decide⟩)) _ y)
    (View.allAt_cons_unit _ _ _ _ _ (tileW 8 1 (i 0) (by decide) (by decide) arg9 harg9 x2 x3 _ (scal 8 1 (i 0) (by decide) (by decide) arg10 harg10 x3 _ _ _ (k0_off10_eq i ⟨1, by decide⟩)) _ y)
    (View.allAt_cons_unit _ _ _ _ _ (tileW 8 0 (i 0) (by decide) (by decide) arg9 harg9 x2 x3 _ (scal 8 0 (i 0) (by decide) (by decide) arg10 harg10 x3 _ _ _ (k0_off10_eq i ⟨0, by decide⟩)) _ y)
    (View.allAt_cons_unit _ _ _ _ _ (tileW 7 1 (i 0) (by decide) (by decide) arg9 harg9 x2 x3 _ (scal 7 1 (i 0) (by decide) (by decide) arg10 harg10 x3 _ _ _ (k0_off9_eq i ⟨1, by decide⟩)) _ y)
    (View.allAt_cons_unit _ _ _ _ _ (tileW 7 0 (i 0) (by decide) (by decide) arg9 harg9 x2 x3 _ (scal 7 0 (i 0) (by decide) (by decide) arg10 harg10 x3 _ _ _ (k0_off9_eq i ⟨0, by decide⟩)) _ y)
    (View.allAt_cons_unit _ _ _ _ _ (tileW 6 1 (i 0) (by decide) (by decide) arg9 harg9 x2 x3 _ (scal 6 1 (i 0) (by decide) (by decide) arg10 harg10 x3 _ _ _ (k0_off8_eq i ⟨1, by decide⟩)) _ y)
    (View.allAt_cons_unit _ _ _ _ _ (tileW 6 0 (i 0) (by decide) (by decide) arg9 harg9 x2 x3 _ (scal 6 0 (i 0) (by decide) (by decide) arg10 harg10 x3 _ _ _ (k0_off8_eq i ⟨0, by decide⟩)) _ y)
    (View.allAt_cons_unit _ _ _ _ _ (tileW 5 1 (i 0) (by decide) (by decide) arg9 harg9 x2 x3 _ (scal 5 1 (i 0) (by decide) (by decide) arg10 harg10 x3 _ _ _ (k0_off7_eq i ⟨1, by decide⟩)) _ y)
    (View.allAt_cons_unit _ _ _ _ _ (tileW 5 0 (i 0) (by decide) (by decide) arg9 harg9 x2 x3 _ (scal 5 0 (i 0) (by decide) (by decide) arg10 harg10 x3 _ _ _ (k0_off7_eq i ⟨0, by decide⟩)) _ y)
    (View.allAt_cons_unit _ _ _ _ _ (tileW 4 1 (i 0) (by decide) (by decide) arg9 harg9 x2 x3 _ (scal 4 1 (i 0) (by decide) (by decide) arg10 harg10 x3 _ _ _ (k0_off6_eq i ⟨1, by decide⟩)) _ y)
    (View.allAt_cons_unit _ _ _ _ _ (tileW 4 0 (i 0) (by decide) (by decide) arg9 harg9 x2 x3 _ (scal 4 0 (i 0) (by decide) (by decide) arg10 harg10 x3 _ _ _ (k0_off6_eq i ⟨0, by decide⟩)) _ y)
    (View.allAt_cons_unit _ _ _ _ _ (tileW 3 1 (i 0) (by decide) (by decide) arg9 harg9 x2 x3 _ (scal 3 1 (i 0) (by decide) (by decide) arg10 harg10 x3 _ _ _ (k0_off5_eq i ⟨1, by decide⟩)) _ y)
    (View.allAt_cons_unit _ _ _ _ _ (tileW 3 0 (i 0) (by decide) (by decide) arg9 harg9 x2 x3 _ (scal 3 0 (i 0) (by decide) (by decide) arg10 harg10 x3 _ _ _ (k0_off5_eq i ⟨0, by decide⟩)) _ y)
    (View.allAt_cons_unit _ _ _ _ _ (tileW 2 1 (i 0) (by decide) (by decide) arg9 harg9 x2 x3 _ (scal 2 1 (i 0) (by decide) (by decide) arg10 harg10 x3 _ _ _ (k0_off4_eq i ⟨1, by decide⟩)) _ y)
    (View.allAt_cons_unit _ _ _ _ _ (tileW 2 0 (i 0) (by decide) (by decide) arg9 harg9 x2 x3 _ (scal 2 0 (i 0) (by decide) (by decide) arg10 harg10 x3 _ _ _ (k0_off4_eq i ⟨0, by decide⟩)) _ y)
    (View.allAt_cons_unit _ _ _ _ _ (tileW 1 1 (i 0) (by decide) (by decide) arg9 harg9 x2 x3 _ (scal 1 1 (i 0) (by decide) (by decide) arg10 harg10 x3 _ _ _ (k0_off3_eq i ⟨1, by decide⟩)) _ y)
    (View.allAt_cons_unit _ _ _ _ _ (tileW 1 0 (i 0) (by decide) (by decide) arg9 harg9 x2 x3 _ (scal 1 0 (i 0) (by decide) (by decide) arg10 harg10 x3 _ _ _ (k0_off3_eq i ⟨0, by decide⟩)) _ y)
    (View.allAt_cons_unit _ _ _ _ _ (tileW 0 1 (i 0) (by decide) (by decide) arg9 harg9 x2 x3 _ (scal 0 1 (i 0) (by decide) (by decide) arg10 harg10 x3 _ _ _ (k0_off2_eq i ⟨1, by decide⟩)) _ y)
    (View.allAt_cons_unit _ _ _ _ _ (tileW 0 0 (i 0) (by decide) (by decide) arg9 harg9 x2 x3 _ (scal 0 0 (i 0) (by decide) (by decide) arg10 harg10 x3 _ _ _ (k0_off2_eq i ⟨0, by decide⟩)) _ y)
    (View.allAt_nil _ _)))))))))))))))))))))))))))))))))))))))))))))))))))))))))))))))))))))))))))))))))

/-- The scaled up weights. -/
theorem up_at (arg11 : Memref sig .tc .vmem S1x5120x256 .fp8e4m3) (harg11 : arg11.IsWhole) (arg12 : Memref sig .tc .smem S1x40x64 .f32) (harg12 : arg12.IsWhole)
    (x4 : Vec Ideal S1x5120x256 .fp8e4m3) (x5 : Vec Ideal S1x40x64 .f32) (y : S5120x256.Idx) :
    View.canon (kernelRun0_V.sl.HS2_80 (F := Ideal) c i arg11 harg11 arg12 harg12 x4 x5) y = WB (i 0) x4 x5 (y 0) (y 1) := by
  refine View.canon_eq_of_allAt _ y _ (View.cover_of_tiled_head _ _ _ rfl y) ?_
  exact
    (View.allAt_cons_unit _ _ _ _ _ (tileW 39 1 (i 0) (by decide) (by decide) arg11 harg11 x4 x5 _ (scal 39 1 (i 0) (by decide) (by decide) arg12 harg12 x5 _ _ _ (k0_off41_eq i ⟨1, by decide⟩)) _ y)
    (View.allAt_cons_unit _ _ _ _ _ (tileW 39 0 (i 0) (by decide) (by decide) arg11 harg11 x4 x5 _ (scal 39 0 (i 0) (by decide) (by decide) arg12 harg12 x5 _ _ _ (k0_off41_eq i ⟨0, by decide⟩)) _ y)
    (View.allAt_cons_unit _ _ _ _ _ (tileW 38 1 (i 0) (by decide) (by decide) arg11 harg11 x4 x5 _ (scal 38 1 (i 0) (by decide) (by decide) arg12 harg12 x5 _ _ _ (k0_off40_eq i ⟨1, by decide⟩)) _ y)
    (View.allAt_cons_unit _ _ _ _ _ (tileW 38 0 (i 0) (by decide) (by decide) arg11 harg11 x4 x5 _ (scal 38 0 (i 0) (by decide) (by decide) arg12 harg12 x5 _ _ _ (k0_off40_eq i ⟨0, by decide⟩)) _ y)
    (View.allAt_cons_unit _ _ _ _ _ (tileW 37 1 (i 0) (by decide) (by decide) arg11 harg11 x4 x5 _ (scal 37 1 (i 0) (by decide) (by decide) arg12 harg12 x5 _ _ _ (k0_off39_eq i ⟨1, by decide⟩)) _ y)
    (View.allAt_cons_unit _ _ _ _ _ (tileW 37 0 (i 0) (by decide) (by decide) arg11 harg11 x4 x5 _ (scal 37 0 (i 0) (by decide) (by decide) arg12 harg12 x5 _ _ _ (k0_off39_eq i ⟨0, by decide⟩)) _ y)
    (View.allAt_cons_unit _ _ _ _ _ (tileW 36 1 (i 0) (by decide) (by decide) arg11 harg11 x4 x5 _ (scal 36 1 (i 0) (by decide) (by decide) arg12 harg12 x5 _ _ _ (k0_off38_eq i ⟨1, by decide⟩)) _ y)
    (View.allAt_cons_unit _ _ _ _ _ (tileW 36 0 (i 0) (by decide) (by decide) arg11 harg11 x4 x5 _ (scal 36 0 (i 0) (by decide) (by decide) arg12 harg12 x5 _ _ _ (k0_off38_eq i ⟨0, by decide⟩)) _ y)
    (View.allAt_cons_unit _ _ _ _ _ (tileW 35 1 (i 0) (by decide) (by decide) arg11 harg11 x4 x5 _ (scal 35 1 (i 0) (by decide) (by decide) arg12 harg12 x5 _ _ _ (k0_off37_eq i ⟨1, by decide⟩)) _ y)
    (View.allAt_cons_unit _ _ _ _ _ (tileW 35 0 (i 0) (by decide) (by decide) arg11 harg11 x4 x5 _ (scal 35 0 (i 0) (by decide) (by decide) arg12 harg12 x5 _ _ _ (k0_off37_eq i ⟨0, by decide⟩)) _ y)
    (View.allAt_cons_unit _ _ _ _ _ (tileW 34 1 (i 0) (by decide) (by decide) arg11 harg11 x4 x5 _ (scal 34 1 (i 0) (by decide) (by decide) arg12 harg12 x5 _ _ _ (k0_off36_eq i ⟨1, by decide⟩)) _ y)
    (View.allAt_cons_unit _ _ _ _ _ (tileW 34 0 (i 0) (by decide) (by decide) arg11 harg11 x4 x5 _ (scal 34 0 (i 0) (by decide) (by decide) arg12 harg12 x5 _ _ _ (k0_off36_eq i ⟨0, by decide⟩)) _ y)
    (View.allAt_cons_unit _ _ _ _ _ (tileW 33 1 (i 0) (by decide) (by decide) arg11 harg11 x4 x5 _ (scal 33 1 (i 0) (by decide) (by decide) arg12 harg12 x5 _ _ _ (k0_off35_eq i ⟨1, by decide⟩)) _ y)
    (View.allAt_cons_unit _ _ _ _ _ (tileW 33 0 (i 0) (by decide) (by decide) arg11 harg11 x4 x5 _ (scal 33 0 (i 0) (by decide) (by decide) arg12 harg12 x5 _ _ _ (k0_off35_eq i ⟨0, by decide⟩)) _ y)
    (View.allAt_cons_unit _ _ _ _ _ (tileW 32 1 (i 0) (by decide) (by decide) arg11 harg11 x4 x5 _ (scal 32 1 (i 0) (by decide) (by decide) arg12 harg12 x5 _ _ _ (k0_off34_eq i ⟨1, by decide⟩)) _ y)
    (View.allAt_cons_unit _ _ _ _ _ (tileW 32 0 (i 0) (by decide) (by decide) arg11 harg11 x4 x5 _ (scal 32 0 (i 0) (by decide) (by decide) arg12 harg12 x5 _ _ _ (k0_off34_eq i ⟨0, by decide⟩)) _ y)
    (View.allAt_cons_unit _ _ _ _ _ (tileW 31 1 (i 0) (by decide) (by decide) arg11 harg11 x4 x5 _ (scal 31 1 (i 0) (by decide) (by decide) arg12 harg12 x5 _ _ _ (k0_off33_eq i ⟨1, by decide⟩)) _ y)
    (View.allAt_cons_unit _ _ _ _ _ (tileW 31 0 (i 0) (by decide) (by decide) arg11 harg11 x4 x5 _ (scal 31 0 (i 0) (by decide) (by decide) arg12 harg12 x5 _ _ _ (k0_off33_eq i ⟨0, by decide⟩)) _ y)
    (View.allAt_cons_unit _ _ _ _ _ (tileW 30 1 (i 0) (by decide) (by decide) arg11 harg11 x4 x5 _ (scal 30 1 (i 0) (by decide) (by decide) arg12 harg12 x5 _ _ _ (k0_off32_eq i ⟨1, by decide⟩)) _ y)
    (View.allAt_cons_unit _ _ _ _ _ (tileW 30 0 (i 0) (by decide) (by decide) arg11 harg11 x4 x5 _ (scal 30 0 (i 0) (by decide) (by decide) arg12 harg12 x5 _ _ _ (k0_off32_eq i ⟨0, by decide⟩)) _ y)
    (View.allAt_cons_unit _ _ _ _ _ (tileW 29 1 (i 0) (by decide) (by decide) arg11 harg11 x4 x5 _ (scal 29 1 (i 0) (by decide) (by decide) arg12 harg12 x5 _ _ _ (k0_off31_eq i ⟨1, by decide⟩)) _ y)
    (View.allAt_cons_unit _ _ _ _ _ (tileW 29 0 (i 0) (by decide) (by decide) arg11 harg11 x4 x5 _ (scal 29 0 (i 0) (by decide) (by decide) arg12 harg12 x5 _ _ _ (k0_off31_eq i ⟨0, by decide⟩)) _ y)
    (View.allAt_cons_unit _ _ _ _ _ (tileW 28 1 (i 0) (by decide) (by decide) arg11 harg11 x4 x5 _ (scal 28 1 (i 0) (by decide) (by decide) arg12 harg12 x5 _ _ _ (k0_off30_eq i ⟨1, by decide⟩)) _ y)
    (View.allAt_cons_unit _ _ _ _ _ (tileW 28 0 (i 0) (by decide) (by decide) arg11 harg11 x4 x5 _ (scal 28 0 (i 0) (by decide) (by decide) arg12 harg12 x5 _ _ _ (k0_off30_eq i ⟨0, by decide⟩)) _ y)
    (View.allAt_cons_unit _ _ _ _ _ (tileW 27 1 (i 0) (by decide) (by decide) arg11 harg11 x4 x5 _ (scal 27 1 (i 0) (by decide) (by decide) arg12 harg12 x5 _ _ _ (k0_off29_eq i ⟨1, by decide⟩)) _ y)
    (View.allAt_cons_unit _ _ _ _ _ (tileW 27 0 (i 0) (by decide) (by decide) arg11 harg11 x4 x5 _ (scal 27 0 (i 0) (by decide) (by decide) arg12 harg12 x5 _ _ _ (k0_off29_eq i ⟨0, by decide⟩)) _ y)
    (View.allAt_cons_unit _ _ _ _ _ (tileW 26 1 (i 0) (by decide) (by decide) arg11 harg11 x4 x5 _ (scal 26 1 (i 0) (by decide) (by decide) arg12 harg12 x5 _ _ _ (k0_off28_eq i ⟨1, by decide⟩)) _ y)
    (View.allAt_cons_unit _ _ _ _ _ (tileW 26 0 (i 0) (by decide) (by decide) arg11 harg11 x4 x5 _ (scal 26 0 (i 0) (by decide) (by decide) arg12 harg12 x5 _ _ _ (k0_off28_eq i ⟨0, by decide⟩)) _ y)
    (View.allAt_cons_unit _ _ _ _ _ (tileW 25 1 (i 0) (by decide) (by decide) arg11 harg11 x4 x5 _ (scal 25 1 (i 0) (by decide) (by decide) arg12 harg12 x5 _ _ _ (k0_off27_eq i ⟨1, by decide⟩)) _ y)
    (View.allAt_cons_unit _ _ _ _ _ (tileW 25 0 (i 0) (by decide) (by decide) arg11 harg11 x4 x5 _ (scal 25 0 (i 0) (by decide) (by decide) arg12 harg12 x5 _ _ _ (k0_off27_eq i ⟨0, by decide⟩)) _ y)
    (View.allAt_cons_unit _ _ _ _ _ (tileW 24 1 (i 0) (by decide) (by decide) arg11 harg11 x4 x5 _ (scal 24 1 (i 0) (by decide) (by decide) arg12 harg12 x5 _ _ _ (k0_off26_eq i ⟨1, by decide⟩)) _ y)
    (View.allAt_cons_unit _ _ _ _ _ (tileW 24 0 (i 0) (by decide) (by decide) arg11 harg11 x4 x5 _ (scal 24 0 (i 0) (by decide) (by decide) arg12 harg12 x5 _ _ _ (k0_off26_eq i ⟨0, by decide⟩)) _ y)
    (View.allAt_cons_unit _ _ _ _ _ (tileW 23 1 (i 0) (by decide) (by decide) arg11 harg11 x4 x5 _ (scal 23 1 (i 0) (by decide) (by decide) arg12 harg12 x5 _ _ _ (k0_off25_eq i ⟨1, by decide⟩)) _ y)
    (View.allAt_cons_unit _ _ _ _ _ (tileW 23 0 (i 0) (by decide) (by decide) arg11 harg11 x4 x5 _ (scal 23 0 (i 0) (by decide) (by decide) arg12 harg12 x5 _ _ _ (k0_off25_eq i ⟨0, by decide⟩)) _ y)
    (View.allAt_cons_unit _ _ _ _ _ (tileW 22 1 (i 0) (by decide) (by decide) arg11 harg11 x4 x5 _ (scal 22 1 (i 0) (by decide) (by decide) arg12 harg12 x5 _ _ _ (k0_off24_eq i ⟨1, by decide⟩)) _ y)
    (View.allAt_cons_unit _ _ _ _ _ (tileW 22 0 (i 0) (by decide) (by decide) arg11 harg11 x4 x5 _ (scal 22 0 (i 0) (by decide) (by decide) arg12 harg12 x5 _ _ _ (k0_off24_eq i ⟨0, by decide⟩)) _ y)
    (View.allAt_cons_unit _ _ _ _ _ (tileW 21 1 (i 0) (by decide) (by decide) arg11 harg11 x4 x5 _ (scal 21 1 (i 0) (by decide) (by decide) arg12 harg12 x5 _ _ _ (k0_off23_eq i ⟨1, by decide⟩)) _ y)
    (View.allAt_cons_unit _ _ _ _ _ (tileW 21 0 (i 0) (by decide) (by decide) arg11 harg11 x4 x5 _ (scal 21 0 (i 0) (by decide) (by decide) arg12 harg12 x5 _ _ _ (k0_off23_eq i ⟨0, by decide⟩)) _ y)
    (View.allAt_cons_unit _ _ _ _ _ (tileW 20 1 (i 0) (by decide) (by decide) arg11 harg11 x4 x5 _ (scal 20 1 (i 0) (by decide) (by decide) arg12 harg12 x5 _ _ _ (k0_off22_eq i ⟨1, by decide⟩)) _ y)
    (View.allAt_cons_unit _ _ _ _ _ (tileW 20 0 (i 0) (by decide) (by decide) arg11 harg11 x4 x5 _ (scal 20 0 (i 0) (by decide) (by decide) arg12 harg12 x5 _ _ _ (k0_off22_eq i ⟨0, by decide⟩)) _ y)
    (View.allAt_cons_unit _ _ _ _ _ (tileW 19 1 (i 0) (by decide) (by decide) arg11 harg11 x4 x5 _ (scal 19 1 (i 0) (by decide) (by decide) arg12 harg12 x5 _ _ _ (k0_off21_eq i ⟨1, by decide⟩)) _ y)
    (View.allAt_cons_unit _ _ _ _ _ (tileW 19 0 (i 0) (by decide) (by decide) arg11 harg11 x4 x5 _ (scal 19 0 (i 0) (by decide) (by decide) arg12 harg12 x5 _ _ _ (k0_off21_eq i ⟨0, by decide⟩)) _ y)
    (View.allAt_cons_unit _ _ _ _ _ (tileW 18 1 (i 0) (by decide) (by decide) arg11 harg11 x4 x5 _ (scal 18 1 (i 0) (by decide) (by decide) arg12 harg12 x5 _ _ _ (k0_off20_eq i ⟨1, by decide⟩)) _ y)
    (View.allAt_cons_unit _ _ _ _ _ (tileW 18 0 (i 0) (by decide) (by decide) arg11 harg11 x4 x5 _ (scal 18 0 (i 0) (by decide) (by decide) arg12 harg12 x5 _ _ _ (k0_off20_eq i ⟨0, by decide⟩)) _ y)
    (View.allAt_cons_unit _ _ _ _ _ (tileW 17 1 (i 0) (by decide) (by decide) arg11 harg11 x4 x5 _ (scal 17 1 (i 0) (by decide) (by decide) arg12 harg12 x5 _ _ _ (k0_off19_eq i ⟨1, by decide⟩)) _ y)
    (View.allAt_cons_unit _ _ _ _ _ (tileW 17 0 (i 0) (by decide) (by decide) arg11 harg11 x4 x5 _ (scal 17 0 (i 0) (by decide) (by decide) arg12 harg12 x5 _ _ _ (k0_off19_eq i ⟨0, by decide⟩)) _ y)
    (View.allAt_cons_unit _ _ _ _ _ (tileW 16 1 (i 0) (by decide) (by decide) arg11 harg11 x4 x5 _ (scal 16 1 (i 0) (by decide) (by decide) arg12 harg12 x5 _ _ _ (k0_off18_eq i ⟨1, by decide⟩)) _ y)
    (View.allAt_cons_unit _ _ _ _ _ (tileW 16 0 (i 0) (by decide) (by decide) arg11 harg11 x4 x5 _ (scal 16 0 (i 0) (by decide) (by decide) arg12 harg12 x5 _ _ _ (k0_off18_eq i ⟨0, by decide⟩)) _ y)
    (View.allAt_cons_unit _ _ _ _ _ (tileW 15 1 (i 0) (by decide) (by decide) arg11 harg11 x4 x5 _ (scal 15 1 (i 0) (by decide) (by decide) arg12 harg12 x5 _ _ _ (k0_off17_eq i ⟨1, by decide⟩)) _ y)
    (View.allAt_cons_unit _ _ _ _ _ (tileW 15 0 (i 0) (by decide) (by decide) arg11 harg11 x4 x5 _ (scal 15 0 (i 0) (by decide) (by decide) arg12 harg12 x5 _ _ _ (k0_off17_eq i ⟨0, by decide⟩)) _ y)
    (View.allAt_cons_unit _ _ _ _ _ (tileW 14 1 (i 0) (by decide) (by decide) arg11 harg11 x4 x5 _ (scal 14 1 (i 0) (by decide) (by decide) arg12 harg12 x5 _ _ _ (k0_off16_eq i ⟨1, by decide⟩)) _ y)
    (View.allAt_cons_unit _ _ _ _ _ (tileW 14 0 (i 0) (by decide) (by decide) arg11 harg11 x4 x5 _ (scal 14 0 (i 0) (by decide) (by decide) arg12 harg12 x5 _ _ _ (k0_off16_eq i ⟨0, by decide⟩)) _ y)
    (View.allAt_cons_unit _ _ _ _ _ (tileW 13 1 (i 0) (by decide) (by decide) arg11 harg11 x4 x5 _ (scal 13 1 (i 0) (by decide) (by decide) arg12 harg12 x5 _ _ _ (k0_off15_eq i ⟨1, by decide⟩)) _ y)
    (View.allAt_cons_unit _ _ _ _ _ (tileW 13 0 (i 0) (by decide) (by decide) arg11 harg11 x4 x5 _ (scal 13 0 (i 0) (by decide) (by decide) arg12 harg12 x5 _ _ _ (k0_off15_eq i ⟨0, by decide⟩)) _ y)
    (View.allAt_cons_unit _ _ _ _ _ (tileW 12 1 (i 0) (by decide) (by decide) arg11 harg11 x4 x5 _ (scal 12 1 (i 0) (by decide) (by decide) arg12 harg12 x5 _ _ _ (k0_off14_eq i ⟨1, by decide⟩)) _ y)
    (View.allAt_cons_unit _ _ _ _ _ (tileW 12 0 (i 0) (by decide) (by decide) arg11 harg11 x4 x5 _ (scal 12 0 (i 0) (by decide) (by decide) arg12 harg12 x5 _ _ _ (k0_off14_eq i ⟨0, by decide⟩)) _ y)
    (View.allAt_cons_unit _ _ _ _ _ (tileW 11 1 (i 0) (by decide) (by decide) arg11 harg11 x4 x5 _ (scal 11 1 (i 0) (by decide) (by decide) arg12 harg12 x5 _ _ _ (k0_off13_eq i ⟨1, by decide⟩)) _ y)
    (View.allAt_cons_unit _ _ _ _ _ (tileW 11 0 (i 0) (by decide) (by decide) arg11 harg11 x4 x5 _ (scal 11 0 (i 0) (by decide) (by decide) arg12 harg12 x5 _ _ _ (k0_off13_eq i ⟨0, by decide⟩)) _ y)
    (View.allAt_cons_unit _ _ _ _ _ (tileW 10 1 (i 0) (by decide) (by decide) arg11 harg11 x4 x5 _ (scal 10 1 (i 0) (by decide) (by decide) arg12 harg12 x5 _ _ _ (k0_off12_eq i ⟨1, by decide⟩)) _ y)
    (View.allAt_cons_unit _ _ _ _ _ (tileW 10 0 (i 0) (by decide) (by decide) arg11 harg11 x4 x5 _ (scal 10 0 (i 0) (by decide) (by decide) arg12 harg12 x5 _ _ _ (k0_off12_eq i ⟨0, by decide⟩)) _ y)
    (View.allAt_cons_unit _ _ _ _ _ (tileW 9 1 (i 0) (by decide) (by decide) arg11 harg11 x4 x5 _ (scal 9 1 (i 0) (by decide) (by decide) arg12 harg12 x5 _ _ _ (k0_off11_eq i ⟨1, by decide⟩)) _ y)
    (View.allAt_cons_unit _ _ _ _ _ (tileW 9 0 (i 0) (by decide) (by decide) arg11 harg11 x4 x5 _ (scal 9 0 (i 0) (by decide) (by decide) arg12 harg12 x5 _ _ _ (k0_off11_eq i ⟨0, by decide⟩)) _ y)
    (View.allAt_cons_unit _ _ _ _ _ (tileW 8 1 (i 0) (by decide) (by decide) arg11 harg11 x4 x5 _ (scal 8 1 (i 0) (by decide) (by decide) arg12 harg12 x5 _ _ _ (k0_off10_eq i ⟨1, by decide⟩)) _ y)
    (View.allAt_cons_unit _ _ _ _ _ (tileW 8 0 (i 0) (by decide) (by decide) arg11 harg11 x4 x5 _ (scal 8 0 (i 0) (by decide) (by decide) arg12 harg12 x5 _ _ _ (k0_off10_eq i ⟨0, by decide⟩)) _ y)
    (View.allAt_cons_unit _ _ _ _ _ (tileW 7 1 (i 0) (by decide) (by decide) arg11 harg11 x4 x5 _ (scal 7 1 (i 0) (by decide) (by decide) arg12 harg12 x5 _ _ _ (k0_off9_eq i ⟨1, by decide⟩)) _ y)
    (View.allAt_cons_unit _ _ _ _ _ (tileW 7 0 (i 0) (by decide) (by decide) arg11 harg11 x4 x5 _ (scal 7 0 (i 0) (by decide) (by decide) arg12 harg12 x5 _ _ _ (k0_off9_eq i ⟨0, by decide⟩)) _ y)
    (View.allAt_cons_unit _ _ _ _ _ (tileW 6 1 (i 0) (by decide) (by decide) arg11 harg11 x4 x5 _ (scal 6 1 (i 0) (by decide) (by decide) arg12 harg12 x5 _ _ _ (k0_off8_eq i ⟨1, by decide⟩)) _ y)
    (View.allAt_cons_unit _ _ _ _ _ (tileW 6 0 (i 0) (by decide) (by decide) arg11 harg11 x4 x5 _ (scal 6 0 (i 0) (by decide) (by decide) arg12 harg12 x5 _ _ _ (k0_off8_eq i ⟨0, by decide⟩)) _ y)
    (View.allAt_cons_unit _ _ _ _ _ (tileW 5 1 (i 0) (by decide) (by decide) arg11 harg11 x4 x5 _ (scal 5 1 (i 0) (by decide) (by decide) arg12 harg12 x5 _ _ _ (k0_off7_eq i ⟨1, by decide⟩)) _ y)
    (View.allAt_cons_unit _ _ _ _ _ (tileW 5 0 (i 0) (by decide) (by decide) arg11 harg11 x4 x5 _ (scal 5 0 (i 0) (by decide) (by decide) arg12 harg12 x5 _ _ _ (k0_off7_eq i ⟨0, by decide⟩)) _ y)
    (View.allAt_cons_unit _ _ _ _ _ (tileW 4 1 (i 0) (by decide) (by decide) arg11 harg11 x4 x5 _ (scal 4 1 (i 0) (by decide) (by decide) arg12 harg12 x5 _ _ _ (k0_off6_eq i ⟨1, by decide⟩)) _ y)
    (View.allAt_cons_unit _ _ _ _ _ (tileW 4 0 (i 0) (by decide) (by decide) arg11 harg11 x4 x5 _ (scal 4 0 (i 0) (by decide) (by decide) arg12 harg12 x5 _ _ _ (k0_off6_eq i ⟨0, by decide⟩)) _ y)
    (View.allAt_cons_unit _ _ _ _ _ (tileW 3 1 (i 0) (by decide) (by decide) arg11 harg11 x4 x5 _ (scal 3 1 (i 0) (by decide) (by decide) arg12 harg12 x5 _ _ _ (k0_off5_eq i ⟨1, by decide⟩)) _ y)
    (View.allAt_cons_unit _ _ _ _ _ (tileW 3 0 (i 0) (by decide) (by decide) arg11 harg11 x4 x5 _ (scal 3 0 (i 0) (by decide) (by decide) arg12 harg12 x5 _ _ _ (k0_off5_eq i ⟨0, by decide⟩)) _ y)
    (View.allAt_cons_unit _ _ _ _ _ (tileW 2 1 (i 0) (by decide) (by decide) arg11 harg11 x4 x5 _ (scal 2 1 (i 0) (by decide) (by decide) arg12 harg12 x5 _ _ _ (k0_off4_eq i ⟨1, by decide⟩)) _ y)
    (View.allAt_cons_unit _ _ _ _ _ (tileW 2 0 (i 0) (by decide) (by decide) arg11 harg11 x4 x5 _ (scal 2 0 (i 0) (by decide) (by decide) arg12 harg12 x5 _ _ _ (k0_off4_eq i ⟨0, by decide⟩)) _ y)
    (View.allAt_cons_unit _ _ _ _ _ (tileW 1 1 (i 0) (by decide) (by decide) arg11 harg11 x4 x5 _ (scal 1 1 (i 0) (by decide) (by decide) arg12 harg12 x5 _ _ _ (k0_off3_eq i ⟨1, by decide⟩)) _ y)
    (View.allAt_cons_unit _ _ _ _ _ (tileW 1 0 (i 0) (by decide) (by decide) arg11 harg11 x4 x5 _ (scal 1 0 (i 0) (by decide) (by decide) arg12 harg12 x5 _ _ _ (k0_off3_eq i ⟨0, by decide⟩)) _ y)
    (View.allAt_cons_unit _ _ _ _ _ (tileW 0 1 (i 0) (by decide) (by decide) arg11 harg11 x4 x5 _ (scal 0 1 (i 0) (by decide) (by decide) arg12 harg12 x5 _ _ _ (k0_off2_eq i ⟨1, by decide⟩)) _ y)
    (View.allAt_cons_unit _ _ _ _ _ (tileW 0 0 (i 0) (by decide) (by decide) arg11 harg11 x4 x5 _ (scal 0 0 (i 0) (by decide) (by decide) arg12 harg12 x5 _ _ _ (k0_off2_eq i ⟨0, by decide⟩)) _ y)
    (View.allAt_nil _ _)))))))))))))))))))))))))))))))))))))))))))))))))))))))))))))))))))))))))))))))))

end

end Cert.KernelIdeal.Body

end
-- ==== Proof.Quantiser.lean ====
/- One block of values and its power of two scale, at the extended reals: the exponent that the kernel finds one bit at a time is the
   least power of two above the block's bound, which is what the reference takes; and the activation is bounded, so that bound exists. -/
module

public import Idealize.ShloMosaic.Lib.Pointwise

@[expose] public section

set_option maxRecDepth 16384

noncomputable section

namespace Cert.Quant

open Idealize.ShloMosaic

/-- The float whose exponent field is the word `f` and whose other bits are zero. -/
def pw (f : BitVec 32) : EReal := Ideal.ofBits .f32 (IntOp.shli .vector f 23#32)

/-- One step of the kernel's search: `s` is added to the field `f` unless `a` is below the power with the field `f + s` (the word `(f + d) + 127`). -/
def step (a : EReal) (d s f : BitVec 32) : BitVec 32 :=
  Scalar.select (Ideal.cmp .olt a (pw (IntOp.addi (IntOp.addi f d) 127#32))) f (IntOp.addi f s)

/-- The first four steps. -/
def field4 (a : EReal) : BitVec 32 :=
  step a 4294967185#32 16#32 (step a 4294967201#32 32#32 (step a 4294967233#32 64#32 (step a 1#32 128#32 0#32)))

/-- The exponent field of `a`. -/
def field (a : EReal) : BitVec 32 :=
  step a 4294967170#32 1#32 (step a 4294967171#32 2#32 (step a 4294967173#32 4#32 (step a 4294967177#32 8#32 (field4 a))))

/-- The kernel's exponent: 0 for a block of zeros. -/
def ex (a : EReal) : BitVec 32 :=
  Scalar.select (Ideal.cmp .oeq a (Ideal.ofBits .f32 0x00000000#32)) 0#32 (IntOp.subi (field a) 126#32)

/-- The kernel's scale. -/
def scaleK (a : EReal) : EReal := pw (IntOp.addi (ex a) 127#32)

/-- The factor by which the kernel multiplies the block. -/
def invK (a : EReal) : EReal := pw (IntOp.addi (IntOp.subi 0#32 (ex a)) 127#32)

/-- The power with the number `k` of the reference's 254, or infinity where it is not above `a`. -/
def cand (a : EReal) (k : Fin 254) : EReal :=
  Scalar.select (Ideal.cmp .ogt (Ideal.exp2 (((IntOp.subi (BitVec.ofNat 32 k.val) 126#32).toInt : ℝ) : EReal)) a)
    (Ideal.exp2 (((IntOp.subi (BitVec.ofNat 32 k.val) 126#32).toInt : ℝ) : EReal)) (Ideal.ofBits .f32 0x7F800000#32)

/-- The reference's scale: the least of the powers above `a`, and 1 for a block of zeros. -/
def scaleR (a : EReal) : EReal :=
  Scalar.select (Ideal.cmp .oeq a (Ideal.ofBits .f32 0x00000000#32)) (Ideal.ofBits .f32 0x3F800000#32)
    ((Finset.univ : Finset (Fin 254)).fold min (Ideal.ofBits .f32 0x7F800000#32) (cand a))

/-! ## The powers -/

/-- The power with the exponent field `n`, as a real number. -/
def P (n : ℕ) : ℝ := if n = 0 then 0 else (2 : ℝ) ^ ((n : ℤ) - 127)

theorem P_pos {n : ℕ} (h : n ≠ 0) : P n = (2 : ℝ) ^ ((n : ℤ) - 127) := if_neg h

theorem pw_nat {n : ℕ} (h : n ≤ 254) : pw (BitVec.ofNat 32 n) = ((P n : ℝ) : EReal) := by
  have hw : IntOp.shli .vector (BitVec.ofNat 32 n) 23#32 = BitVec.ofNat 32 n <<< 23#32 := by
    unfold IntOp.shli; exact if_pos (by decide)
  have e : ∀ k : Fin 256, (BitVec.extractLsb' 31 1 (BitVec.ofNat 32 k.val <<< 23#32) == 1#1) = false
      ∧ (BitVec.extractLsb' 23 8 (BitVec.ofNat 32 k.val <<< 23#32)).toNat = k.val
      ∧ (BitVec.extractLsb' 0 23 (BitVec.ofNat 32 k.val <<< 23#32)).toNat = 0 := by decide +kernel
  obtain ⟨e1, e2, e3⟩ := e ⟨n, by omega⟩
  simp only at e1 e2 e3
  unfold pw
  rw [hw]
  show Ideal.ieee 8 23 _ = _
  unfold Ideal.ieee
  simp only [Nat.reduceAdd, e1, e2, e3]
  rw [if_neg (show ¬ n = 2 ^ 8 - 1 by omega)]
  by_cases h0 : n = 0
  · subst h0; rw [if_pos rfl]; simp [P]
  · rw [if_neg h0, P_pos h0]
    refine congrArg (fun x : ℝ => (x : EReal)) ?_
    rw [if_neg (by simp : ¬ (false = true))]
    rw [show ((1 : ℝ) * ((2 ^ 23 + 0 : ℕ) : ℝ)) = (2 : ℝ) ^ (23 : ℤ) by norm_num, ← zpow_add₀ (by norm_num)]
    refine congrArg (fun x : ℤ => (2 : ℝ) ^ x) ?_
    norm_num

theorem P_mono {m n : ℕ} (h : m ≤ n) : P m ≤ P n := by
  unfold P
  split_ifs with h1 h2 h2
  · exact le_refl _
  · positivity
  · omega
  · exact zpow_le_zpow_right₀ (by norm_num) (by omega)

theorem exp2_cand (k : Fin 254) :
    Ideal.exp2 (((IntOp.subi (BitVec.ofNat 32 k.val) 126#32).toInt : ℝ) : EReal) = ((P (k.val + 1) : ℝ) : EReal) := by
  have e : ∀ k : Fin 254, (IntOp.subi (BitVec.ofNat 32 k.val) 126#32).toInt = (k.val : ℤ) - 126 := by decide +kernel
  rw [e k, P_pos (by omega)]
  show ((Real.rpow 2 _ : ℝ) : EReal) = _
  congr 1
  show (2 : ℝ) ^ ((((k.val : ℤ) - 126 : ℤ)) : ℝ) = _
  rw [Real.rpow_intCast]
  congr 1; push_cast; ring

/-! ## The search -/

theorem select_olt (a b : EReal) (x y : BitVec 32) : Scalar.select (Ideal.cmp .olt a b) x y = if b ≤ a then y else x := by
  unfold Scalar.select Ideal.cmp
  by_cases h : b ≤ a
  · simp [h, not_lt.mpr h]
  · simp [h, not_le.mp h]

/-- A step keeps the field's bounds and halves their distance. -/
theorem step_spec (a : EReal) (s n : ℕ) (d f : BitVec 32) (hf : f = BitVec.ofNat 32 n) (hd : d + 127#32 = BitVec.ofNat 32 s)
    (hn : n + 2 * s ≤ 254) (h1 : ((P n : ℝ) : EReal) ≤ a) (h2 : a < ((P (n + 2 * s) : ℝ) : EReal)) :
    ∃ n', step a d (BitVec.ofNat 32 s) f = BitVec.ofNat 32 n' ∧ (n' = n ∨ n' = n + s) ∧ ((P n' : ℝ) : EReal) ≤ a
      ∧ a < ((P (n' + s) : ℝ) : EReal) := by
  subst hf
  have hw : IntOp.addi (IntOp.addi (BitVec.ofNat 32 n) d) 127#32 = BitVec.ofNat 32 (n + s) := by
    show BitVec.ofNat 32 n + d + 127#32 = _
    rw [BitVec.add_assoc, hd, BitVec.ofNat_add]
  unfold step
  rw [hw, pw_nat (by omega), select_olt]
  by_cases h : ((P (n + s) : ℝ) : EReal) ≤ a
  · rw [if_pos h]
    exact ⟨n + s, by show BitVec.ofNat 32 n + BitVec.ofNat 32 s = _; rw [BitVec.ofNat_add], .inr rfl, h,
      by rw [show n + s + s = n + 2 * s by ring]; exact h2⟩
  · rw [if_neg h]
    exact ⟨n, rfl, .inl rfl, h1, not_le.mp h⟩

/-- The field found is the one of the greatest power at most `a`. -/
theorem field_spec (a : EReal) (h0 : 0 ≤ a) (h1 : a ≤ 1) :
    ∃ n ≤ 127, field a = BitVec.ofNat 32 n ∧ ((P n : ℝ) : EReal) ≤ a ∧ a < ((P (n + 1) : ℝ) : EReal) := by
  have hP : a < ((P 128 : ℝ) : EReal) := lt_of_le_of_lt h1 (by rw [P_pos (by norm_num)]; norm_num; exact_mod_cast (by norm_num : (1 : ℝ) < 2))
  have s0 : step a 1#32 128#32 0#32 = BitVec.ofNat 32 0 := by
    unfold step
    rw [show IntOp.addi (IntOp.addi 0#32 1#32) 127#32 = BitVec.ofNat 32 128 from rfl, pw_nat (by norm_num), select_olt, if_neg (not_le.mpr hP)]
  obtain ⟨n1, e1, b1, l1, u1⟩ := step_spec a 64 0 4294967233#32 _ s0 rfl (by norm_num) (by simpa [P] using h0) (by simpa using hP)
  obtain ⟨n2, e2, b2, l2, u2⟩ := step_spec a 32 n1 4294967201#32 _ e1 rfl (by omega) l1 u1
  obtain ⟨n3, e3, b3, l3, u3⟩ := step_spec a 16 n2 4294967185#32 _ e2 rfl (by omega) l2 u2
  obtain ⟨n4, e4, b4, l4, u4⟩ := step_spec a 8 n3 4294967177#32 _ e3 rfl (by omega) l3 u3
  obtain ⟨n5, e5, b5, l5, u5⟩ := step_spec a 4 n4 4294967173#32 _ e4 rfl (by omega) l4 u4
  obtain ⟨n6, e6, b6, l6, u6⟩ := step_spec a 2 n5 4294967171#32 _ e5 rfl (by omega) l5 u5
  obtain ⟨n7, e7, b7, l7, u7⟩ := step_spec a 1 n6 4294967170#32 _ e6 rfl (by omega) l6 u6
  exact ⟨n7, by omega, e7, l7, u7⟩

theorem ofBits_inf : Ideal.ofBits .f32 0x7F800000#32 = ⊤ := by simp [Ideal.ofBits, Ideal.ieee]

theorem select_oeq_zero {α : Type} (a : EReal) (x y : α) :
    Scalar.select (Ideal.cmp .oeq a (Ideal.ofBits .f32 0x00000000#32)) x y = if a = 0 then x else y := by
  rw [Ideal.ofBits_zero_f32]
  unfold Scalar.select Ideal.cmp
  by_cases h : a = 0 <;> simp [h]

theorem cand_eq (a : EReal) (k : Fin 254) : cand a k = if a < ((P (k.val + 1) : ℝ) : EReal) then ((P (k.val + 1) : ℝ) : EReal) else ⊤ := by
  unfold cand
  rw [exp2_cand, ofBits_inf]
  unfold Scalar.select Ideal.cmp
  by_cases h : a < ((P (k.val + 1) : ℝ) : EReal) <;> simp [h]

/-- The kernel's scale and factor: for a block of nonzeros, of the power after the field found. -/
theorem kernel_spec (a : EReal) (h0 : 0 ≤ a) (h1 : a ≤ 1) :
    ∃ r : ℝ, r ≠ 0 ∧ scaleK a = (r : EReal) ∧ invK a = ((1 / r : ℝ) : EReal) ∧ scaleR a = (r : EReal) := by
  obtain ⟨n, hn, e, l, u⟩ := field_spec a h0 h1
  by_cases ha : a = 0
  · refine ⟨1, one_ne_zero, ?_, ?_, ?_⟩
    · unfold scaleK ex; rw [select_oeq_zero, if_pos ha]
      rw [show IntOp.addi 0#32 127#32 = BitVec.ofNat 32 127 from rfl, pw_nat (by norm_num), P_pos (by norm_num)]; norm_num
    · unfold invK ex; rw [select_oeq_zero, if_pos ha]
      rw [show IntOp.addi (IntOp.subi 0#32 0#32) 127#32 = BitVec.ofNat 32 127 from rfl, pw_nat (by norm_num), P_pos (by norm_num)]; norm_num
    · unfold scaleR; rw [select_oeq_zero, if_pos ha, Ideal.ofBits_one_f32]; rfl
  · have hx : ∀ k : Fin 128, IntOp.addi (IntOp.subi (BitVec.ofNat 32 k.val) 126#32) 127#32 = BitVec.ofNat 32 (k.val + 1)
        ∧ IntOp.addi (IntOp.subi 0#32 (IntOp.subi (BitVec.ofNat 32 k.val) 126#32)) 127#32 = BitVec.ofNat 32 (253 - k.val) := by decide +kernel
    obtain ⟨x1, x2⟩ := hx ⟨n, by omega⟩
    simp only at x1 x2
    refine ⟨P (n + 1), by rw [P_pos (by omega)]; positivity, ?_, ?_, ?_⟩
    · unfold scaleK ex; rw [select_oeq_zero, if_neg ha, e, x1, pw_nat (by omega)]
    · unfold invK ex; rw [select_oeq_zero, if_neg ha, e, x2, pw_nat (by omega), P_pos (by omega), P_pos (by omega)]
      congr 1
      rw [one_div, ← zpow_neg]; congr 1
      rw [Nat.cast_sub (by omega)]; push_cast; ring
    · unfold scaleR; rw [select_oeq_zero, if_neg ha, ofBits_inf]
      apply le_antisymm
      · rw [Finset.fold_min_le]
        refine .inr ⟨⟨n, by omega⟩, Finset.mem_univ _, ?_⟩
        rw [cand_eq, if_pos u]
      · rw [Finset.le_fold_min]
        refine ⟨le_top, fun k _ => ?_⟩
        rw [cand_eq]
        split_ifs with hk
        · have : n ≤ k.val := by
            by_contra hlt
            exact absurd (lt_of_lt_of_le hk ((EReal.coe_le_coe_iff.mpr (P_mono (by omega : k.val + 1 ≤ n))).trans l)) (lt_irrefl _)
          exact EReal.coe_le_coe_iff.mpr (P_mono (by omega))
        · exact le_top

theorem scale_eq (a : EReal) (h0 : 0 ≤ a) (h1 : a ≤ 1) : scaleK a = scaleR a := by
  obtain ⟨r, _, e1, _, e3⟩ := kernel_spec a h0 h1; rw [e1, e3]

theorem mul_inv_eq (a h : EReal) (h0 : 0 ≤ a) (h1 : a ≤ 1) : h * invK a = Ideal.div h (scaleR a) := by
  obtain ⟨r, hr, _, e2, e3⟩ := kernel_spec a h0 h1
  rw [e2, e3, Ideal.div_coe hr]

/-! ## The activation and a block's bound -/

/-- The clamped gated activation of the two products `g` and `u`, the biases included. -/
def act (g u : EReal) : EReal :=
  (min (Ideal.ofBits .f32 0x40E00000#32) (max (Ideal.ofBits .f32 0xC0E00000#32) u) + 1)
      * min g (Ideal.ofBits .f32 0x40E00000#32)
    * Ideal.logistic (Ideal.ofBits .f32 0x3FD9DB23#32 * min g (Ideal.ofBits .f32 0x40E00000#32))

/-- A block's bound: its greatest absolute value over 448. -/
def bound (h : Fin 128 → EReal) : EReal :=
  (Finset.univ : Finset (Fin 128)).fold max (Ideal.ofBits .f32 0xFF800000#32) (fun k => max (h k) (-h k)) * Ideal.ofBits .f32 0x3B124925#32

/-- The code of a value `h` of a block with the bound `a`, the kernel's way. -/
def codeK (a h : EReal) : EReal := min (Ideal.ofBits .f32 0x43E00000#32) (max (Ideal.ofBits .f32 0xC3E00000#32) (h * invK a))

/-- The code of a value `h` of a block with the bound `a`, the reference's way. -/
def codeR (a h : EReal) : EReal := min (Ideal.ofBits .f32 0x43E00000#32) (max (Ideal.ofBits .f32 0xC3E00000#32) (Ideal.div h (scaleR a)))

theorem code_eq (a h : EReal) (h0 : 0 ≤ a) (h1 : a ≤ 1) : codeK a h = codeR a h := by
  unfold codeK codeR; rw [mul_inv_eq a h h0 h1]

theorem ofBits_seven : Ideal.ofBits .f32 0x40E00000#32 = ((7 : ℝ) : EReal) := by
  simp [Ideal.ofBits, Ideal.ieee, -EReal.coe_mul]; norm_num
theorem ofBits_neg_seven : Ideal.ofBits .f32 0xC0E00000#32 = ((-7 : ℝ) : EReal) := by
  simp [Ideal.ofBits, Ideal.ieee, -EReal.coe_mul]; norm_num
theorem ofBits_alpha : ∃ r : ℝ, 1 ≤ r ∧ Ideal.ofBits .f32 0x3FD9DB23#32 = (r : EReal) := by
  refine ⟨_, ?_, by simp only [Ideal.ofBits, Ideal.ieee]; simp [-EReal.coe_mul]; rfl⟩
  norm_num
theorem ofBits_rcp : ∃ r : ℝ, 0 ≤ r ∧ r ≤ 1 / 56 ∧ Ideal.ofBits .f32 0x3B124925#32 = (r : EReal) := by
  refine ⟨_, ?_, ?_, by simp only [Ideal.ofBits, Ideal.ieee]; simp [-EReal.coe_mul]; rfl⟩ <;> norm_num

/-- The gate times its sigmoid, for a real gate at most 7. -/
theorem gate_le (al g : ℝ) (ha : 1 ≤ al) (hg : g ≤ 7) : |g * (1 + Real.exp (-(al * g)))⁻¹| ≤ 7 := by
  have hp : 0 < 1 + Real.exp (-(al * g)) := by positivity
  rw [abs_mul, abs_of_pos (inv_pos.mpr hp), ← div_eq_mul_inv, div_le_iff₀ hp]
  rcases le_total 0 g with h | h
  · rw [abs_of_nonneg h]
    nlinarith [Real.exp_pos (-(al * g))]
  · rw [abs_of_nonpos h]
    have := Real.add_one_le_exp (-(al * g))
    nlinarith [mul_nonneg (sub_nonneg.mpr ha) (neg_nonneg.mpr h)]

/-- The activation is a real number of size at most 56, whatever the products are. -/
theorem act_bound (g u : EReal) : ∃ r : ℝ, |r| ≤ 56 ∧ act g u = (r : EReal) := by
  obtain ⟨al, ha, ea⟩ := ofBits_alpha
  have hu : ∃ w : ℝ, |w| ≤ 8 ∧ min (Ideal.ofBits .f32 0x40E00000#32) (max (Ideal.ofBits .f32 0xC0E00000#32) u)
      + 1 = (w : EReal) := by
    rw [ofBits_seven, ofBits_neg_seven]
    induction u with
    | bot => exact ⟨-7 + 1, by norm_num, by rw [max_eq_left bot_le, min_eq_right (EReal.coe_le_coe_iff.mpr (by norm_num))]; norm_cast⟩
    | top => exact ⟨7 + 1, by norm_num, by rw [max_eq_right le_top, min_eq_left le_top]; norm_cast⟩
    | coe u =>
      refine ⟨min 7 (max (-7) u) + 1, ?_, ?_⟩
      · rw [abs_le]; constructor
        · have : -7 ≤ min 7 (max (-7) u) := le_min (by norm_num) (le_max_left _ _)
          linarith
        · linarith [min_le_left 7 (max (-7) u)]
      · push_cast; norm_cast
  obtain ⟨w, hw, ew⟩ := hu
  unfold act
  rw [ew, ea, ofBits_seven]
  induction g with
  | bot =>
    refine ⟨0, by norm_num, ?_⟩
    rw [min_eq_left bot_le, EReal.coe_mul_bot_of_pos (lt_of_lt_of_le one_pos ha : (0 : ℝ) < al), Ideal.logistic_bot, mul_zero]; rfl
  | top =>
    rw [min_eq_right le_top]
    refine ⟨w * 7 * (1 + Real.exp (-(al * 7)))⁻¹, ?_, ?_⟩
    · have h7 := gate_le al 7 ha le_rfl
      rw [mul_assoc, abs_mul]
      nlinarith [abs_nonneg w, abs_nonneg (7 * (1 + Real.exp (-(al * 7)))⁻¹)]
    · rw [← EReal.coe_mul, ← EReal.coe_mul, Ideal.logistic_coe, ← EReal.coe_mul]
  | coe g =>
    rw [show min (g : EReal) ((7 : ℝ) : EReal) = ((min g 7 : ℝ) : EReal) from (EReal.coe_strictMono.monotone.map_min).symm]
    refine ⟨w * min g 7 * (1 + Real.exp (-(al * min g 7)))⁻¹, ?_, ?_⟩
    · have h7 := gate_le al (min g 7) ha (min_le_right _ _)
      rw [mul_assoc, abs_mul]
      nlinarith [abs_nonneg w, abs_nonneg (min g 7 * (1 + Real.exp (-(al * min g 7)))⁻¹)]
    · rw [← EReal.coe_mul, ← EReal.coe_mul, Ideal.logistic_coe, ← EReal.coe_mul]

/-- A block of activations has a bound between 0 and 1. -/
theorem bound_mem (h : Fin 128 → EReal) (hh : ∀ k, ∃ r : ℝ, |r| ≤ 56 ∧ h k = (r : EReal)) : 0 ≤ bound h ∧ bound h ≤ 1 := by
  obtain ⟨c, c0, c1, ec⟩ := ofBits_rcp
  have hb : ∀ k, 0 ≤ max (h k) (-h k) ∧ max (h k) (-h k) ≤ ((56 : ℝ) : EReal) := by
    intro k
    obtain ⟨r, hr, er⟩ := hh k
    rw [er, ← EReal.coe_neg, ← EReal.coe_strictMono.monotone.map_max]
    have : max r (-r) = |r| := rfl
    rw [this]
    exact ⟨by exact_mod_cast abs_nonneg r, by exact_mod_cast hr⟩
  have hbot : Ideal.ofBits .f32 0xFF800000#32 = ⊥ := by simp [Ideal.ofBits, Ideal.ieee]
  unfold bound
  rw [hbot, ec]
  set M := (Finset.univ : Finset (Fin 128)).fold max ⊥ (fun k => max (h k) (-h k)) with hM
  have m0 : 0 ≤ M := by rw [hM, Finset.le_fold_max]; exact .inr ⟨0, Finset.mem_univ _, (hb 0).1⟩
  have m1 : M ≤ ((56 : ℝ) : EReal) := by rw [hM, Finset.fold_max_le]; exact ⟨bot_le, fun k _ => (hb k).2⟩
  have c0' : (0 : EReal) ≤ (c : EReal) := by exact_mod_cast c0
  refine ⟨mul_nonneg m0 c0', (mul_le_mul_of_nonneg_right m1 c0').trans ?_⟩
  rw [← EReal.coe_mul]
  exact_mod_cast (by nlinarith : (56 : ℝ) * c ≤ 1)

end Cert.Quant

end
-- ==== Proof.KernelIdealQuant.lean ====
/- The kernel's body at the extended reals, its last part: from a block of activations `h` to the codes and the scales that are stored.
   Each half of a 512 by 256 block has its own scale in every row. -/
module

public import proofs.«01_k».proof.Proof.Quantiser
public import proofs.«01_k».proof.Proof.Gen.KernelIdeal.Skeleton

@[expose] public section

set_option maxRecDepth 16384
set_option maxHeartbeats 1000000

noncomputable section

namespace Cert.KernelIdeal.Body

open Cert.KernelIdeal Cert.KernelIdeal.Gen
open Idealize.ShloMosaic Idealize.ShloMosaic.TcCoe

/-- One step of the search for the exponent field, over a column. -/
def stepV (A : FVec Ideal S512x1 .f32) (d s : BitVec 32) (f : IVec S512x1 32) : IVec S512x1 32 :=
  select (cmpf .olt A (bitcastToFloat .f32 (shli (addi (addi f (broadcast S512x1 d)) (broadcast S512x1 127#32)) (broadcast S512x1 23#32))))
    f (addi f (broadcast S512x1 s))

/-- The search's result, over a column. -/
def fieldV (A : FVec Ideal S512x1 .f32) : IVec S512x1 32 :=
  stepV A 4294967170#32 1#32 (stepV A 4294967171#32 2#32 (stepV A 4294967173#32 4#32 (stepV A 4294967177#32 8#32
    (stepV A 4294967185#32 16#32 (stepV A 4294967201#32 32#32 (stepV A 4294967233#32 64#32 (stepV A 1#32 128#32 (broadcast S512x1 0#32))))))))

/-- The exponents of a column. -/
def exV (A : FVec Ideal S512x1 .f32) : IVec S512x1 32 :=
  select (cmpf .oeq A (broadcast S512x1 (Scalar.ofBits (F := Ideal) .f32 0x00000000#32))) (broadcast S512x1 0#32)
    (subi (fieldV A) (broadcast S512x1 126#32))

theorem stepV_at (A : FVec Ideal S512x1 .f32) (d s : BitVec 32) (f : IVec S512x1 32) (j : S512x1.Idx) :
    stepV A d s f j = Quant.step (A j) d s (f j) := rfl

theorem exV_at (A : FVec Ideal S512x1 .f32) (j : S512x1.Idx) : exV A j = Quant.ex (A j) := by
  unfold Quant.ex Quant.field Quant.field4
  rw [show Quant.step (A j) 1#32 128#32 0#32 = stepV A 1#32 128#32 (broadcast S512x1 0#32) j from
    (stepV_at A 1#32 128#32 (broadcast S512x1 0#32) j).symm, ← stepV_at, ← stepV_at, ← stepV_at,
    ← stepV_at, ← stepV_at, ← stepV_at, ← stepV_at]
  rfl

/-- The powers that the codes are multiplied by. -/
def invV (A : FVec Ideal S512x1 .f32) : FVec Ideal S512x1 .f32 :=
  bitcastToFloat .f32 (shli (addi (subi (broadcast S512x1 0#32) (exV A)) (broadcast S512x1 127#32)) (broadcast S512x1 23#32))

/-- The scales. -/
def scaleV (A : FVec Ideal S512x1 .f32) : FVec Ideal S512x1 .f32 :=
  bitcastToFloat .f32 (shli (addi (exV A) (broadcast S512x1 127#32)) (broadcast S512x1 23#32))

theorem invV_at (A : FVec Ideal S512x1 .f32) (j : S512x1.Idx) : invV A j = Quant.invK (A j) := by
  unfold Quant.invK; rw [← exV_at]; rfl

theorem scaleV_at (A : FVec Ideal S512x1 .f32) (j : S512x1.Idx) : scaleV A j = Quant.scaleK (A j) := by
  unfold Quant.scaleK; rw [← exV_at]; rfl

/-- The codes of one half, those of the rows outside the visit left as they were. -/
def codesV (kp : IVec S512x1 1) (h : FVec Ideal S512x128 .f32) (A : FVec Ideal S512x1 .f32) (old : Vec Ideal S512x128 .fp8e4m3) : FVec Ideal S512x128 .fp8e4m3 :=
  have v2629 : FVec Ideal S512x128 .f32 := broadcastTo S512x128 (invV A) broadcasts_S512x1_S512x128
  have v2630 : FVec Ideal S512x128 .f32 := mulf h v2629
  have cst_1486 : Ideal .f32 := Scalar.ofBits .f32 0xC3E00000#32
  have cst_1487 : Ideal .f32 := Scalar.ofBits .f32 0x43E00000#32
  have v2631 : FVec Ideal S512x128 .f32 := broadcast S512x128 cst_1486
  have v2632 : FVec Ideal S512x128 .f32 := maximumf v2631 v2630
  have v2633 : FVec Ideal S512x128 .f32 := broadcast S512x128 cst_1487
  have v2634 : FVec Ideal S512x128 .f32 := minimumf v2633 v2632
  have v2636 : FVec Ideal S512x128 .fp8e4m3 := shapeCast S512x128 old shapeCasts_S512x128_S512x128
  have v2637 : FVec Ideal S512x128 .f32 := extf .f32 v2636 bitsLt_fp8e4m3_f32
  have v2638 : IVec S512x1 1 := shapeCast S512x1 kp shapeCasts_S512x1_S512x1
  have v2639 : IVec S512x128 1 := broadcastTo S512x128 v2638 broadcasts_S512x1_S512x128
  have v2640 : FVec Ideal S512x128 .f32 := select v2639 v2634 v2637
  have v2641 : FVec Ideal S512x128 .fp8e4m3 := truncf .fp8e4m3 v2640 bitsLt_fp8e4m3_f32
  v2641

/-- The scales of one half, those of the rows outside the visit left as they were. -/
def scalesV (kp : IVec S512x1 1) (A : FVec Ideal S512x1 .f32) (old : Vec Ideal S1x512x1 .f32) : FVec Ideal S1x512x1 .f32 :=
  have v2649 : FVec Ideal S512x1 .f32 := shapeCast S512x1 old shapeCasts_S1x512x1_S512x1
  have v2650 : FVec Ideal S512x1 .f32 := select kp (scaleV A) v2649
  have v2653 : FVec Ideal S1x512x1 .f32 := shapeCast S1x512x1 v2650 shapeCasts_S512x1_S1x512x1
  v2653

theorem codesV_at (kp : IVec S512x1 1) (h : FVec Ideal S512x128 .f32) (A : FVec Ideal S512x1 .f32) (old : Vec Ideal S512x128 .fp8e4m3)
    (r : Fin 512) (l : Fin 128) :
    codesV kp h A old (ix2 r l) = Scalar.select (kp (ix2 r 0))
      (min (Ideal.ofBits .f32 0x43E00000#32) (max (Ideal.ofBits .f32 0xC3E00000#32) (h (ix2 r l) * Quant.invK (A (ix2 r 0))))) (old (ix2 r l)) := by
  rw [← invV_at]
  unfold codesV
  generalize invV A = I
  pointwise
  try rfl

theorem scalesV_at (kp : IVec S512x1 1) (A : FVec Ideal S512x1 .f32) (old : Vec Ideal S1x512x1 .f32) (r : Fin 512) :
    scalesV kp A old (ix3 0 r 0) = Scalar.select (kp (ix2 r 0)) (Quant.scaleK (A (ix2 r 0))) (old (ix3 0 r 0)) := by
  rw [← scaleV_at]
  unfold scalesV
  generalize scaleV A = I
  pointwise
  try rfl

/-- The first half's codes. -/
theorem codes0 (kp : IVec S512x1 1) (h v : FVec Ideal S512x128 .f32) (old : Vec Ideal S512x128 .fp8e4m3) :
    k0_pay303 kp h (k0_pay294 v) (k0_pay295 v) (k0_pay299 (k0_pay294 v) (k0_pay296 v) (k0_pay297 v) k0_pay298)
      (k0_pay300 (k0_pay294 v) (k0_pay296 v) (k0_pay297 v) k0_pay298) k0_pay301 old = codesV kp h (k0_pay294 v) old := rfl

/-- The first half's scales. -/
theorem scales0 (kp : IVec S512x1 1) (v : FVec Ideal S512x128 .f32) (old : Vec Ideal S1x512x1 .f32) :
    k0_pay305 (k0_pay304 kp (k0_pay294 v) (k0_pay295 v) (k0_pay299 (k0_pay294 v) (k0_pay296 v) (k0_pay297 v) k0_pay298)
      (k0_pay300 (k0_pay294 v) (k0_pay296 v) (k0_pay297 v) k0_pay298) k0_pay301 old) = scalesV kp (k0_pay294 v) old := rfl

/-- The second half's codes. -/
theorem codes1 (kp : IVec S512x1 1) (H : FVec Ideal S512x256 .f32) (old : Vec Ideal S512x128 .fp8e4m3) :
    k0_pay314 kp (k0_pay306 H) (k0_pay307 H) (k0_pay308 H) (k0_pay311 (k0_pay307 H) (k0_pay309 H) (k0_pay310 H))
      (k0_pay312 (k0_pay307 H) (k0_pay309 H) (k0_pay310 H)) old = codesV kp (k0_pay306 H) (k0_pay307 H) old := rfl

/-- The second half's scales. -/
theorem scales1 (kp : IVec S512x1 1) (H : FVec Ideal S512x256 .f32) (old : Vec Ideal S1x512x1 .f32) :
    k0_pay1 kp (k0_pay315 (k0_pay307 H) (k0_pay308 H) (k0_pay311 (k0_pay307 H) (k0_pay309 H) (k0_pay310 H))
      (k0_pay312 (k0_pay307 H) (k0_pay309 H) (k0_pay310 H))) old = scalesV kp (k0_pay307 H) old := rfl

/-- The bound of the first half of a row. -/
theorem bound0 (a : FVec Ideal S512x5120 .bf16) (b c : FVec Ideal S5120x256 .bf16) (d e : Vec Ideal S1x1x256 .f32) (r : Fin 512) :
    k0_pay294 (k0_pay293 a b c d e) (ix2 r 0) = Quant.bound fun k : Fin 128 => k0_pay290 a b c d e (ix2 r ⟨k.val, by omega⟩) := by
  unfold k0_pay293 k0_pay292 Quant.bound
  generalize k0_pay290 a b c d e = H
  pointwise [k0_pay294]
  try rfl

/-- The first half of a row. -/
theorem half0 (a : FVec Ideal S512x5120 .bf16) (b c : FVec Ideal S5120x256 .bf16) (d e : Vec Ideal S1x1x256 .f32) (r : Fin 512) (l : Fin 128) :
    k0_pay292 a b c d e (ix2 r l) = k0_pay290 a b c d e (ix2 r ⟨l.val, by omega⟩) := by
  unfold k0_pay292
  generalize k0_pay290 a b c d e = H
  pointwise
  try rfl

/-- The bound of the second half of a row. -/
theorem bound1 (H : FVec Ideal S512x256 .f32) (r : Fin 512) :
    k0_pay307 H (ix2 r 0) = Quant.bound fun k : Fin 128 => H (ix2 r ⟨128 + k.val, by omega⟩) := by
  unfold Quant.bound
  pointwise [k0_pay307, k0_pay306]
  try rfl

/-- The second half of a row. -/
theorem half1 (H : FVec Ideal S512x256 .f32) (r : Fin 512) (l : Fin 128) :
    k0_pay306 H (ix2 r l) = H (ix2 r ⟨128 + l.val, by omega⟩) := by
  pointwise [k0_pay306]
  try rfl

/-- The activations. -/
theorem act_at (a : FVec Ideal S512x5120 .bf16) (b c : FVec Ideal S5120x256 .bf16) (d e : Vec Ideal S1x1x256 .f32) (r : Fin 512) (l : Fin 256) :
    k0_pay290 a b c d e (ix2 r l)
      = Quant.act ((∑ k : Fin 5120, a (ix2 r k) * b (ix2 k l)) + d (ix3 0 0 l)) ((∑ k : Fin 5120, a (ix2 r k) * c (ix2 k l)) + e (ix3 0 0 l)) := by
  unfold Quant.act
  pointwise [k0_pay290]
  try rfl

/-- The mask of a visit: the rows from `lo` on, below `hi`. -/
theorem mask_at (lo hi : BitVec 32) (r : Fin 512) :
    k0_pay291 (F := Ideal) lo hi (ix2 r 0) = IntOp.andi (IntOp.cmpi .sge (BitVec.ofNat 32 r.val) lo) (IntOp.cmpi .slt (BitVec.ofNat 32 r.val) hi) := by
  pointwise [k0_pay291]
  try rfl

end Cert.KernelIdeal.Body
-- ==== Proof.KernelIdealBody.lean ====
/- The kernel's body at the extended reals, what it leaves in the two outputs' buffers, entry by entry: in the rows of the visit the
   code and the scale of the activation of the row's block, in the other rows what the buffers held. -/
module

public import proofs.«01_k».proof.Proof.KernelIdealTiles
public import proofs.«01_k».proof.Proof.KernelIdealQuant
public import Idealize.ShloMosaic.Lib.Writes

@[expose] public section

set_option maxRecDepth 16384
set_option maxHeartbeats 4000000

noncomputable section

namespace Cert.KernelIdeal.Body

open Cert.KernelIdeal Cert.KernelIdeal.Gen
open Idealize.ShloMosaic Idealize.ShloMosaic.TcCoe

/-- The activation of a visit at row `r` and column `l` of its block, the columns' block having the number `n`. -/
def hK (n : Fin 32) (x0 : Vec Ideal S512x5120 .fp8e4m3) (x1 : Vec Ideal S512x40 .f32) (x2 : Vec Ideal S1x5120x256 .fp8e4m3) (x3 : Vec Ideal S1x40x64 .f32)
    (x4 : Vec Ideal S1x5120x256 .fp8e4m3) (x5 : Vec Ideal S1x40x64 .f32) (x6 x7 : Vec Ideal S1x1x256 .f32) (r : Fin 512) (l : Fin 256) : EReal :=
  Quant.act ((∑ k : Fin 5120, XB x0 x1 r k * WB n x2 x3 k l) + x6 (ix3 0 0 l)) ((∑ k : Fin 5120, XB x0 x1 r k * WB n x4 x5 k l) + x7 (ix3 0 0 l))

/-- The half `b` of a row of 256 values. -/
def half (h : Fin 256 → EReal) (b : Fin 2) (k : Fin 128) : EReal := h ⟨128 * b.val + k.val, by omega⟩

/-- The mask of a visit with the rows from `a` on, below `b`. -/
theorem mask_nat (a b : ℕ) (ha : a ≤ 512) (hb : b ≤ 512) (r : Fin 512) (p q : EReal) :
    Scalar.select (k0_pay291 (F := Ideal) (BitVec.ofNat 32 a) (BitVec.ofNat 32 b) (ix2 r 0)) p q = if a ≤ r.val ∧ r.val < b then p else q := by
  rw [mask_at]
  have toInt : ∀ k : ℕ, k ≤ 512 → (BitVec.ofNat 32 k).toInt = k := fun k hk => by
    rw [BitVec.toInt_eq_toNat_of_lt (by rw [BitVec.toNat_ofNat]; omega), BitVec.toNat_ofNat]; omega
  have e1 : IntOp.cmpi .sge (BitVec.ofNat 32 r.val) (BitVec.ofNat 32 a) = BitVec.ofBool (decide (a ≤ r.val)) := by
    show BitVec.ofBool (BitVec.sle _ _) = _
    rw [BitVec.sle_eq_decide, toInt a ha, toInt r.val (by omega)]; simp
  have e2 : IntOp.cmpi .slt (BitVec.ofNat 32 r.val) (BitVec.ofNat 32 b) = BitVec.ofBool (decide (r.val < b)) := by
    show BitVec.ofBool (BitVec.slt _ _) = _
    rw [BitVec.slt_eq_decide, toInt b hb, toInt r.val (by omega)]; simp
  rw [e1, e2]
  by_cases h1 : a ≤ r.val <;> by_cases h2 : r.val < b <;> simp [h1, h2, Scalar.select, IntOp.andi]

variable (c : Dev nD) (i : grid0.Coords) (arg7 : Memref sig .tc .vmem S512x5120 .fp8e4m3) (harg7 : arg7.IsWhole) (arg8 : Memref sig .tc .vmem S512x40 .f32) (harg8 : arg8.IsWhole) (arg9 : Memref sig .tc .vmem S1x5120x256 .fp8e4m3) (harg9 : arg9.IsWhole) (arg10 : Memref sig .tc .smem S1x40x64 .f32) (harg10 : arg10.IsWhole) (arg11 : Memref sig .tc .vmem S1x5120x256 .fp8e4m3) (harg11 : arg11.IsWhole) (arg12 : Memref sig .tc .smem S1x40x64 .f32) (harg12 : arg12.IsWhole) (arg13 : Memref sig .tc .vmem S1x1x256 .f32) (harg13 : arg13.IsWhole) (arg14 : Memref sig .tc .vmem S1x1x256 .f32) (harg14 : arg14.IsWhole) (arg15 : Memref sig .tc .vmem S512x256 .fp8e4m3) (harg15 : arg15.IsWhole) (arg16 : Memref sig .tc .vmem S1x512x2 .f32) (harg16 : arg16.IsWhole) (arg17 : Memref sig .tc .vmem S512x5120 .bf16) (harg17 : arg17.IsWhole) (arg18 : Memref sig .tc .vmem S5120x256 .bf16) (harg18 : arg18.IsWhole) (arg19 : Memref sig .tc .vmem S5120x256 .bf16) (harg19 : arg19.IsWhole)
    (x0 : Vec Ideal S512x5120 .fp8e4m3) (x1 : Vec Ideal S512x40 .f32) (x2 : Vec Ideal S1x5120x256 .fp8e4m3) (x3 : Vec Ideal S1x40x64 .f32) (x4 : Vec Ideal S1x5120x256 .fp8e4m3) (x5 : Vec Ideal S1x40x64 .f32) (x6 : Vec Ideal S1x1x256 .f32) (x7 : Vec Ideal S1x1x256 .f32) (xt0 : TbBuf0 (F := Ideal) c tbM0_0) (xt1 : TbBuf0 (F := Ideal) c tbM0_1) (xt2 : TbBuf0 (F := Ideal) c tbM0_2) (xt3 : TbBuf0 (F := Ideal) c tbM0_3) (xt4 : TbBuf0 (F := Ideal) c tbM0_4)
    (y8 : Vec Ideal S512x256 .fp8e4m3) (y9 : Vec Ideal S1x512x2 .f32)

/-- The block of activations. -/
theorem h_at (r : Fin 512) (l : Fin 256) :
    kernelRun0_V.sl.r_257 (F := Ideal) c i arg7 harg7 arg8 harg8 arg9 harg9 arg10 harg10 arg11 harg11 arg12 harg12 arg13 harg13 arg14 harg14 arg17 arg18 arg19 x0 x1 x2 x3 x4 x5 x6 x7 (ix2 r l)
      = hK (i 0) x0 x1 x2 x3 x4 x5 x6 x7 r l := by
  unfold kernelRun0_V.sl.r_257 hK
  rw [act_at]
  have e0 : ∀ k, kernelRun0_V.sl.v2489 (F := Ideal) c arg7 harg7 arg8 harg8 arg17 x0 x1 (ix2 r k) = XB x0 x1 r k := fun k => by
    unfold kernelRun0_V.sl.v2489
    rw [View.readCov_eq_canon']
    refine (xb_at c arg7 harg7 arg8 harg8 x0 x1 _).trans ?_
    refine congrArg₂ (XB x0 x1) (Fin.ext ?_) (Fin.ext ?_)
    · show 0 + 1 * r.val = r.val; omega
    · show 0 + 1 * k.val = k.val; omega
  have e1 : ∀ k, kernelRun0_V.sl.v2490 (F := Ideal) c i arg9 harg9 arg10 harg10 arg18 x2 x3 (ix2 k l) = WB (i 0) x2 x3 k l := fun k => by
    unfold kernelRun0_V.sl.v2490
    rw [View.readCov_eq_canon']
    refine (gate_at c i arg9 harg9 arg10 harg10 x2 x3 _).trans ?_
    refine congrArg₂ (WB (i 0) x2 x3) (Fin.ext ?_) (Fin.ext ?_)
    · show 0 + 1 * k.val = k.val; omega
    · show 0 + 1 * l.val = l.val; omega
  have e2 : ∀ k, kernelRun0_V.sl.v2492 (F := Ideal) c i arg11 harg11 arg12 harg12 arg19 x4 x5 (ix2 k l) = WB (i 0) x4 x5 k l := fun k => by
    unfold kernelRun0_V.sl.v2492
    rw [View.readCov_eq_canon']
    refine (up_at c i arg11 harg11 arg12 harg12 x4 x5 _).trans ?_
    refine congrArg₂ (WB (i 0) x4 x5) (Fin.ext ?_) (Fin.ext ?_)
    · show 0 + 1 * k.val = k.val; omega
    · show 0 + 1 * l.val = l.val; omega
  have e3 : (View.readAt (Elt Ideal) arg13.view (Rect.unit ![0, 0, 0] S1x1x256.size inb_S1x1x256_S1x1x256_0_0_0).toLoadRect (harg13.unread x6)) (ix3 0 0 l) = x6 (ix3 0 0 l) := by
    rw [harg13.readAt_unread]; pointwise
  have e4 : (View.readAt (Elt Ideal) arg14.view (Rect.unit ![0, 0, 0] S1x1x256.size inb_S1x1x256_S1x1x256_0_0_0).toLoadRect (harg14.unread x7)) (ix3 0 0 l) = x7 (ix3 0 0 l) := by
    rw [harg14.readAt_unread]; pointwise
  refine congrArg₂ Quant.act (congrArg₂ (· + ·) (Finset.sum_congr rfl fun k _ => ?_) e3) (congrArg₂ (· + ·) (Finset.sum_congr rfl fun k _ => ?_) e4)
  · exact congrArg₂ (· * ·) (e0 k) (e1 k)
  · exact congrArg₂ (· * ·) (e0 k) (e2 k)

/-- The first half's bounds. -/
theorem b0_at (r : Fin 512) :
    k0_pay294 (kernelRun0_V.sl.r_260 (F := Ideal) c i arg7 harg7 arg8 harg8 arg9 harg9 arg10 harg10 arg11 harg11 arg12 harg12 arg13 harg13 arg14 harg14 arg17 arg18 arg19 x0 x1 x2 x3 x4 x5 x6 x7) (ix2 r 0)
      = Quant.bound (half (hK (i 0) x0 x1 x2 x3 x4 x5 x6 x7 r) 0) := by
  unfold kernelRun0_V.sl.r_260
  rw [bound0]
  refine congrArg Quant.bound (funext fun k => ?_)
  refine (h_at c i arg7 harg7 arg8 harg8 arg9 harg9 arg10 harg10 arg11 harg11 arg12 harg12 arg13 harg13 arg14 harg14 arg17 arg18 arg19 x0 x1 x2 x3 x4 x5 x6 x7 r _).trans ?_
  exact congrArg (hK (i 0) x0 x1 x2 x3 x4 x5 x6 x7 r) (Fin.ext (show k.val = 128 * 0 + k.val by omega))

/-- The second half's bounds. -/
theorem b1_at (r : Fin 512) :
    k0_pay307 (kernelRun0_V.sl.r_257 (F := Ideal) c i arg7 harg7 arg8 harg8 arg9 harg9 arg10 harg10 arg11 harg11 arg12 harg12 arg13 harg13 arg14 harg14 arg17 arg18 arg19 x0 x1 x2 x3 x4 x5 x6 x7) (ix2 r 0)
      = Quant.bound (half (hK (i 0) x0 x1 x2 x3 x4 x5 x6 x7 r) 1) := by
  rw [bound1]
  refine congrArg Quant.bound (funext fun k => ?_)
  refine (h_at c i arg7 harg7 arg8 harg8 arg9 harg9 arg10 harg10 arg11 harg11 arg12 harg12 arg13 harg13 arg14 harg14 arg17 arg18 arg19 x0 x1 x2 x3 x4 x5 x6 x7 r _).trans ?_
  exact congrArg (hK (i 0) x0 x1 x2 x3 x4 x5 x6 x7 r) (Fin.ext (show 128 + k.val = 128 * 1 + k.val by omega))

/-- Where the visit has no row, nothing is written. -/
theorem cond_nat (a b : ℕ) (ha : a ≤ 512) (hb : b ≤ 512) (h : ¬ k0_cond1 (BitVec.ofNat 32 a) (BitVec.ofNat 32 b) = 1#1) : b ≤ a := by
  have toInt : ∀ k : ℕ, k ≤ 512 → (BitVec.ofNat 32 k).toInt = k := fun k hk => by
    rw [BitVec.toInt_eq_toNat_of_lt (by rw [BitVec.toNat_ofNat]; omega), BitVec.toNat_ofNat]; omega
  by_contra hn
  refine h ?_
  have e : Scalar.cmpi .sgt (BitVec.ofNat 32 b) (BitVec.ofNat 32 a) = BitVec.ofBool true := by
    show BitVec.ofBool (BitVec.slt _ _) = _
    rw [BitVec.slt_eq_decide, toInt b hb, toInt a ha]
    exact congrArg BitVec.ofBool (decide_eq_true (by omega))
  unfold k0_cond1
  dsimp only
  rw [e]
  decide

/-- What the body leaves in the codes' buffer: the rows of the visit are written, the others are left. -/
theorem o1_at (a b : ℕ) (ha : a ≤ 512) (hb : b ≤ 512) (hlo : kernelRun0_V.sl.r (F := Ideal) c i xt2 = BitVec.ofNat 32 a)
    (hhi : kernelRun0_V.sl.r_1 (F := Ideal) c i xt3 = BitVec.ofNat 32 b) (r : Fin 512) (l : Fin 256) :
    (kernelRun0_V (F := Ideal) c i arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 xt0 xt1 xt2 xt3 xt4 y8 y9).1.1 (ix2 r l)
      = if a ≤ r.val ∧ r.val < b then Quant.codeK (Quant.bound (half (hK (i 0) x0 x1 x2 x3 x4 x5 x6 x7 r) ⟨l.val / 128, by omega⟩)) (hK (i 0) x0 x1 x2 x3 x4 x5 x6 x7 r l) else y8 (ix2 r l) := by
  unfold kernelRun0_V
  dsimp only
  by_cases hc : k0_cond1 (kernelRun0_V.sl.r (F := Ideal) c i xt2) (kernelRun0_V.sl.r_1 (F := Ideal) c i xt3) = 1#1
  · rw [dif_pos hc]
    refine View.read_writes_apply_of_pieces _ _ (fun y => if a ≤ (y 0).val ∧ (y 0).val < b then
        Quant.codeK (Quant.bound (half (hK (i 0) x0 x1 x2 x3 x4 x5 x6 x7 (y 0)) ⟨(y 1).val / 128, by have : (y 1).val < 256 := (y 1).isLt; omega⟩)) (hK (i 0) x0 x1 x2 x3 x4 x5 x6 x7 (y 0) (y 1))
        else y8 (ix2 (y 0) (y 1))) _ (List.forall_mem_cons.2 ⟨?_, List.forall_mem_cons.2 ⟨?_, fun _ h => absurd h List.not_mem_nil⟩⟩) (ix2 r l) ?_
    · intro (x : S512x128.Idx)
      obtain ⟨x0', x1', rfl⟩ : ∃ p q, x = ix2 p q := ⟨x 0, x 1, funext fun a => match a with | ⟨0, _⟩ => rfl | ⟨1, _⟩ => rfl⟩
      refine (congrFun (codes1 (kernelRun0_V.sl.r_258 (F := Ideal) c i xt2 xt3) (kernelRun0_V.sl.r_257 (F := Ideal) c i arg7 harg7 arg8 harg8 arg9 harg9 arg10 harg10 arg11 harg11 arg12 harg12 arg13 harg13 arg14 harg14 arg17 arg18 arg19 x0 x1 x2 x3 x4 x5 x6 x7) (kernelRun0_V.sl.v2768 c arg15 harg15 y8)) (ix2 x0' x1')).trans ?_
      rw [codesV_at, b1_at, half1, h_at]
      rw [show (kernelRun0_V.sl.r_258 (F := Ideal) c i xt2 xt3) = k0_pay291 (F := Ideal) (BitVec.ofNat 32 a) (BitVec.ofNat 32 b) by unfold kernelRun0_V.sl.r_258; rw [hlo, hhi], mask_nat a b ha hb]
      have he : (Rect.unit (s := S512x256) ![0, 128] S512x128.size inb_S512x256_S512x128_0_128).emb (ix2 x0' x1') = ix2 x0' ⟨128 + x1'.val, by omega⟩ :=
        funext fun a => Fin.ext (match a with | ⟨0, _⟩ => (show 0 + 1 * x0'.val = x0'.val by omega) | ⟨1, _⟩ => (show 128 + 1 * x1'.val = 128 + x1'.val by omega))
      refine Eq.trans ?_ (congrArg (fun y : S512x256.Idx => if a ≤ (y 0).val ∧ (y 0).val < b then
        Quant.codeK (Quant.bound (half (hK (i 0) x0 x1 x2 x3 x4 x5 x6 x7 (y 0)) ⟨(y 1).val / 128, by have : (y 1).val < 256 := (y 1).isLt; omega⟩)) (hK (i 0) x0 x1 x2 x3 x4 x5 x6 x7 (y 0) (y 1))
        else y8 (ix2 (y 0) (y 1))) he.symm)
      show _ = if a ≤ x0'.val ∧ x0'.val < b then Quant.codeK (Quant.bound (half (hK (i 0) x0 x1 x2 x3 x4 x5 x6 x7 x0') ⟨(128 + x1'.val) / 128, by omega⟩)) (hK (i 0) x0 x1 x2 x3 x4 x5 x6 x7 x0' ⟨128 + x1'.val, by omega⟩)
        else y8 (ix2 x0' ⟨128 + x1'.val, by omega⟩)
      rw [show (⟨(128 + x1'.val) / 128, by omega⟩ : Fin 2) = 1 from Fin.ext (show (128 + x1'.val) / 128 = 1 by omega)]
      unfold Quant.codeK
      refine congrArg₂ (fun p q => if a ≤ x0'.val ∧ x0'.val < b then p else q) rfl ?_
      unfold kernelRun0_V.sl.v2768
      rw [harg15.readAt_unread]
      exact congrArg y8 he
    · intro (x : S512x128.Idx)
      obtain ⟨x0', x1', rfl⟩ : ∃ p q, x = ix2 p q := ⟨x 0, x 1, funext fun a => match a with | ⟨0, _⟩ => rfl | ⟨1, _⟩ => rfl⟩
      refine (congrFun (codes0 (kernelRun0_V.sl.r_258 (F := Ideal) c i xt2 xt3) (kernelRun0_V.sl.r_259 (F := Ideal) c i arg7 harg7 arg8 harg8 arg9 harg9 arg10 harg10 arg11 harg11 arg12 harg12 arg13 harg13 arg14 harg14 arg17 arg18 arg19 x0 x1 x2 x3 x4 x5 x6 x7) (kernelRun0_V.sl.r_260 (F := Ideal) c i arg7 harg7 arg8 harg8 arg9 harg9 arg10 harg10 arg11 harg11 arg12 harg12 arg13 harg13 arg14 harg14 arg17 arg18 arg19 x0 x1 x2 x3 x4 x5 x6 x7) (View.readAt (Elt Ideal) arg15.view (Rect.unit (s := S512x256) ![0, 0] S512x128.size inb_S512x256_S512x128_0_0).toLoadRect (harg15.unread y8))) (ix2 x0' x1')).trans ?_
      rw [codesV_at, b0_at]
      unfold kernelRun0_V.sl.r_259
      rw [half0]
      rw [show k0_pay290 _ _ _ _ _ (ix2 x0' _) = _ from h_at c i arg7 harg7 arg8 harg8 arg9 harg9 arg10 harg10 arg11 harg11 arg12 harg12 arg13 harg13 arg14 harg14 arg17 arg18 arg19 x0 x1 x2 x3 x4 x5 x6 x7 x0' _]
      rw [show (kernelRun0_V.sl.r_258 (F := Ideal) c i xt2 xt3) = k0_pay291 (F := Ideal) (BitVec.ofNat 32 a) (BitVec.ofNat 32 b) by unfold kernelRun0_V.sl.r_258; rw [hlo, hhi], mask_nat a b ha hb]
      have he : (Rect.unit (s := S512x256) ![0, 0] S512x128.size inb_S512x256_S512x128_0_0).emb (ix2 x0' x1') = ix2 x0' ⟨0 + x1'.val, by omega⟩ :=
        funext fun a => Fin.ext (match a with | ⟨0, _⟩ => (show 0 + 1 * x0'.val = x0'.val by omega) | ⟨1, _⟩ => (show 0 + 1 * x1'.val = 0 + x1'.val by omega))
      refine Eq.trans ?_ (congrArg (fun y : S512x256.Idx => if a ≤ (y 0).val ∧ (y 0).val < b then
        Quant.codeK (Quant.bound (half (hK (i 0) x0 x1 x2 x3 x4 x5 x6 x7 (y 0)) ⟨(y 1).val / 128, by have : (y 1).val < 256 := (y 1).isLt; omega⟩)) (hK (i 0) x0 x1 x2 x3 x4 x5 x6 x7 (y 0) (y 1))
        else y8 (ix2 (y 0) (y 1))) he.symm)
      show _ = if a ≤ x0'.val ∧ x0'.val < b then Quant.codeK (Quant.bound (half (hK (i 0) x0 x1 x2 x3 x4 x5 x6 x7 x0') ⟨(0 + x1'.val) / 128, by omega⟩)) (hK (i 0) x0 x1 x2 x3 x4 x5 x6 x7 x0' ⟨0 + x1'.val, by omega⟩)
        else y8 (ix2 x0' ⟨0 + x1'.val, by omega⟩)
      rw [show (⟨(0 + x1'.val) / 128, by omega⟩ : Fin 2) = 0 from Fin.ext (show (0 + x1'.val) / 128 = 0 by omega)]
      unfold Quant.codeK
      refine congrArg₂ (fun p q => if a ≤ x0'.val ∧ x0'.val < b then p else q) (by rw [show (⟨x1'.val, by omega⟩ : Fin 256) = ⟨0 + x1'.val, by omega⟩ from Fin.ext (Nat.zero_add _).symm]) ?_
      rw [harg15.readAt_unread]
      exact congrArg y8 he
    · exact View.cover_of_tiled_head _ _ _ rfl _
  · rw [dif_neg hc, harg15.read_unread]
    rw [hlo, hhi] at hc
    have := cond_nat a b ha hb hc
    rw [if_neg (by omega)]

/-- What the body leaves in the scales' buffer. -/
theorem o2_at (a b : ℕ) (ha : a ≤ 512) (hb : b ≤ 512) (hlo : kernelRun0_V.sl.r (F := Ideal) c i xt2 = BitVec.ofNat 32 a)
    (hhi : kernelRun0_V.sl.r_1 (F := Ideal) c i xt3 = BitVec.ofNat 32 b) (r : Fin 512) (q : Fin 2) :
    (kernelRun0_V (F := Ideal) c i arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 xt0 xt1 xt2 xt3 xt4 y8 y9).1.2 (ix3 0 r q)
      = if a ≤ r.val ∧ r.val < b then Quant.scaleK (Quant.bound (half (hK (i 0) x0 x1 x2 x3 x4 x5 x6 x7 r) q)) else y9 (ix3 0 r q) := by
  unfold kernelRun0_V
  dsimp only
  by_cases hc : k0_cond1 (kernelRun0_V.sl.r (F := Ideal) c i xt2) (kernelRun0_V.sl.r_1 (F := Ideal) c i xt3) = 1#1
  · rw [dif_pos hc]
    refine View.read_writes_apply_of_pieces _ _ (fun y : S1x512x2.Idx => if a ≤ (y 1).val ∧ (y 1).val < b then Quant.scaleK (Quant.bound (half (hK (i 0) x0 x1 x2 x3 x4 x5 x6 x7 (y 1)) (y 2))) else y9 (ix3 0 (y 1) (y 2))) _ (List.forall_mem_cons.2 ⟨?_, List.forall_mem_cons.2 ⟨?_, fun _ h => absurd h List.not_mem_nil⟩⟩) (ix3 0 r q) ?_
    · intro (x : S1x512x1.Idx)
      obtain ⟨x1', rfl⟩ : ∃ q, x = ix3 0 q 0 := ⟨x 1, funext fun a => match a with
        | ⟨0, _⟩ => Fin.ext (show (x 0).val = 0 by have : (x 0).val < 1 := (x 0).isLt; omega) | ⟨1, _⟩ => rfl
        | ⟨2, _⟩ => Fin.ext (show (x 2).val = 0 by have : (x 2).val < 1 := (x 2).isLt; omega)⟩
      refine (congrFun (scales1 (kernelRun0_V.sl.r_258 (F := Ideal) c i xt2 xt3) (kernelRun0_V.sl.r_257 (F := Ideal) c i arg7 harg7 arg8 harg8 arg9 harg9 arg10 harg10 arg11 harg11 arg12 harg12 arg13 harg13 arg14 harg14 arg17 arg18 arg19 x0 x1 x2 x3 x4 x5 x6 x7) (kernelRun0_V.sl.v2781 c arg16 harg16 y9)) (ix3 0 x1' 0)).trans ?_
      rw [scalesV_at, b1_at]
      rw [show (kernelRun0_V.sl.r_258 (F := Ideal) c i xt2 xt3) = k0_pay291 (F := Ideal) (BitVec.ofNat 32 a) (BitVec.ofNat 32 b) by unfold kernelRun0_V.sl.r_258; rw [hlo, hhi], mask_nat a b ha hb]
      have he : (Rect.unit (s := S1x512x2) ![0, 0, 1] S1x512x1.size inb_S1x512x2_S1x512x1_0_0_1).emb (ix3 0 x1' 0) = ix3 0 x1' 1 :=
        funext fun a => Fin.ext (match a with | ⟨0, _⟩ => rfl | ⟨1, _⟩ => (show 0 + 1 * x1'.val = x1'.val by omega) | ⟨2, _⟩ => rfl)
      refine Eq.trans ?_ (congrArg (fun y : S1x512x2.Idx => if a ≤ (y 1).val ∧ (y 1).val < b then Quant.scaleK (Quant.bound (half (hK (i 0) x0 x1 x2 x3 x4 x5 x6 x7 (y 1)) (y 2))) else y9 (ix3 0 (y 1) (y 2))) he.symm)
      refine congrArg₂ (fun p q => if a ≤ x1'.val ∧ x1'.val < b then p else q) rfl ?_
      unfold kernelRun0_V.sl.v2781
      rw [harg16.readAt_unread]
      exact congrArg y9 he
    · intro (x : S1x512x1.Idx)
      obtain ⟨x1', rfl⟩ : ∃ q, x = ix3 0 q 0 := ⟨x 1, funext fun a => match a with
        | ⟨0, _⟩ => Fin.ext (show (x 0).val = 0 by have : (x 0).val < 1 := (x 0).isLt; omega) | ⟨1, _⟩ => rfl
        | ⟨2, _⟩ => Fin.ext (show (x 2).val = 0 by have : (x 2).val < 1 := (x 2).isLt; omega)⟩
      refine (congrFun (scales0 (kernelRun0_V.sl.r_258 (F := Ideal) c i xt2 xt3) (kernelRun0_V.sl.r_260 (F := Ideal) c i arg7 harg7 arg8 harg8 arg9 harg9 arg10 harg10 arg11 harg11 arg12 harg12 arg13 harg13 arg14 harg14 arg17 arg18 arg19 x0 x1 x2 x3 x4 x5 x6 x7) (View.readAt (Elt Ideal) arg16.view (Rect.unit (s := S1x512x2) ![0, 0, 0] S1x512x1.size inb_S1x512x2_S1x512x1_0_0_0).toLoadRect (harg16.unread y9))) (ix3 0 x1' 0)).trans ?_
      rw [scalesV_at, b0_at]
      rw [show (kernelRun0_V.sl.r_258 (F := Ideal) c i xt2 xt3) = k0_pay291 (F := Ideal) (BitVec.ofNat 32 a) (BitVec.ofNat 32 b) by unfold kernelRun0_V.sl.r_258; rw [hlo, hhi], mask_nat a b ha hb]
      have he : (Rect.unit (s := S1x512x2) ![0, 0, 0] S1x512x1.size inb_S1x512x2_S1x512x1_0_0_0).emb (ix3 0 x1' 0) = ix3 0 x1' 0 :=
        funext fun a => Fin.ext (match a with | ⟨0, _⟩ => rfl | ⟨1, _⟩ => (show 0 + 1 * x1'.val = x1'.val by omega) | ⟨2, _⟩ => rfl)
      refine Eq.trans ?_ (congrArg (fun y : S1x512x2.Idx => if a ≤ (y 1).val ∧ (y 1).val < b then Quant.scaleK (Quant.bound (half (hK (i 0) x0 x1 x2 x3 x4 x5 x6 x7 (y 1)) (y 2))) else y9 (ix3 0 (y 1) (y 2))) he.symm)
      refine congrArg₂ (fun p q => if a ≤ x1'.val ∧ x1'.val < b then p else q) rfl ?_
      rw [harg16.readAt_unread]
      exact congrArg y9 he
    · exact View.cover_of_tiled_head _ _ _ rfl _
  · rw [dif_neg hc, harg16.read_unread]
    rw [hlo, hhi] at hc
    have := cond_nat a b ha hb hc
    rw [if_neg (by omega)]

end Cert.KernelIdeal.Body
-- ==== Proof.KernelIdealGeometry.lean ====
/- Where in its array an element of a window's block of `KernelIdeal` sits, from the block's number. -/
module

public import proofs.«01_k».proof.Proof.KernelIdealKit
public import Idealize.ShloMosaic.Lib.Pointwise
public import Idealize.ShloMosaic.Lib.Pipeline.Value

@[expose] public section

set_option maxRecDepth 16384
set_option maxHeartbeats 400000

noncomputable section

namespace Cert.KernelIdeal.Body

open Cert.KernelIdeal Cert.KernelIdeal.Gen
open Idealize.ShloMosaic Idealize.ShloMosaic.TcCoe

theorem embG_0 (p : (pcfg0 (F := Ideal)).Adm) (t : Fin (cfg0 p).N) (x : S512x5120.Idx) (g : ℕ) (h : cc0_transform_0 k0_off1_inb numel1_S1 p.1 (grid0.coords t) = ![g, 0]) (R : Fin 16384) (hR : R.val = 512 * g + (x 0).val) :
    (((cfg0 p).win 0).blk t).view.emb x = ix2 R (x 1) := by
  funext a
  match a with
  | ⟨0, _⟩ =>
    have e := (((cfg0 p).win 0).rect_emb_val t x (0 : Fin 2) rfl).trans (congrArg (fun z => z * 512 + (x 0).val) (congrFun h 0))
    have b : (x 0).val < 512 := (x 0).isLt
    refine Fin.ext (e.trans ?_)
    show g * 512 + (x 0).val = R.val
    omega
  | ⟨1, _⟩ =>
    have e := (((cfg0 p).win 0).rect_emb_val t x (1 : Fin 2) rfl).trans (congrArg (fun z => z * 5120 + (x 1).val) (congrFun h 1))
    have b : (x 1).val < 5120 := (x 1).isLt
    refine Fin.ext (e.trans ?_)
    show 0 * 5120 + (x 1).val = (x 1).val
    omega

theorem embG_1 (p : (pcfg0 (F := Ideal)).Adm) (t : Fin (cfg0 p).N) (x : S512x40.Idx) (g : ℕ) (h : cc0_transform_1 k0_off1_inb numel1_S1 p.1 (grid0.coords t) = ![g, 0]) (R : Fin 16384) (hR : R.val = 512 * g + (x 0).val) :
    (((cfg0 p).win 1).blk t).view.emb x = ix2 R (x 1) := by
  funext a
  match a with
  | ⟨0, _⟩ =>
    have e := (((cfg0 p).win 1).rect_emb_val t x (0 : Fin 2) rfl).trans (congrArg (fun z => z * 512 + (x 0).val) (congrFun h 0))
    have b : (x 0).val < 512 := (x 0).isLt
    refine Fin.ext (e.trans ?_)
    show g * 512 + (x 0).val = R.val
    omega
  | ⟨1, _⟩ =>
    have e := (((cfg0 p).win 1).rect_emb_val t x (1 : Fin 2) rfl).trans (congrArg (fun z => z * 40 + (x 1).val) (congrFun h 1))
    have b : (x 1).val < 40 := (x 1).isLt
    refine Fin.ext (e.trans ?_)
    show 0 * 40 + (x 1).val = (x 1).val
    omega

theorem embG_2 (p : (pcfg0 (F := Ideal)).Adm) (t : Fin (cfg0 p).N) (x : S1x5120x256.Idx) (g : ℕ) (n : ℕ) (h : cc0_transform_2 k0_off1_inb numel1_S1 p.1 (grid0.coords t) = ![g, 0, n]) (E : Fin 8) (hE : E.val = g) (C : Fin 8192) (hC : C.val = 256 * n + (x 2).val) :
    (((cfg0 p).win 2).blk t).view.emb x = ix3 E (x 1) C := by
  funext a
  match a with
  | ⟨0, _⟩ =>
    have e := (((cfg0 p).win 2).rect_emb_val t x (0 : Fin 3) rfl).trans (congrArg (fun z => z * 1 + (x 0).val) (congrFun h 0))
    have b : (x 0).val < 1 := (x 0).isLt
    refine Fin.ext (e.trans ?_)
    show g * 1 + (x 0).val = E.val
    omega
  | ⟨1, _⟩ =>
    have e := (((cfg0 p).win 2).rect_emb_val t x (1 : Fin 3) rfl).trans (congrArg (fun z => z * 5120 + (x 1).val) (congrFun h 1))
    have b : (x 1).val < 5120 := (x 1).isLt
    refine Fin.ext (e.trans ?_)
    show 0 * 5120 + (x 1).val = (x 1).val
    omega
  | ⟨2, _⟩ =>
    have e := (((cfg0 p).win 2).rect_emb_val t x (2 : Fin 3) rfl).trans (congrArg (fun z => z * 256 + (x 2).val) (congrFun h 2))
    have b : (x 2).val < 256 := (x 2).isLt
    refine Fin.ext (e.trans ?_)
    show n * 256 + (x 2).val = C.val
    omega

theorem embG_3 (p : (pcfg0 (F := Ideal)).Adm) (t : Fin (cfg0 p).N) (x : S1x40x64.Idx) (g : ℕ) (h : cc0_transform_3 k0_off1_inb numel1_S1 p.1 (grid0.coords t) = ![g, 0, 0]) (E : Fin 8) (hE : E.val = g) :
    (((cfg0 p).win 3).blk t).view.emb x = ix3 E (x 1) (x 2) := by
  funext a
  match a with
  | ⟨0, _⟩ =>
    have e := (((cfg0 p).win 3).rect_emb_val t x (0 : Fin 3) rfl).trans (congrArg (fun z => z * 1 + (x 0).val) (congrFun h 0))
    have b : (x 0).val < 1 := (x 0).isLt
    refine Fin.ext (e.trans ?_)
    show g * 1 + (x 0).val = E.val
    omega
  | ⟨1, _⟩ =>
    have e := (((cfg0 p).win 3).rect_emb_val t x (1 : Fin 3) rfl).trans (congrArg (fun z => z * 40 + (x 1).val) (congrFun h 1))
    have b : (x 1).val < 40 := (x 1).isLt
    refine Fin.ext (e.trans ?_)
    show 0 * 40 + (x 1).val = (x 1).val
    omega
  | ⟨2, _⟩ =>
    have e := (((cfg0 p).win 3).rect_emb_val t x (2 : Fin 3) rfl).trans (congrArg (fun z => z * 64 + (x 2).val) (congrFun h 2))
    have b : (x 2).val < 64 := (x 2).isLt
    refine Fin.ext (e.trans ?_)
    show 0 * 64 + (x 2).val = (x 2).val
    omega

theorem embG_4 (p : (pcfg0 (F := Ideal)).Adm) (t : Fin (cfg0 p).N) (x : S1x5120x256.Idx) (g : ℕ) (n : ℕ) (h : cc0_transform_4 k0_off1_inb numel1_S1 p.1 (grid0.coords t) = ![g, 0, n]) (E : Fin 8) (hE : E.val = g) (C : Fin 8192) (hC : C.val = 256 * n + (x 2).val) :
    (((cfg0 p).win 4).blk t).view.emb x = ix3 E (x 1) C := by
  funext a
  match a with
  | ⟨0, _⟩ =>
    have e := (((cfg0 p).win 4).rect_emb_val t x (0 : Fin 3) rfl).trans (congrArg (fun z => z * 1 + (x 0).val) (congrFun h 0))
    have b : (x 0).val < 1 := (x 0).isLt
    refine Fin.ext (e.trans ?_)
    show g * 1 + (x 0).val = E.val
    omega
  | ⟨1, _⟩ =>
    have e := (((cfg0 p).win 4).rect_emb_val t x (1 : Fin 3) rfl).trans (congrArg (fun z => z * 5120 + (x 1).val) (congrFun h 1))
    have b : (x 1).val < 5120 := (x 1).isLt
    refine Fin.ext (e.trans ?_)
    show 0 * 5120 + (x 1).val = (x 1).val
    omega
  | ⟨2, _⟩ =>
    have e := (((cfg0 p).win 4).rect_emb_val t x (2 : Fin 3) rfl).trans (congrArg (fun z => z * 256 + (x 2).val) (congrFun h 2))
    have b : (x 2).val < 256 := (x 2).isLt
    refine Fin.ext (e.trans ?_)
    show n * 256 + (x 2).val = C.val
    omega

theorem embG_5 (p : (pcfg0 (F := Ideal)).Adm) (t : Fin (cfg0 p).N) (x : S1x40x64.Idx) (g : ℕ) (h : cc0_transform_5 k0_off1_inb numel1_S1 p.1 (grid0.coords t) = ![g, 0, 0]) (E : Fin 8) (hE : E.val = g) :
    (((cfg0 p).win 5).blk t).view.emb x = ix3 E (x 1) (x 2) := by
  funext a
  match a with
  | ⟨0, _⟩ =>
    have e := (((cfg0 p).win 5).rect_emb_val t x (0 : Fin 3) rfl).trans (congrArg (fun z => z * 1 + (x 0).val) (congrFun h 0))
    have b : (x 0).val < 1 := (x 0).isLt
    refine Fin.ext (e.trans ?_)
    show g * 1 + (x 0).val = E.val
    omega
  | ⟨1, _⟩ =>
    have e := (((cfg0 p).win 5).rect_emb_val t x (1 : Fin 3) rfl).trans (congrArg (fun z => z * 40 + (x 1).val) (congrFun h 1))
    have b : (x 1).val < 40 := (x 1).isLt
    refine Fin.ext (e.trans ?_)
    show 0 * 40 + (x 1).val = (x 1).val
    omega
  | ⟨2, _⟩ =>
    have e := (((cfg0 p).win 5).rect_emb_val t x (2 : Fin 3) rfl).trans (congrArg (fun z => z * 64 + (x 2).val) (congrFun h 2))
    have b : (x 2).val < 64 := (x 2).isLt
    refine Fin.ext (e.trans ?_)
    show 0 * 64 + (x 2).val = (x 2).val
    omega

theorem embG_6 (p : (pcfg0 (F := Ideal)).Adm) (t : Fin (cfg0 p).N) (x : S1x1x256.Idx) (g : ℕ) (n : ℕ) (h : cc0_transform_6 k0_off1_inb numel1_S1 p.1 (grid0.coords t) = ![g, 0, n]) (E : Fin 8) (hE : E.val = g) (C : Fin 8192) (hC : C.val = 256 * n + (x 2).val) :
    (((cfg0 p).win 6).blk t).view.emb x = ix3 E 0 C := by
  funext a
  match a with
  | ⟨0, _⟩ =>
    have e := (((cfg0 p).win 6).rect_emb_val t x (0 : Fin 3) rfl).trans (congrArg (fun z => z * 1 + (x 0).val) (congrFun h 0))
    have b : (x 0).val < 1 := (x 0).isLt
    refine Fin.ext (e.trans ?_)
    show g * 1 + (x 0).val = E.val
    omega
  | ⟨1, _⟩ =>
    have e := (((cfg0 p).win 6).rect_emb_val t x (1 : Fin 3) rfl).trans (congrArg (fun z => z * 1 + (x 1).val) (congrFun h 1))
    have b : (x 1).val < 1 := (x 1).isLt
    refine Fin.ext (e.trans ?_)
    show 0 * 1 + (x 1).val = 0
    omega
  | ⟨2, _⟩ =>
    have e := (((cfg0 p).win 6).rect_emb_val t x (2 : Fin 3) rfl).trans (congrArg (fun z => z * 256 + (x 2).val) (congrFun h 2))
    have b : (x 2).val < 256 := (x 2).isLt
    refine Fin.ext (e.trans ?_)
    show n * 256 + (x 2).val = C.val
    omega

theorem embG_7 (p : (pcfg0 (F := Ideal)).Adm) (t : Fin (cfg0 p).N) (x : S1x1x256.Idx) (g : ℕ) (n : ℕ) (h : cc0_transform_7 k0_off1_inb numel1_S1 p.1 (grid0.coords t) = ![g, 0, n]) (E : Fin 8) (hE : E.val = g) (C : Fin 8192) (hC : C.val = 256 * n + (x 2).val) :
    (((cfg0 p).win 7).blk t).view.emb x = ix3 E 0 C := by
  funext a
  match a with
  | ⟨0, _⟩ =>
    have e := (((cfg0 p).win 7).rect_emb_val t x (0 : Fin 3) rfl).trans (congrArg (fun z => z * 1 + (x 0).val) (congrFun h 0))
    have b : (x 0).val < 1 := (x 0).isLt
    refine Fin.ext (e.trans ?_)
    show g * 1 + (x 0).val = E.val
    omega
  | ⟨1, _⟩ =>
    have e := (((cfg0 p).win 7).rect_emb_val t x (1 : Fin 3) rfl).trans (congrArg (fun z => z * 1 + (x 1).val) (congrFun h 1))
    have b : (x 1).val < 1 := (x 1).isLt
    refine Fin.ext (e.trans ?_)
    show 0 * 1 + (x 1).val = 0
    omega
  | ⟨2, _⟩ =>
    have e := (((cfg0 p).win 7).rect_emb_val t x (2 : Fin 3) rfl).trans (congrArg (fun z => z * 256 + (x 2).val) (congrFun h 2))
    have b : (x 2).val < 256 := (x 2).isLt
    refine Fin.ext (e.trans ?_)
    show n * 256 + (x 2).val = C.val
    omega

theorem embG_8 (p : (pcfg0 (F := Ideal)).Adm) (t : Fin (cfg0 p).N) (x : S512x256.Idx) (g : ℕ) (n : ℕ) (h : cc0_transform_8 k0_off1_inb numel1_S1 p.1 (grid0.coords t) = ![g, n]) (R : Fin 16384) (hR : R.val = 512 * g + (x 0).val) (C : Fin 8192) (hC : C.val = 256 * n + (x 1).val) :
    (((cfg0 p).win 8).blk t).view.emb x = ix2 R C := by
  funext a
  match a with
  | ⟨0, _⟩ =>
    have e := (((cfg0 p).win 8).rect_emb_val t x (0 : Fin 2) rfl).trans (congrArg (fun z => z * 512 + (x 0).val) (congrFun h 0))
    have b : (x 0).val < 512 := (x 0).isLt
    refine Fin.ext (e.trans ?_)
    show g * 512 + (x 0).val = R.val
    omega
  | ⟨1, _⟩ =>
    have e := (((cfg0 p).win 8).rect_emb_val t x (1 : Fin 2) rfl).trans (congrArg (fun z => z * 256 + (x 1).val) (congrFun h 1))
    have b : (x 1).val < 256 := (x 1).isLt
    refine Fin.ext (e.trans ?_)
    show n * 256 + (x 1).val = C.val
    omega

theorem embG_9 (p : (pcfg0 (F := Ideal)).Adm) (t : Fin (cfg0 p).N) (x : S1x512x2.Idx) (g : ℕ) (n : ℕ) (h : cc0_transform_9 k0_off1_inb numel1_S1 p.1 (grid0.coords t) = ![n, g, 0]) (E : Fin 32) (hE : E.val = n) (R : Fin 16384) (hR : R.val = 512 * g + (x 1).val) :
    (((cfg0 p).win 9).blk t).view.emb x = ix3 E R (x 2) := by
  funext a
  match a with
  | ⟨0, _⟩ =>
    have e := (((cfg0 p).win 9).rect_emb_val t x (0 : Fin 3) rfl).trans (congrArg (fun z => z * 1 + (x 0).val) (congrFun h 0))
    have b : (x 0).val < 1 := (x 0).isLt
    refine Fin.ext (e.trans ?_)
    show n * 1 + (x 0).val = E.val
    omega
  | ⟨1, _⟩ =>
    have e := (((cfg0 p).win 9).rect_emb_val t x (1 : Fin 3) rfl).trans (congrArg (fun z => z * 512 + (x 1).val) (congrFun h 1))
    have b : (x 1).val < 512 := (x 1).isLt
    refine Fin.ext (e.trans ?_)
    show g * 512 + (x 1).val = R.val
    omega
  | ⟨2, _⟩ =>
    have e := (((cfg0 p).win 9).rect_emb_val t x (2 : Fin 3) rfl).trans (congrArg (fun z => z * 2 + (x 2).val) (congrFun h 2))
    have b : (x 2).val < 2 := (x 2).isLt
    refine Fin.ext (e.trans ?_)
    show 0 * 2 + (x 2).val = (x 2).val
    omega

end Cert.KernelIdeal.Body
-- ==== Proof.Spec.lean ====
/- What one row's results are, as functions of the argument arrays: the row's expert `e`, the two products, the activation, and the
   codes and the scale of each block of 128 columns. -/
module

public import proofs.«01_k».proof.Proof.Quantiser

@[expose] public section

noncomputable section

namespace Cert.Spec

open Idealize.ShloMosaic

/-- The arrays: the rows' codes and scales; the gate's and the up projection's codes, scales and biases. -/
structure In where
  x : Fin 16384 → Fin 5120 → EReal
  xs : Fin 16384 → Fin 40 → EReal
  g : Fin 8 → Fin 5120 → Fin 8192 → EReal
  gs : Fin 8 → Fin 40 → Fin 64 → EReal
  u : Fin 8 → Fin 5120 → Fin 8192 → EReal
  us : Fin 8 → Fin 40 → Fin 64 → EReal
  bg : Fin 8 → Fin 8192 → EReal
  bu : Fin 8 → Fin 8192 → EReal

variable (a : In)

/-- The row `R` times the column `C` of the expert `e`'s weights, both scaled. -/
def In.dot (w : Fin 8 → Fin 5120 → Fin 8192 → EReal) (ws : Fin 8 → Fin 40 → Fin 64 → EReal) (e : Fin 8) (R : Fin 16384) (C : Fin 8192) : EReal :=
  ∑ k : Fin 5120, (a.x R k * a.xs R ⟨k.val / 128, by omega⟩) * (w e k C * ws e ⟨k.val / 128, by omega⟩ ⟨C.val / 128, by omega⟩)

/-- The activation of the row `R` at the column `C` under the expert `e`. -/
def In.hid (e : Fin 8) (R : Fin 16384) (C : Fin 8192) : EReal :=
  Quant.act (a.dot a.g a.gs e R C + a.bg e C) (a.dot a.u a.us e R C + a.bu e C)

/-- The activations of one block of 128 columns. -/
def In.blk (e : Fin 8) (R : Fin 16384) (B : Fin 64) (k : Fin 128) : EReal := a.hid e R ⟨128 * B.val + k.val, by omega⟩

/-- The code. -/
def In.code (e : Fin 8) (R : Fin 16384) (C : Fin 8192) : EReal :=
  Quant.codeK (Quant.bound (a.blk e R ⟨C.val / 128, by omega⟩)) (a.hid e R C)

/-- The scale. -/
def In.scale (e : Fin 8) (R : Fin 16384) (B : Fin 64) : EReal := Quant.scaleK (Quant.bound (a.blk e R B))

end Cert.Spec
-- ==== Proof.KernelIdealBlocks.lean ====
/- The blocks the windows of `KernelIdeal` show, at coordinates: where in its array an element of a block sits, and so what the body
   computes at a grid point, in terms of the arrays. -/
module

public import proofs.«01_k».proof.Proof.KernelIdealBody
public import proofs.«01_k».proof.Proof.KernelIdealFrame
public import proofs.«01_k».proof.Proof.KernelIdealOk
public import proofs.«01_k».proof.Proof.KernelIdealGeometry
public import proofs.«01_k».proof.Proof.Spec

@[expose] public section

set_option maxRecDepth 16384
set_option maxHeartbeats 400000

noncomputable section

namespace Cert.KernelIdeal.Body

open Cert.KernelIdeal Cert.KernelIdeal.Gen
open Idealize.ShloMosaic Idealize.ShloMosaic.TcCoe

variable (m : (ℓ : Loc nD τ sig) → Buf (Elt Ideal) ℓ) (hO : Ok m)

/-- A point's block of columns. -/
abbrev nn (t : Fin (cfgM m hO).N) : Fin 32 := grid0.coords t 0

/-- A point's visit. -/
abbrev vv (t : Fin (cfgM m hO).N) : ℕ := vOf (grid0.coords t)

theorem coords0 (t : Fin grid0.N) : (grid0.coords t 0).val = t.val / 39 % 32 := Pipeline.Grid.coords_val t 0 (by decide) rfl
theorem coords1 (t : Fin grid0.N) : (grid0.coords t 1).val = t.val / 1 % 39 := Pipeline.Grid.coords_val t 1 (by decide) rfl
theorem gridN : grid0.N = 1248 := by decide

theorem nn_val (t : Fin (cfgM m hO).N) : (nn m hO t).val = t.val / 39 % 32 := coords0 t

theorem vv_val (t : Fin (cfgM m hO).N) : vv m hO t = t.val % 39 := (coords1 t).trans (by rw [Nat.div_one])

theorem N_eq : (cfgM m hO).N = 1248 := gridN

variable (hs : Visits.pre (szs m) 8 = 16384)

/-- The arrays that the kernel is given. -/
def arrs (c : Dev nD) : Spec.In where
  x R k := V m c main_arg0 (ix2 R k)
  xs R k := V m c main_arg1 (ix2 R k)
  g e k C := V m c main_arg3 (ix3 e k C)
  gs e k C := V m c main_arg4 (ix3 e k C)
  u e k C := V m c main_arg5 (ix3 e k C)
  us e k C := V m c main_arg6 (ix3 e k C)
  bg e C := V m c main_v74 (ix3 e 0 C)
  bu e C := V m c main_v75 (ix3 e 0 C)

/-- A visit's expert. -/
def ee (t : Fin (cfgM m hO).N) : Fin 8 := ⟨Visits.grp (szs m) (vv m hO t), grp8 m hs (grid0.coords t)⟩

/-- A visit's row. -/
def row (t : Fin (cfgM m hO).N) (r : Fin 512) : Fin 16384 :=
  ⟨512 * Visits.tile (szs m) (vv m hO t) + r.val, (fun h : Visits.tile (szs m) (vv m hO t) < 32 => by omega) (tile32 m hs (grid0.coords t))⟩

/-- A point's column. -/
def col (t : Fin (cfgM m hO).N) (l : Fin 256) : Fin 8192 := ⟨256 * (nn m hO t).val + l.val, by omega⟩

/-- Where an element of window 0's block sits. -/
theorem emb_0 (t : Fin (cfgM m hO).N) (x : S512x5120.Idx) :
    (((cfgM m hO).win 0).blk t).view.emb x = ix2 (row m hO hs t (x 0)) (x 1) :=
  embG_0 (adm m hO) t x _ (tr_0 m hs (grid0.coords t)) (row m hO hs t (x 0)) rfl

/-- An element of window 0's block. -/
theorem iblk_0 (c : Dev nD) (t : Fin (cfgM m hO).N) (p : Fin 512) (q : Fin 5120) :
    iblk m hO c 0 t (ix2 p q) = V m c main_arg0 (ix2 (row m hO hs t p) q) :=
  congrArg (V m c main_arg0) (emb_0 m hO hs t (ix2 p q))

/-- Where an element of window 1's block sits. -/
theorem emb_1 (t : Fin (cfgM m hO).N) (x : S512x40.Idx) :
    (((cfgM m hO).win 1).blk t).view.emb x = ix2 (row m hO hs t (x 0)) (x 1) :=
  embG_1 (adm m hO) t x _ (tr_1 m hs (grid0.coords t)) (row m hO hs t (x 0)) rfl

/-- An element of window 1's block. -/
theorem iblk_1 (c : Dev nD) (t : Fin (cfgM m hO).N) (p : Fin 512) (q : Fin 40) :
    iblk m hO c 1 t (ix2 p q) = V m c main_arg1 (ix2 (row m hO hs t p) q) :=
  congrArg (V m c main_arg1) (emb_1 m hO hs t (ix2 p q))

/-- Where an element of window 2's block sits. -/
theorem emb_2 (t : Fin (cfgM m hO).N) (x : S1x5120x256.Idx) :
    (((cfgM m hO).win 2).blk t).view.emb x = ix3 (ee m hO hs t) (x 1) (col m hO t (x 2)) :=
  embG_2 (adm m hO) t x _ _ (tr_2 m hs (grid0.coords t)) (ee m hO hs t) rfl (col m hO t (x 2)) rfl

/-- An element of window 2's block. -/
theorem iblk_2 (c : Dev nD) (t : Fin (cfgM m hO).N) (o : Fin 1) (p : Fin 5120) (q : Fin 256) :
    iblk m hO c 2 t (ix3 o p q) = V m c main_arg3 (ix3 (ee m hO hs t) p (col m hO t q)) :=
  congrArg (V m c main_arg3) (emb_2 m hO hs t (ix3 o p q))

/-- Where an element of window 3's block sits. -/
theorem emb_3 (t : Fin (cfgM m hO).N) (x : S1x40x64.Idx) :
    (((cfgM m hO).win 3).blk t).view.emb x = ix3 (ee m hO hs t) (x 1) (x 2) :=
  embG_3 (adm m hO) t x _ (tr_3 m hs (grid0.coords t)) (ee m hO hs t) rfl

/-- An element of window 3's block. -/
theorem iblk_3 (c : Dev nD) (t : Fin (cfgM m hO).N) (o : Fin 1) (p : Fin 40) (q : Fin 64) :
    iblk m hO c 3 t (ix3 o p q) = V m c main_arg4 (ix3 (ee m hO hs t) p q) :=
  congrArg (V m c main_arg4) (emb_3 m hO hs t (ix3 o p q))

/-- Where an element of window 4's block sits. -/
theorem emb_4 (t : Fin (cfgM m hO).N) (x : S1x5120x256.Idx) :
    (((cfgM m hO).win 4).blk t).view.emb x = ix3 (ee m hO hs t) (x 1) (col m hO t (x 2)) :=
  embG_4 (adm m hO) t x _ _ (tr_4 m hs (grid0.coords t)) (ee m hO hs t) rfl (col m hO t (x 2)) rfl

/-- An element of window 4's block. -/
theorem iblk_4 (c : Dev nD) (t : Fin (cfgM m hO).N) (o : Fin 1) (p : Fin 5120) (q : Fin 256) :
    iblk m hO c 4 t (ix3 o p q) = V m c main_arg5 (ix3 (ee m hO hs t) p (col m hO t q)) :=
  congrArg (V m c main_arg5) (emb_4 m hO hs t (ix3 o p q))

/-- Where an element of window 5's block sits. -/
theorem emb_5 (t : Fin (cfgM m hO).N) (x : S1x40x64.Idx) :
    (((cfgM m hO).win 5).blk t).view.emb x = ix3 (ee m hO hs t) (x 1) (x 2) :=
  embG_5 (adm m hO) t x _ (tr_5 m hs (grid0.coords t)) (ee m hO hs t) rfl

/-- An element of window 5's block. -/
theorem iblk_5 (c : Dev nD) (t : Fin (cfgM m hO).N) (o : Fin 1) (p : Fin 40) (q : Fin 64) :
    iblk m hO c 5 t (ix3 o p q) = V m c main_arg6 (ix3 (ee m hO hs t) p q) :=
  congrArg (V m c main_arg6) (emb_5 m hO hs t (ix3 o p q))

/-- Where an element of window 6's block sits. -/
theorem emb_6 (t : Fin (cfgM m hO).N) (x : S1x1x256.Idx) :
    (((cfgM m hO).win 6).blk t).view.emb x = ix3 (ee m hO hs t) 0 (col m hO t (x 2)) :=
  embG_6 (adm m hO) t x _ _ (tr_6 m hs (grid0.coords t)) (ee m hO hs t) rfl (col m hO t (x 2)) rfl

/-- An element of window 6's block. -/
theorem iblk_6 (c : Dev nD) (t : Fin (cfgM m hO).N) (o : Fin 1) (p : Fin 1) (q : Fin 256) :
    iblk m hO c 6 t (ix3 o p q) = V m c main_v74 (ix3 (ee m hO hs t) 0 (col m hO t q)) :=
  congrArg (V m c main_v74) (emb_6 m hO hs t (ix3 o p q))

/-- Where an element of window 7's block sits. -/
theorem emb_7 (t : Fin (cfgM m hO).N) (x : S1x1x256.Idx) :
    (((cfgM m hO).win 7).blk t).view.emb x = ix3 (ee m hO hs t) 0 (col m hO t (x 2)) :=
  embG_7 (adm m hO) t x _ _ (tr_7 m hs (grid0.coords t)) (ee m hO hs t) rfl (col m hO t (x 2)) rfl

/-- An element of window 7's block. -/
theorem iblk_7 (c : Dev nD) (t : Fin (cfgM m hO).N) (o : Fin 1) (p : Fin 1) (q : Fin 256) :
    iblk m hO c 7 t (ix3 o p q) = V m c main_v75 (ix3 (ee m hO hs t) 0 (col m hO t q)) :=
  congrArg (V m c main_v75) (emb_7 m hO hs t (ix3 o p q))

/-- Where an element of window 8's block sits. -/
theorem emb_8 (t : Fin (cfgM m hO).N) (x : S512x256.Idx) :
    (((cfgM m hO).win 8).blk t).view.emb x = ix2 (row m hO hs t (x 0)) (col m hO t (x 1)) :=
  embG_8 (adm m hO) t x _ _ (tr_8 m hs (grid0.coords t)) (row m hO hs t (x 0)) rfl (col m hO t (x 1)) rfl

/-- Where an element of window 9's block sits. -/
theorem emb_9 (t : Fin (cfgM m hO).N) (x : S1x512x2.Idx) :
    (((cfgM m hO).win 9).blk t).view.emb x = ix3 (nn m hO t) (row m hO hs t (x 1)) (x 2) :=
  embG_9 (adm m hO) t x _ _ (tr_9 m hs (grid0.coords t)) (nn m hO t) rfl (row m hO hs t (x 1)) rfl

end Cert.KernelIdeal.Body
-- ==== Proof.KernelIdealPoint.lean ====
/- What the body leaves in the outputs' buffers at a grid point, in terms of the arrays: in the rows of the point's visit the codes and
   the scales of those rows under the visit's expert, in the other rows what the buffers held. -/
module

public import proofs.«01_k».proof.Proof.KernelIdealBlocks

@[expose] public section

set_option maxRecDepth 16384
set_option maxHeartbeats 400000

noncomputable section

namespace Cert.KernelIdeal.Body

open Cert.KernelIdeal Cert.KernelIdeal.Gen
open Idealize.ShloMosaic Idealize.ShloMosaic.TcCoe

theorem lo_le (sz : ℕ → ℕ) (hs : 0 < Visits.pre sz 8) (v : ℕ) : Visits.lo sz v ≤ 512 := by
  obtain ⟨_, h, _⟩ := Visits.grp_spec hs v
  unfold Visits.lo Visits.tile
  omega

theorem hi_le (sz : ℕ → ℕ) (v : ℕ) : Visits.hi sz v ≤ 512 := by
  unfold Visits.hi; split <;> omega

/-- The word of a table that the body loads. -/
theorem r_at (c : Dev nD) (i : grid0.Coords) (xt2 : TbBuf0 (F := Ideal) c tbM0_2) :
    kernelRun0_V.sl.r (F := Ideal) c i xt2 = (xt2 : S39.Idx → BitVec 32) ((Rect.unit (s := S39) (k0_off1 i) S1.size (k0_off1_inb i)).emb (Shape.Idx.first (numel1_S1.symm ▸ Nat.one_pos))) := rfl

theorem r1_at (c : Dev nD) (i : grid0.Coords) (xt3 : TbBuf0 (F := Ideal) c tbM0_3) :
    kernelRun0_V.sl.r_1 (F := Ideal) c i xt3 = (xt3 : S39.Idx → BitVec 32) ((Rect.unit (s := S39) (k0_off1 i) S1.size (k0_off1_inb i)).emb (Shape.Idx.first (numel1_S1.symm ▸ Nat.one_pos))) := rfl

variable (m : (ℓ : Loc nD τ sig) → Buf (Elt Ideal) ℓ) (hO : Ok m)
variable (hs : Visits.pre (szs m) 8 = 16384)

include hs in
theorem lo_word (c : Dev nD) (i : grid0.Coords) : kernelRun0_V.sl.r (F := Ideal) c i (tbl m 2) = BitVec.ofNat 32 (Visits.lo (szs m) (vOf i)) :=
  (r_at c i (tbl m 2)).trans (tbl_lo m hs i)

include hs in
theorem hi_word (c : Dev nD) (i : grid0.Coords) : kernelRun0_V.sl.r_1 (F := Ideal) c i (tbl m 3) = BitVec.ofNat 32 (Visits.hi (szs m) (vOf i)) :=
  (r1_at c i (tbl m 3)).trans (tbl_hi m hs i)

/-- The activations at a point. -/
theorem hK_at (c : Dev nD) (t : Fin (cfgM m hO).N) (r : Fin 512) (l : Fin 256) :
    hK (grid0.coords t 0) (iblk m hO c 0 t) (iblk m hO c 1 t) (iblk m hO c 2 t) (iblk m hO c 3 t) (iblk m hO c 4 t) (iblk m hO c 5 t) (iblk m hO c 6 t) (iblk m hO c 7 t) r l
      = (arrs m c).hid (ee m hO hs t) (row m hO hs t r) (col m hO t l) := by
  have hX : ∀ k, XB (iblk m hO c 0 t) (iblk m hO c 1 t) r k
      = (arrs m c).x (row m hO hs t r) k * (arrs m c).xs (row m hO hs t r) ⟨k.val / 128, by omega⟩ := fun k =>
    congrArg₂ (fun p q : EReal => p * q) (iblk_0 m hO hs c t r k) (iblk_1 m hO hs c t r _)
  have hc : (⟨2 * (grid0.coords t 0).val + l.val / 128, by have : (grid0.coords t 0).val < 32 := (grid0.coords t 0).isLt; omega⟩ : Fin 64) = ⟨(col m hO t l).val / 128, by omega⟩ :=
    Fin.ext (by show 2 * (nn m hO t).val + l.val / 128 = (256 * (nn m hO t).val + l.val) / 128; omega)
  have hG : ∀ k, WB (grid0.coords t 0) (iblk m hO c 2 t) (iblk m hO c 3 t) k l
      = (arrs m c).g (ee m hO hs t) k (col m hO t l) * (arrs m c).gs (ee m hO hs t) ⟨k.val / 128, by omega⟩ ⟨(col m hO t l).val / 128, by omega⟩ := fun k =>
    congrArg₂ (fun p q : EReal => p * q) (iblk_2 m hO hs c t 0 k l) ((congrArg (fun z => iblk m hO c 3 t (ix3 0 ⟨k.val / 128, by omega⟩ z)) hc).trans (iblk_3 m hO hs c t 0 _ _))
  have hU : ∀ k, WB (grid0.coords t 0) (iblk m hO c 4 t) (iblk m hO c 5 t) k l
      = (arrs m c).u (ee m hO hs t) k (col m hO t l) * (arrs m c).us (ee m hO hs t) ⟨k.val / 128, by omega⟩ ⟨(col m hO t l).val / 128, by omega⟩ := fun k =>
    congrArg₂ (fun p q : EReal => p * q) (iblk_4 m hO hs c t 0 k l) ((congrArg (fun z => iblk m hO c 5 t (ix3 0 ⟨k.val / 128, by omega⟩ z)) hc).trans (iblk_5 m hO hs c t 0 _ _))
  unfold hK Spec.In.hid Spec.In.dot
  exact congrArg₂ Quant.act
    (congrArg₂ (fun p q : EReal => p + q) (Finset.sum_congr rfl fun k _ => congrArg₂ (fun p q : EReal => p * q) (hX k) (hG k)) (iblk_6 m hO hs c t 0 0 l))
    (congrArg₂ (fun p q : EReal => p + q) (Finset.sum_congr rfl fun k _ => congrArg₂ (fun p q : EReal => p * q) (hX k) (hU k)) (iblk_7 m hO hs c t 0 0 l))

/-- One half of a row's activations at a point. -/
theorem half_at (c : Dev nD) (t : Fin (cfgM m hO).N) (r : Fin 512) (q : Fin 2) (B : Fin 64) (hB : B.val = 2 * (nn m hO t).val + q.val) :
    half (hK (grid0.coords t 0) (iblk m hO c 0 t) (iblk m hO c 1 t) (iblk m hO c 2 t) (iblk m hO c 3 t) (iblk m hO c 4 t) (iblk m hO c 5 t) (iblk m hO c 6 t) (iblk m hO c 7 t) r) q
      = (arrs m c).blk (ee m hO hs t) (row m hO hs t r) B := by
  funext k
  refine (hK_at m hO hs c t r _).trans (congrArg ((arrs m c).hid (ee m hO hs t) (row m hO hs t r)) (Fin.ext ?_))
  show 256 * (nn m hO t).val + (128 * q.val + k.val) = 128 * B.val + k.val
  omega

/-- The codes after a point. -/
theorem out8_at (c : Dev nD) (t : Fin (cfgM m hO).N) (y8 : Vec Ideal S512x256 .fp8e4m3) (y9 : Vec Ideal S1x512x2 .f32) (r : Fin 512) (l : Fin 256) :
    (outAt m hO c t y8 y9).1 (ix2 r l)
      = if Visits.lo (szs m) (vv m hO t) ≤ r.val ∧ r.val < Visits.hi (szs m) (vv m hO t) then (arrs m c).code (ee m hO hs t) (row m hO hs t r) (col m hO t l)
        else y8 (ix2 r l) := by
  unfold outAt
  refine (o1_at (a := Visits.lo (szs m) (vv m hO t)) (b := Visits.hi (szs m) (vv m hO t)) (ha := lo_le _ (by omega) _) (hb := hi_le _ _)
    (hlo := lo_word m hs c _) (hhi := hi_word m hs c _) (r := r) (l := l) ..).trans ?_
  unfold Spec.In.code
  rw [half_at m hO hs c t r ⟨l.val / 128, by omega⟩ ⟨(col m hO t l).val / 128, by omega⟩
    (by show (256 * (nn m hO t).val + l.val) / 128 = 2 * (nn m hO t).val + l.val / 128; omega), hK_at m hO hs c t r l]

/-- The scales after a point. -/
theorem out9_at (c : Dev nD) (t : Fin (cfgM m hO).N) (y8 : Vec Ideal S512x256 .fp8e4m3) (y9 : Vec Ideal S1x512x2 .f32) (r : Fin 512) (q : Fin 2) :
    (outAt m hO c t y8 y9).2 (ix3 0 r q)
      = if Visits.lo (szs m) (vv m hO t) ≤ r.val ∧ r.val < Visits.hi (szs m) (vv m hO t) then
          (arrs m c).scale (ee m hO hs t) (row m hO hs t r) ⟨2 * (nn m hO t).val + q.val, by omega⟩
        else y9 (ix3 0 r q) := by
  unfold outAt
  refine (o2_at (a := Visits.lo (szs m) (vv m hO t)) (b := Visits.hi (szs m) (vv m hO t)) (ha := lo_le _ (by omega) _) (hb := hi_le _ _)
    (hlo := lo_word m hs c _) (hhi := hi_word m hs c _) (r := r) (q := q) ..).trans ?_
  unfold Spec.In.scale
  rw [half_at m hO hs c t r q ⟨2 * (nn m hO t).val + q.val, by omega⟩ rfl]

end Cert.KernelIdeal.Body
-- ==== Proof.Relational.lean ====
/- Two readings of a pipeline whose body only says how what it leaves in a buffer relates to what it found there: an element that
   some visit has written keeps its value while the buffer stays, and an array's element has the property that every
   written-back block gives it. -/
module

public import Idealize.ShloMosaic.Lib.Pipeline.Value

@[expose] public section

namespace Cert.Relational

open Idealize Idealize.SL Idealize.SL.RA Idealize.ShloMosaic Idealize.ShloMosaic.Pipeline Idealize.ShloMosaic.TcCoe

/-- An output's block is written back at the last point and where the next point's block is another. -/
theorem flush_iff {sig : RefSig} {G : Grid} (w : Window sig G) (ho : w.isOut = true) (t : Fin G.N) :
    w.flush t = true ↔ t.val + 1 = G.N ∨ ∃ h : t.val + 1 < G.N, w.index ⟨t.val + 1, h⟩ ≠ w.index t := by
  unfold Window.flush
  rw [ho]
  simp

/-- An output is never fetched. -/
theorem fetch_out {sig : RefSig} {G : Grid} (w : Window sig G) (ho : w.isOut = true) (t : Fin G.N) : w.fetch t = false := by
  unfold Window.fetch
  rw [ho]
  rfl

variable {nD : Nat} {τ : Topo} {sig : RefSig} {Val : EltTy → Type} {Λ₀ : SL.Sem.Labels}
variable {Ix : Type} [DecidableEq Ix] {Name : Type} [DecidableEq Name] {U : Type} [URA U] {Lvl : Type}
variable {cfg : Cfg sig Λ₀} {c : Dev nD} (rd : RDat τ Val Ix Name U Lvl cfg c)

/-- An element that has been written since the buffer was last written back holds its value. `Now t x` says that point `t` itself
    writes element `x`, `Seen t x` that it has been written. -/
theorem leaves_seen (w : Fin cfg.W) (ho : (cfg.win w).isOut = true)
    (Now Seen : Fin cfg.N → (cfg.win w).block.Idx → Prop) (val : Fin cfg.N → (cfg.win w).block.Idx → Val (cfg.win w).elt)
    (hw : ∀ t Y X, rd.after w t Y X → ∀ x, Now t x → X x = val t x)
    (hk : ∀ t Y X, rd.after w t Y X → ∀ x, ¬ Now t x → X x = Y x)
    (hS : ∀ t x, Seen t x → Now t x ∨ ∃ (h0 : t.val ≠ 0) (t' : Fin cfg.N) (_ : t'.val = t.val - 1),
      (cfg.win w).flush t' = false ∧ Seen t' x ∧ val t' x = val t x) :
    ∀ (n : ℕ) (t : Fin cfg.N), t.val = n → ∀ X, rd.Leaves w t X → ∀ x, Seen t x → X x = val t x := by
  intro n
  induction n with
  | zero =>
    rintro t ht X ⟨Y, hY, ha⟩ x hx
    rcases hS t x hx with h | ⟨h0, _⟩
    · exact hw t Y X ha x h
    · exact absurd ht h0
  | succ n ih =>
    rintro t ht X ⟨Y, hY, ha⟩ x hx
    by_cases hn : Now t x
    · exact hw t Y X ha x hn
    · rcases hS t x hx with h | ⟨h0, t', ht', hf, hs, hv⟩
      · exact absurd h hn
      · rw [hk t Y X ha x hn, ← hv]
        have e : (⟨t.val - 1, Nat.lt_of_le_of_lt (Nat.sub_le _ _) t.isLt⟩ : Fin cfg.N) = t' := Fin.ext ht'.symm
        rw [rd.finds_of_pos (fetch_out _ ho t) h0, e] at hY
        rcases hY with h | h
        · rw [hf] at h; exact absurd h (by simp)
        · exact ih t' (by omega) Y h x hs

/-- An element of the array that some written-back block covers has the property that every written-back block gives its elements. -/
theorem arrAt_forall (w : Fin cfg.W)
    (P : ((cfg.win w).arr.view.loc (c.tc : Thread nD τ)).2.ty.Idx → Val ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y) (_root_.cast (congrArg Val ((cfg.win w).blk t).view.elt_eq.symm) ((cfg.win w).cut (cfg.grid.coords t) X y))) :
    ∀ (n : Nat) (G : Buf Val ((cfg.win w).arr.view.loc (c.tc : Thread nD τ))), rd.ArrAt w n G → ∀ (t : Fin cfg.N) (i : ((cfg.win w).arr.view.loc (c.tc : Thread nD τ)).2.ty.Idx),
      t.val < n → (cfg.win w).flush t = true → i ∈ ((cfg.win w).blk t).view.set → P i (G i)
  | 0, _, _, _, _, ht, _, _ => absurd ht (Nat.not_lt_zero _)
  | n + 1, G, hG, t, i, ht, hf, hi => by
    by_cases hn : n < cfg.N
    swap
    · rw [rd.ArrAt_stable w (n + 1) (by omega), ← rd.ArrAt_stable w n (by omega)] at hG
      exact arrAt_forall w P hP n G hG t i (by have := t.isLt; omega) hf hi
    have hs := rd.ArrAt_succ w ⟨n, hn⟩
    simp only at hs
    rw [hs] at hG
    by_cases hfn : (cfg.win w).flush ⟨n, hn⟩ = true
    · rw [if_pos hfn] at hG
      obtain ⟨G₀, X, h0, hX, rfl⟩ := hG
      by_cases hin : i ∈ ((cfg.win w).blk ⟨n, hn⟩).view.set
      · obtain ⟨y, -, rfl⟩ := Finset.mem_map.mp hin
        rw [View.write_emb_of_mem _ _ (Finset.mem_univ y)]
        exact hP _ hfn X hX y
      · rw [View.write_of_not_mem _ _ _ (by rwa [View.setOn_univ])]
        have htn : t.val ≠ n := fun e => hin (by have : t = ⟨n, hn⟩ := Fin.ext e; exact this ▸ hi)
        exact arrAt_forall w P hP n G₀ h0 t i (by omega) hf hi
    · rw [if_neg hfn] at hG
      have htn : t.val ≠ n := fun e => hfn (by have : t = ⟨n, hn⟩ := Fin.ext e; exact this ▸ hf)
      exact arrAt_forall w P hP n G hG t i (by omega) hf hi

end Cert.Relational
-- ==== Proof.KernelIdealVisit.lean ====
/- The order of the grid's points: a block of rows stays in the outputs' buffers while consecutive visits are to it, is written back
   after the last of them, and by then every row of it has been met by the visit of its own expert. -/
module

public import proofs.«01_k».proof.Proof.KernelIdealPoint
public import proofs.«01_k».proof.Proof.Relational

@[expose] public section

set_option maxRecDepth 16384
set_option maxHeartbeats 400000

noncomputable section

namespace Cert.KernelIdeal.Body

open Cert.KernelIdeal Cert.KernelIdeal.Gen
open Idealize.ShloMosaic Idealize.ShloMosaic.TcCoe

/-- The expert of a row: the number of experts whose rows end at or before it. -/
def own (sz : ℕ → ℕ) (R : ℕ) : Fin 8 := ⟨min (Visits.below sz R) 7, by omega⟩

theorem idxG_8 (p : (pcfg0 (F := Ideal)).Adm) (t : Fin (cfg0 p).N) (v : Fin 2 → ℕ) (h : cc0_transform_8 k0_off1_inb numel1_S1 p.1 (grid0.coords t) = v) :
    ((cfg0 p).win 8).index t = v := h

theorem idxG_9 (p : (pcfg0 (F := Ideal)).Adm) (t : Fin (cfg0 p).N) (v : Fin 3 → ℕ) (h : cc0_transform_9 k0_off1_inb numel1_S1 p.1 (grid0.coords t) = v) :
    ((cfg0 p).win 9).index t = v := h

theorem outG_8 (p : (pcfg0 (F := Ideal)).Adm) : ((cfg0 p).win 8).isOut = true := rfl
theorem outG_9 (p : (pcfg0 (F := Ideal)).Adm) : ((cfg0 p).win 9).isOut = true := rfl

variable (m : (ℓ : Loc nD τ sig) → Buf (Elt Ideal) ℓ) (hO : Ok m)
variable (hs : Visits.pre (szs m) 8 = 16384)

/-- The next point is at another block, or there is none. -/
def Ends (t : Fin (cfgM m hO).N) : Prop :=
  t.val + 1 = 1248 ∨ ∃ t1 : Fin (cfgM m hO).N, t1.val = t.val + 1
    ∧ ¬ (Visits.tile (szs m) (vv m hO t1) = Visits.tile (szs m) (vv m hO t) ∧ nn m hO t1 = nn m hO t)

/-- A point's visit meets a row of its block. -/
def Now (t : Fin (cfgM m hO).N) (r : Fin 512) : Prop :=
  Visits.lo (szs m) (vv m hO t) ≤ r.val ∧ r.val < Visits.hi (szs m) (vv m hO t)

/-- A visit up to a point's, to the same block, has met a row. -/
def Seen (t : Fin (cfgM m hO).N) (r : Fin 512) : Prop :=
  ∃ v, v ≤ vv m hO t ∧ Visits.tile (szs m) v = Visits.tile (szs m) (vv m hO t) ∧ Visits.lo (szs m) v ≤ r.val ∧ r.val < Visits.hi (szs m) v

include hs in
theorem ends8 (t : Fin (cfgM m hO).N) : ((cfgM m hO).win 8).flush t = true ↔ Ends m hO t := by
  have I : ∀ u, ((cfgM m hO).win 8).index u = ![Visits.tile (szs m) (vv m hO u), (nn m hO u).val] := fun u =>
    idxG_8 (adm m hO) u _ (tr_8 m hs (grid0.coords u))
  refine (Relational.flush_iff ((cfgM m hO).win 8) (outG_8 _) t).trans ?_
  refine or_congr ⟨fun h => h.trans gridN, fun h => h.trans gridN.symm⟩ ⟨fun ⟨h, hn⟩ => ⟨⟨t.val + 1, h⟩, rfl, fun ⟨a, b⟩ => hn ?_⟩, fun ⟨t1, h1, hn⟩ => ?_⟩
  · rw [I, I, a, b]
  · have hlt : t.val + 1 < (cfgM m hO).grid.N := h1 ▸ t1.isLt
    refine ⟨hlt, fun hi => hn ?_⟩
    have e : (⟨t.val + 1, hlt⟩ : Fin (cfgM m hO).N) = t1 := Fin.ext h1.symm
    rw [e, I, I] at hi
    exact ⟨congrFun hi 0, Fin.ext (congrFun hi 1)⟩

include hs in
theorem ends9 (t : Fin (cfgM m hO).N) : ((cfgM m hO).win 9).flush t = true ↔ Ends m hO t := by
  have I : ∀ u, ((cfgM m hO).win 9).index u = ![(nn m hO u).val, Visits.tile (szs m) (vv m hO u), 0] := fun u =>
    idxG_9 (adm m hO) u _ (tr_9 m hs (grid0.coords u))
  refine (Relational.flush_iff ((cfgM m hO).win 9) (outG_9 _) t).trans ?_
  refine or_congr ⟨fun h => h.trans gridN, fun h => h.trans gridN.symm⟩ ⟨fun ⟨h, hn⟩ => ⟨⟨t.val + 1, h⟩, rfl, fun ⟨a, b⟩ => hn ?_⟩, fun ⟨t1, h1, hn⟩ => ?_⟩
  · rw [I, I, a, b]
  · have hlt : t.val + 1 < (cfgM m hO).grid.N := h1 ▸ t1.isLt
    refine ⟨hlt, fun hi => hn ?_⟩
    have e : (⟨t.val + 1, hlt⟩ : Fin (cfgM m hO).N) = t1 := Fin.ext h1.symm
    rw [e, I, I] at hi
    exact ⟨congrFun hi 1, Fin.ext (congrFun hi 0)⟩

include hs in
/-- A row that has been met is met now, or had been met at the point before, whose block this is too. -/
theorem seen_step (t : Fin (cfgM m hO).N) (r : Fin 512) (h : Seen m hO t r) :
    Now m hO t r ∨ ∃ (_ : t.val ≠ 0) (t' : Fin (cfgM m hO).N) (_ : t'.val = t.val - 1),
      ¬ Ends m hO t' ∧ Seen m hO t' r ∧ Visits.tile (szs m) (vv m hO t') = Visits.tile (szs m) (vv m hO t) ∧ nn m hO t' = nn m hO t := by
  obtain ⟨v, hv, ht, h1, h2⟩ := h
  rcases Nat.eq_or_lt_of_le hv with e | hlt
  · exact .inl (by subst e; exact ⟨h1, h2⟩)
  · have hN : t.val < 1248 := lt_of_lt_of_eq t.isLt (N_eq m hO)
    have hvv := vv_val m hO t
    have h0 : t.val ≠ 0 := by intro e; rw [e] at hvv; omega
    let t' : Fin (cfgM m hO).N := ⟨t.val - 1, by have := t.isLt; omega⟩
    have ht' : t'.val = t.val - 1 := rfl
    have hvv' := vv_val m hO t'
    have hnn : nn m hO t' = nn m hO t := Fin.ext (by rw [nn_val, nn_val, ht']; omega)
    have hv' : vv m hO t' = vv m hO t - 1 := by rw [hvv', hvv, ht']; omega
    have hp : 0 < Visits.pre (szs m) 8 := by omega
    have a1 := Visits.tile_mono hp (show v ≤ vv m hO t' by omega)
    have a2 := Visits.tile_mono hp (show vv m hO t' ≤ vv m hO t by omega)
    have htile : Visits.tile (szs m) (vv m hO t') = Visits.tile (szs m) (vv m hO t) := by omega
    refine .inr ⟨h0, t', ht', ?_, ⟨v, by omega, by omega, h1, h2⟩, htile, hnn⟩
    rintro (h | ⟨t1, e1, hn⟩)
    · omega
    · have e : t1 = t := Fin.ext (by omega)
      subst e
      exact hn ⟨htile.symm, hnn.symm⟩

include hs in
/-- When a block is written back, all its rows have been met. -/
theorem seen_of_ends (t : Fin (cfgM m hO).N) (h : Ends m hO t) (r : Fin 512) : Seen m hO t r := by
  have hp : 0 < Visits.pre (szs m) 8 := by omega
  have hT := Visits.tile_lt hs (vv m hO t)
  obtain ⟨v, hv, ht, h1, h2⟩ := Visits.met hp (r := 512 * Visits.tile (szs m) (vv m hO t) + r.val) (by omega)
  have e1 : (512 * Visits.tile (szs m) (vv m hO t) + r.val) / 512 = Visits.tile (szs m) (vv m hO t) := by omega
  have e2 : (512 * Visits.tile (szs m) (vv m hO t) + r.val) % 512 = r.val := by omega
  rw [e1] at ht
  rw [e2] at h1 h2
  have htot := Visits.tot_le hs
  have hN : t.val < 1248 := lt_of_lt_of_eq t.isLt (N_eq m hO)
  have hvv := vv_val m hO t
  refine ⟨v, ?_, ht.symm, h1, h2⟩
  by_contra hgt
  have hlt : vv m hO t < v := by omega
  rcases h with h | ⟨t1, e, hn⟩
  · omega
  · have hN1 : t1.val < 1248 := lt_of_lt_of_eq t1.isLt (N_eq m hO)
    have hvv1 := vv_val m hO t1
    have hv1 : vv m hO t1 = vv m hO t + 1 := by rw [hvv1, hvv, e]; omega
    refine hn ⟨?_, Fin.ext (by rw [nn_val, nn_val, e]; omega)⟩
    have a1 := Visits.tile_mono hp (show vv m hO t ≤ vv m hO t1 by omega)
    have a2 := Visits.tile_mono hp (show vv m hO t1 ≤ v by omega)
    omega

include hs in
/-- Every block of rows is written back, for every block of columns. -/
theorem last_visit (R : Fin 16384) (n : Fin 32) : ∃ t : Fin (cfgM m hO).N, Ends m hO t ∧ nn m hO t = n ∧ Visits.tile (szs m) (vv m hO t) = R.val / 512 := by
  have hp : 0 < Visits.pre (szs m) 8 := by omega
  obtain ⟨v0, hv0, ht0, -, -⟩ := Visits.met hp (r := R.val) (by omega)
  have htot := Visits.tot_le hs
  have hsp : Visits.tile (szs m) (Nat.findGreatest (fun v => Visits.tile (szs m) v = R.val / 512) 38) = R.val / 512 :=
    Nat.findGreatest_spec (P := fun v => Visits.tile (szs m) v = R.val / 512) (show v0 ≤ 38 by omega) ht0.symm
  have hle : Nat.findGreatest (fun v => Visits.tile (szs m) v = R.val / 512) 38 ≤ 38 := Nat.findGreatest_le 38
  have hgr : ∀ k, Nat.findGreatest (fun v => Visits.tile (szs m) v = R.val / 512) 38 < k → k ≤ 38 → Visits.tile (szs m) k ≠ R.val / 512 :=
    fun k h1 h2 => Nat.findGreatest_is_greatest (P := fun v => Visits.tile (szs m) v = R.val / 512) h1 h2
  generalize Nat.findGreatest (fun v => Visits.tile (szs m) v = R.val / 512) 38 = g at hsp hle hgr
  let t : Fin (cfgM m hO).N := ⟨39 * n.val + g, lt_of_lt_of_eq (by omega) (N_eq m hO).symm⟩
  have ht : t.val = 39 * n.val + g := rfl
  have hv : vv m hO t = g := by rw [vv_val, ht]; omega
  have hn : nn m hO t = n := Fin.ext (by rw [nn_val, ht]; omega)
  refine ⟨t, ?_, hn, by rw [hv]; exact hsp⟩
  by_cases hl : t.val + 1 = 1248
  · exact .inl hl
  · refine .inr ⟨⟨t.val + 1, lt_of_lt_of_eq (by omega) (N_eq m hO).symm⟩, rfl, ?_⟩
    rintro ⟨a, b⟩
    have b' := congrArg Fin.val b
    rw [nn_val, nn_val] at b'
    simp only at b'
    have hg : g < 38 := by omega
    rw [vv_val, hv, hsp] at a
    simp only at a
    have e : (t.val + 1) % 39 = g + 1 := by omega
    rw [e] at a
    exact hgr (g + 1) (by omega) (by omega) a

include hs in
/-- The expert of the visit that meets a row is the row's own. -/
theorem now_own (t : Fin (cfgM m hO).N) (r : Fin 512) (h : Now m hO t r) : ee m hO hs t = own (szs m) (row m hO hs t r).val := by
  have hp : 0 < Visits.pre (szs m) 8 := by omega
  have hr : (row m hO hs t r).val = 512 * Visits.tile (szs m) (vv m hO t) + r.val := rfl
  obtain ⟨a, b⟩ := Visits.meets hp (v := vv m hO t) (r := (row m hO hs t r).val) (by rw [hr]; omega)
    (by rw [hr, show (512 * Visits.tile (szs m) (vv m hO t) + r.val) % 512 = r.val by omega]; exact h.1)
    (by rw [hr, show (512 * Visits.tile (szs m) (vv m hO t) + r.val) % 512 = r.val by omega]; exact h.2)
  refine Fin.ext ?_
  show Visits.grp (szs m) (vv m hO t) = min (Visits.below (szs m) (row m hO hs t r).val) 7
  omega

end Cert.KernelIdeal.Body
-- ==== Proof.KernelIdealArrays.lean ====
/- The arrays that the kernel leaves: every code and every scale is that of its row under the row's own expert. -/
module

public import proofs.«01_k».proof.Proof.KernelIdealVisit

@[expose] public section

set_option maxRecDepth 16384
set_option maxHeartbeats 400000

noncomputable section

namespace Cert.KernelIdeal.Body

open Cert.KernelIdeal Cert.KernelIdeal.Gen
open Idealize.ShloMosaic Idealize.ShloMosaic.TcCoe

/-- `Relational.leaves_seen` for output window 8. -/
theorem leavesG_8 (p : (pcfg0 (F := Ideal)).Adm) (c : Dev nD) (rd : Pipeline.RDat τ (Elt Ideal) Unit ℕ (UR sig nD τ) ℕ (cfg0 p) c)
    (N S : Fin (cfg0 p).N → S512x256.Idx → Prop) (val : Fin (cfg0 p).N → S512x256.Idx → EReal)
    (hw : ∀ t (Y X : S512x256.Idx → EReal), rd.after 8 t Y X → ∀ x : S512x256.Idx, N t x → X x = val t x)
    (hk : ∀ t (Y X : S512x256.Idx → EReal), rd.after 8 t Y X → ∀ x : S512x256.Idx, ¬ N t x → X x = Y x)
    (hS : ∀ t (x : S512x256.Idx), S t x → N t x ∨ ∃ (h0 : t.val ≠ 0) (t' : Fin (cfg0 p).N) (_ : t'.val = t.val - 1),
      ((cfg0 p).win 8).flush t' = false ∧ S t' x ∧ val t' x = val t x)
    (t : Fin (cfg0 p).N) (X : S512x256.Idx → EReal) (hX : rd.Leaves 8 t X) (x : S512x256.Idx) (h : S t x) : X x = val t x :=
  Relational.leaves_seen rd 8 (outG_8 p) N S val hw hk hS t.val t rfl X hX x h

/-- `Relational.arrAt_forall` for output window 8. -/
theorem arrG_8 (p : (pcfg0 (F := Ideal)).Adm) (c : Dev nD) (rd : Pipeline.RDat τ (Elt Ideal) Unit ℕ (UR sig nD τ) ℕ (cfg0 p) c)
    (P : S16384x8192.Idx → EReal → Prop)
    (hP : ∀ t, ((cfg0 p).win 8).flush t = true → ∀ X : S512x256.Idx → EReal, rd.Leaves 8 t X → ∀ (y : S512x256.Idx) (i : S16384x8192.Idx),
      (((cfg0 p).win 8).blk t).view.emb y = i → P i (X y))
    (G : S16384x8192.Idx → EReal) (hG : rd.ArrAt 8 (cfg0 p).N G) (t : Fin (cfg0 p).N) (hf : ((cfg0 p).win 8).flush t = true)
    (y : S512x256.Idx) (i : S16384x8192.Idx) (hy : (((cfg0 p).win 8).blk t).view.emb y = i) : P i (G i) :=
  Relational.arrAt_forall rd 8 P (fun t hf X hX y => hP t hf X hX y _ rfl) (cfg0 p).N G hG t i t.isLt hf (Finset.mem_map.mpr ⟨y, Finset.mem_univ _, hy⟩)

/-- `Relational.leaves_seen` for output window 9. -/
theorem leavesG_9 (p : (pcfg0 (F := Ideal)).Adm) (c : Dev nD) (rd : Pipeline.RDat τ (Elt Ideal) Unit ℕ (UR sig nD τ) ℕ (cfg0 p) c)
    (N S : Fin (cfg0 p).N → S1x512x2.Idx → Prop) (val : Fin (cfg0 p).N → S1x512x2.Idx → EReal)
    (hw : ∀ t (Y X : S1x512x2.Idx → EReal), rd.after 9 t Y X → ∀ x : S1x512x2.Idx, N t x → X x = val t x)
    (hk : ∀ t (Y X : S1x512x2.Idx → EReal), rd.after 9 t Y X → ∀ x : S1x512x2.Idx, ¬ N t x → X x = Y x)
    (hS : ∀ t (x : S1x512x2.Idx), S t x → N t x ∨ ∃ (h0 : t.val ≠ 0) (t' : Fin (cfg0 p).N) (_ : t'.val = t.val - 1),
      ((cfg0 p).win 9).flush t' = false ∧ S t' x ∧ val t' x = val t x)
    (t : Fin (cfg0 p).N) (X : S1x512x2.Idx → EReal) (hX : rd.Leaves 9 t X) (x : S1x512x2.Idx) (h : S t x) : X x = val t x :=
  Relational.leaves_seen rd 9 (outG_9 p) N S val hw hk hS t.val t rfl X hX x h

/-- `Relational.arrAt_forall` for output window 9. -/
theorem arrG_9 (p : (pcfg0 (F := Ideal)).Adm) (c : Dev nD) (rd : Pipeline.RDat τ (Elt Ideal) Unit ℕ (UR sig nD τ) ℕ (cfg0 p) c)
    (P : S32x16384x2.Idx → EReal → Prop)
    (hP : ∀ t, ((cfg0 p).win 9).flush t = true → ∀ X : S1x512x2.Idx → EReal, rd.Leaves 9 t X → ∀ (y : S1x512x2.Idx) (i : S32x16384x2.Idx),
      (((cfg0 p).win 9).blk t).view.emb y = i → P i (X y))
    (G : S32x16384x2.Idx → EReal) (hG : rd.ArrAt 9 (cfg0 p).N G) (t : Fin (cfg0 p).N) (hf : ((cfg0 p).win 9).flush t = true)
    (y : S1x512x2.Idx) (i : S32x16384x2.Idx) (hy : (((cfg0 p).win 9).blk t).view.emb y = i) : P i (G i) :=
  Relational.arrAt_forall rd 9 P (fun t hf X hX y => hP t hf X hX y _ rfl) (cfg0 p).N G hG t i t.isLt hf (Finset.mem_map.mpr ⟨y, Finset.mem_univ _, hy⟩)

variable (m : (ℓ : Loc nD τ sig) → Buf (Elt Ideal) ℓ) (hO : Ok m)
variable (hs : Visits.pre (szs m) 8 = 16384)

/-- The codes of a row at a column, under the row's own expert. -/
def codeOf (c : Dev nD) (R : Fin 16384) (C : Fin 8192) : EReal := (arrs m c).code (own (szs m) R.val) R C

/-- The scale of a block of a row, under the row's own expert. -/
def scaleOf (c : Dev nD) (R : Fin 16384) (B : Fin 64) : EReal := (arrs m c).scale (own (szs m) R.val) R B

theorem row_of_tile (t t' : Fin (cfgM m hO).N) (h : Visits.tile (szs m) (vv m hO t') = Visits.tile (szs m) (vv m hO t)) (r : Fin 512) :
    row m hO hs t' r = row m hO hs t r := Fin.ext (by show 512 * Visits.tile (szs m) (vv m hO t') + r.val = 512 * Visits.tile (szs m) (vv m hO t) + r.val; rw [h])

theorem col_of_nn (t t' : Fin (cfgM m hO).N) (h : nn m hO t' = nn m hO t) (l : Fin 256) : col m hO t' l = col m hO t l :=
  Fin.ext (by show 256 * (nn m hO t').val + l.val = 256 * (nn m hO t).val + l.val; rw [h])

/-- A block of 128 columns of a point. -/
def bcol (t : Fin (cfgM m hO).N) (q : Fin 2) : Fin 64 := ⟨2 * (nn m hO t).val + q.val, by omega⟩

theorem bcol_of_nn (t t' : Fin (cfgM m hO).N) (h : nn m hO t' = nn m hO t) (q : Fin 2) : bcol m hO t' q = bcol m hO t q :=
  Fin.ext (by show 2 * (nn m hO t').val + q.val = 2 * (nn m hO t).val + q.val; rw [h])

theorem eta2 (x : S512x256.Idx) : x = ix2 (x 0) (x 1) := by funext a; match a with | ⟨0, _⟩ => rfl | ⟨1, _⟩ => rfl
theorem eta3 (x : S1x512x2.Idx) : x = ix3 0 (x 1) (x 2) := by
  funext a; match a with | ⟨0, _⟩ => exact Fin.ext (Nat.lt_one_iff.mp (x 0).isLt) | ⟨1, _⟩ => rfl | ⟨2, _⟩ => rfl

/-- What the body may leave in the codes' buffer where a row has been met. -/
theorem leaves8 (c : Dev nD) (t : Fin (cfgM m hO).N) (X : S512x256.Idx → EReal) (hX : (rdats m hO c).Leaves 8 t X) (x : S512x256.Idx) (h : Seen m hO t (x 0)) :
    X x = codeOf m c (row m hO hs t (x 0)) (col m hO t (x 1)) := by
  refine leavesG_8 (adm m hO) c (rdats m hO c) (fun t x => Now m hO t (x 0)) (fun t x => Seen m hO t (x 0))
    (fun t x => codeOf m c (row m hO hs t (x 0)) (col m hO t (x 1))) ?_ ?_ ?_ t X hX x h
  · intro t Y X ha x hn
    rw [rdats_after8] at ha
    obtain ⟨y9, rfl⟩ := ha
    have hv := out8_at m hO hs c t Y y9 (x 0) (x 1)
    replace hv := hv.trans (if_pos hn)
    rw [now_own m hO hs t (x 0) hn] at hv
    exact (congrArg (outAt m hO c t Y y9).1 (eta2 x)).trans hv
  · intro t Y X ha x hn
    rw [rdats_after8] at ha
    obtain ⟨y9, rfl⟩ := ha
    have hv := out8_at m hO hs c t Y y9 (x 0) (x 1)
    replace hv := hv.trans (if_neg hn)
    exact (congrArg (outAt m hO c t Y y9).1 (eta2 x)).trans (hv.trans (congrArg Y (eta2 x).symm))
  · intro t x hx
    rcases seen_step m hO hs t (x 0) hx with h | ⟨h0, t', ht', he, hs', htl, hnn⟩
    · exact .inl h
    · exact .inr ⟨h0, t', ht', Bool.eq_false_iff.mpr fun h => he ((ends8 m hO hs t').mp h), hs',
        congrArg₂ (codeOf m c) (row_of_tile m hO hs t t' htl _) (col_of_nn m hO t t' hnn _)⟩

/-- What the body may leave in the scales' buffer where a row has been met. -/
theorem leaves9 (c : Dev nD) (t : Fin (cfgM m hO).N) (X : S1x512x2.Idx → EReal) (hX : (rdats m hO c).Leaves 9 t X) (x : S1x512x2.Idx) (h : Seen m hO t (x 1)) :
    X x = scaleOf m c (row m hO hs t (x 1)) (bcol m hO t (x 2)) := by
  refine leavesG_9 (adm m hO) c (rdats m hO c) (fun t x => Now m hO t (x 1)) (fun t x => Seen m hO t (x 1))
    (fun t x => scaleOf m c (row m hO hs t (x 1)) (bcol m hO t (x 2))) ?_ ?_ ?_ t X hX x h
  · intro t Y X ha x hn
    rw [rdats_after9] at ha
    obtain ⟨y8, rfl⟩ := ha
    have hv := out9_at m hO hs c t y8 Y (x 1) (x 2)
    replace hv := hv.trans (if_pos hn)
    rw [now_own m hO hs t (x 1) hn] at hv
    exact (congrArg (outAt m hO c t y8 Y).2 (eta3 x)).trans hv
  · intro t Y X ha x hn
    rw [rdats_after9] at ha
    obtain ⟨y8, rfl⟩ := ha
    have hv := out9_at m hO hs c t y8 Y (x 1) (x 2)
    replace hv := hv.trans (if_neg hn)
    exact (congrArg (outAt m hO c t y8 Y).2 (eta3 x)).trans (hv.trans (congrArg Y (eta3 x).symm))
  · intro t x hx
    rcases seen_step m hO hs t (x 1) hx with h | ⟨h0, t', ht', he, hs', htl, hnn⟩
    · exact .inl h
    · exact .inr ⟨h0, t', ht', Bool.eq_false_iff.mpr fun h => he ((ends9 m hO hs t').mp h), hs',
        congrArg₂ (scaleOf m c) (row_of_tile m hO hs t t' htl _) (bcol_of_nn m hO t t' hnn _)⟩

include hs in
/-- The array of the codes after the run. -/
theorem array8 (c : Dev nD) (G : S16384x8192.Idx → EReal) (hG : (rdats m hO c).ArrAt 8 (cfgM m hO).N G) (R : Fin 16384) (C : Fin 8192) :
    G (ix2 R C) = codeOf m c R C := by
  obtain ⟨t, he, hn, ht⟩ := last_visit m hO hs R ⟨C.val / 256, by omega⟩
  have h1 : row m hO hs t (⟨R.val % 512, by omega⟩ : Fin 512) = R := Fin.ext (by
    show 512 * Visits.tile (szs m) (vv m hO t) + R.val % 512 = R.val
    rw [ht]; omega)
  have h2 : col m hO t (⟨C.val % 256, by omega⟩ : Fin 256) = C := Fin.ext (by
    show 256 * (nn m hO t).val + C.val % 256 = C.val
    rw [hn]; show 256 * (C.val / 256) + C.val % 256 = C.val; omega)
  refine arrG_8 (adm m hO) c (rdats m hO c) (fun i v => v = codeOf m c (i 0) (i 1)) ?_ G hG t ((ends8 m hO hs t).mpr he)
    (ix2 (⟨R.val % 512, by omega⟩ : Fin 512) (⟨C.val % 256, by omega⟩ : Fin 256)) (ix2 R C)
    ((emb_8 m hO hs t _).trans (congrArg₂ ix2 h1 h2))
  intro t hf X hX y i hi
  have h3 := (emb_8 m hO hs t y).symm.trans hi
  subst h3
  exact leaves8 m hO hs c t X hX y (seen_of_ends m hO hs t ((ends8 m hO hs t).mp hf) _)

include hs in
/-- The array of the scales after the run. -/
theorem array9 (c : Dev nD) (G : S32x16384x2.Idx → EReal) (hG : (rdats m hO c).ArrAt 9 (cfgM m hO).N G) (n : Fin 32) (R : Fin 16384) (q : Fin 2) :
    G (ix3 n R q) = scaleOf m c R ⟨2 * n.val + q.val, by omega⟩ := by
  obtain ⟨t, he, hn, ht⟩ := last_visit m hO hs R n
  have h1 : row m hO hs t (⟨R.val % 512, by omega⟩ : Fin 512) = R := Fin.ext (by
    show 512 * Visits.tile (szs m) (vv m hO t) + R.val % 512 = R.val
    rw [ht]; omega)
  refine arrG_9 (adm m hO) c (rdats m hO c)
    (fun i v => v = scaleOf m c (i 1) ⟨2 * (i 0).val + (i 2).val, (fun (h : (i 0).val < 32) (h' : (i 2).val < 2) => by omega) (i 0).isLt (i 2).isLt⟩)
    ?_ G hG t ((ends9 m hO hs t).mpr he)
    (ix3 (0 : Fin 1) (⟨R.val % 512, by omega⟩ : Fin 512) q) (ix3 n R q)
    ((emb_9 m hO hs t _).trans (congrArg₂ (fun a b => ix3 a b q) hn h1))
  intro t hf X hX y i hi
  have h3 := (emb_9 m hO hs t y).symm.trans hi
  subst h3
  exact leaves9 m hO hs c t X hX y (seen_of_ends m hO hs t ((ends9 m hO hs t).mp hf) _)

end Cert.KernelIdeal.Body
-- ==== Proof.KernelIdealResults.lean ====
/- The kernel at the extended reals: what its run leaves in its two results, entry by entry, from its arguments. -/
module

public import proofs.«01_k».proof.Proof.KernelIdealArrays
public import Idealize.ShloMosaic.Lib.Pointwise

@[expose] public section

set_option maxRecDepth 16384
set_option maxHeartbeats 400000

noncomputable section

namespace Cert.KernelIdeal.Body

open Cert.KernelIdeal Cert.KernelIdeal.Gen
open Idealize Idealize.SL Idealize.SL.RA Idealize.SL.Sem Idealize.ShloMosaic Idealize.ShloMosaic.Pipeline Idealize.ShloMosaic.TcCoe Idealize.ShloMosaic.Tactic

variable (m : (ℓ : Loc nD τ sig) → Buf (Elt Ideal) ℓ) (ρ : Dev nD → PrngReg) (c : Dev nD)

/-- The gate's bias, as the kernel is handed it. -/
theorem V_v74 : (V m c main_v74 : FVec Ideal S8x1x8192 .f32) = shapeCast S8x1x8192 (m ((c : Thread nD τ).loc main_arg7) : FVec Ideal S8x8192 .f32) shapeCasts_S8x8192_S8x1x8192 := by
  unfold V
  after_reads_simp
  all_goals rfl

/-- The other bias, as the kernel is handed it. -/
theorem V_v75 : (V m c main_v75 : FVec Ideal S8x1x8192 .f32) = shapeCast S8x1x8192 (m ((c : Thread nD τ).loc main_arg8) : FVec Ideal S8x8192 .f32) shapeCasts_S8x8192_S8x1x8192 := by
  unfold V
  after_reads_simp
  all_goals rfl

theorem bias_at (b : FVec Ideal S8x8192 .f32) (e : Fin 8) (C : Fin 8192) :
    shapeCast S8x1x8192 b shapeCasts_S8x8192_S8x1x8192 (ix3 e 0 C) = b (ix2 e C) := by
  pointwise

/-- The arguments, by coordinates. -/
def args : Spec.In where
  x R k := (m ((c : Thread nD τ).loc main_arg0) : FVec Ideal S16384x5120 .fp8e4m3) (ix2 R k)
  xs R k := (m ((c : Thread nD τ).loc main_arg1) : FVec Ideal S16384x40 .f32) (ix2 R k)
  g e k C := (m ((c : Thread nD τ).loc main_arg3) : FVec Ideal S8x5120x8192 .fp8e4m3) (ix3 e k C)
  gs e k C := (m ((c : Thread nD τ).loc main_arg4) : FVec Ideal S8x40x64 .f32) (ix3 e k C)
  u e k C := (m ((c : Thread nD τ).loc main_arg5) : FVec Ideal S8x5120x8192 .fp8e4m3) (ix3 e k C)
  us e k C := (m ((c : Thread nD τ).loc main_arg6) : FVec Ideal S8x40x64 .f32) (ix3 e k C)
  bg e C := (m ((c : Thread nD τ).loc main_arg7) : FVec Ideal S8x8192 .f32) (ix2 e C)
  bu e C := (m ((c : Thread nD τ).loc main_arg8) : FVec Ideal S8x8192 .f32) (ix2 e C)

theorem arrs_args : arrs m c = args m c := by
  have h7 : ∀ e C, V m c main_v74 (ix3 e 0 C) = (m ((c : Thread nD τ).loc main_arg7) : FVec Ideal S8x8192 .f32) (ix2 e C) :=
    fun e C => (congrFun (V_v74 m c) _).trans (bias_at _ e C)
  have h8 : ∀ e C, V m c main_v75 (ix3 e 0 C) = (m ((c : Thread nD τ).loc main_arg8) : FVec Ideal S8x8192 .f32) (ix2 e C) :=
    fun e C => (congrFun (V_v75 m c) _).trans (bias_at _ e C)
  unfold arrs args
  simp only [h7, h8, V_main_arg0, V_main_arg1, V_main_arg3, V_main_arg4, V_main_arg5, V_main_arg6]

/-- The run leaves the codes and the scales. -/
theorem run_values (hO : Ok m) (hs : Visits.pre (szs m) 8 = 16384) :
    θ_run defs (onTc (τ := τ) (main (F := Ideal))) ⟨m, fun _ => 0, ρ⟩ (fun r => ∀ c : Dev nD,
      (∀ R C, (r.2.mem ((c.tc : Thread nD τ).loc main_v76_0) : S16384x8192.Idx → EReal) (ix2 R C) = (args m c).code (own (szs m) R.val) R C)
      ∧ ∀ (n : Fin 32) (R : Fin 16384) (q : Fin 2), (r.2.mem ((c.tc : Thread nD τ).loc main_v76_1) : S32x16384x2.Idx → EReal) (ix3 n R q)
          = (args m c).scale (own (szs m) R.val) R ⟨2 * n.val + q.val, by omega⟩) := by
  refine (θ_run defs _ _).mono (fun r h c => ?_) (run_main m ρ hO)
  rw [← arrs_args]
  exact ⟨fun R C => array8 m hO hs c _ ((h c).1 8) R C, fun n R q => array9 m hO hs c _ ((h c).1 9) n R q⟩

end Cert.KernelIdeal.Body

end
-- ==== Proof.ReferenceBody.lean ====
/- The reference's body at the extended reals, value by value at coordinates. -/
module

public import proofs.«01_k».proof.Proof.Gen.ReferenceIdeal.Skeleton
public import proofs.«01_k».proof.Proof.Quantiser
public import Idealize.ShloMosaic.Lib.Pointwise

@[expose] public section

set_option maxRecDepth 16384
set_option maxHeartbeats 400000

noncomputable section

namespace Cert.ReferenceIdeal.Body

open Cert.ReferenceIdeal Cert.ReferenceIdeal.Gen
open Idealize.ShloMosaic

/-- A row times an expert's weights, and the expert's bias. -/
def proj (a : FVec Ideal S16384x5120 .bf16) (w : Vec Ideal S1x5120x8192 .fp8e4m3) (s : Vec Ideal S1x40x64 .f32) (b : Vec Ideal S1x8192 .f32)
    (R : Fin 16384) (C : Fin 8192) : EReal :=
  (∑ k : Fin 5120, a (ix2 R k) * (w (ix3 0 k C) * s (ix3 0 ⟨k.val / 128, by omega⟩ ⟨C.val / 128, by omega⟩))) + b (ix2 0 C)

/-- The value `y` where the row's expert is `e`, else `z`. -/
def sel (v : Vec Ideal S16384x1 .i32) (R : Fin 16384) (e : BitVec 32) (y z : EReal) : EReal :=
  Scalar.select (IntOp.cmpi .eq (v (ix2 R 0)) e) y z

theorem pay4_at (v0 : Vec Ideal S16384x5120 .fp8e4m3) (v3 : Vec Ideal S16384x40 .f32) (R : Fin 16384) (k : Fin 5120) :
    k0_pay4 v0 v3 (ix2 R k) = v0 (ix2 R k) * v3 (ix2 R ⟨k.val / 128, by omega⟩) := by
  pointwise [k0_pay4]
  try rfl

theorem pay5_at (v0 : Vec Ideal S16384x5120 .fp8e4m3) (v3 : Vec Ideal S16384x40 .f32) (w s b v) (R : Fin 16384) (C : Fin 8192) :
    k0_pay5 v0 v3 w s b v (ix2 R C) = sel v R 0#32 (proj (k0_pay4 v0 v3) w s b R C) (Ideal.ofBits .f32 0x00000000#32) := by
  unfold k0_pay5 sel proj
  generalize k0_pay4 v0 v3 = a
  pointwise
  try rfl

theorem pay7_at (a : FVec Ideal S16384x5120 .bf16) (y : FVec Ideal S16384x8192 .f32) (w s b v) (w' : Vec Ideal S1x5120x8192 .fp8e4m3) (s' : Vec Ideal S1x40x64 .f32) (b' : Vec Ideal S1x8192 .f32) (v' : Vec Ideal S16384x1 .i32) (R : Fin 16384) (C : Fin 8192) :
    k0_pay7 a y (k0_pay6 w) s b v w' s' b' v' (ix2 R C)
      = sel v' R 2#32 (proj a w' s' b' R C) (sel v R 1#32 (proj a w s b R C) (y (ix2 R C))) := by
  unfold sel proj
  pointwise [k0_pay7, k0_pay6]
  try rfl

theorem pay8_at (a : FVec Ideal S16384x5120 .bf16) (y : FVec Ideal S16384x8192 .f32) (w s b v) (R : Fin 16384) (C : Fin 8192) :
    k0_pay8 a y w s b v (ix2 R C)
      = sel v R 3#32 (proj a w s b R C) (y (ix2 R C)) := by
  unfold sel proj
  pointwise [k0_pay8]
  try rfl

theorem pay11_at (a : FVec Ideal S16384x5120 .bf16) (y : FVec Ideal S16384x8192 .f32) (w s b v) (w' : Vec Ideal S1x5120x8192 .fp8e4m3) (s' : Vec Ideal S1x40x64 .f32) (b' : Vec Ideal S1x8192 .f32) (v' : Vec Ideal S16384x1 .i32) (R : Fin 16384) (C : Fin 8192) :
    k0_pay11 a y (k0_pay9 a w s b) (k0_pay10 v) 4#32 w' s' b' v' (ix2 R C)
      = sel v' R 5#32 (proj a w' s' b' R C) (sel v R 4#32 (proj a w s b R C) (y (ix2 R C))) := by
  unfold sel proj
  pointwise [k0_pay11, k0_pay10, k0_pay9]
  try rfl

theorem pay13_at (a : FVec Ideal S16384x5120 .bf16) (y : FVec Ideal S16384x8192 .f32) (w s b v) (w' : Vec Ideal S1x5120x8192 .fp8e4m3) (s' : Vec Ideal S1x40x64 .f32) (b' : Vec Ideal S1x8192 .f32) (v' : Vec Ideal S16384x1 .i32) (R : Fin 16384) (C : Fin 8192) :
    k0_pay13 a y (k0_pay12 a w s) b v w' s' b' v' (ix2 R C)
      = min (sel v' R 7#32 (proj a w' s' b' R C) (sel v R 6#32 (proj a w s b R C) (y (ix2 R C)))) (Ideal.ofBits .f32 0x40E00000#32) := by
  unfold sel proj
  pointwise [k0_pay13, k0_pay12]
  try rfl

theorem pay16_at (a : FVec Ideal S16384x5120 .bf16) (y : FVec Ideal S16384x8192 .f32) (w s b v) (w' : Vec Ideal S1x5120x8192 .fp8e4m3) (s' : Vec Ideal S1x40x64 .f32) (b' : Vec Ideal S1x8192 .f32) (v' : Vec Ideal S16384x1 .i32) (R : Fin 16384) (C : Fin 8192) :
    k0_pay16 a y (k0_pay15 w) s b v w' s' b' v' (ix2 R C)
      = sel v' R 1#32 (proj a w' s' b' R C) (sel v R 0#32 (proj a w s b R C) (y (ix2 R C))) := by
  unfold sel proj
  pointwise [k0_pay16, k0_pay15]
  try rfl

theorem pay17_at (a : FVec Ideal S16384x5120 .bf16) (y : FVec Ideal S16384x8192 .f32) (w s b v) (R : Fin 16384) (C : Fin 8192) :
    k0_pay17 a y w s b v (ix2 R C)
      = sel v R 2#32 (proj a w s b R C) (y (ix2 R C)) := by
  unfold sel proj
  pointwise [k0_pay17]
  try rfl

theorem pay19_at (a : FVec Ideal S16384x5120 .bf16) (y : FVec Ideal S16384x8192 .f32) (w s b v) (w' : Vec Ideal S1x5120x8192 .fp8e4m3) (s' : Vec Ideal S1x40x64 .f32) (b' : Vec Ideal S1x8192 .f32) (v' : Vec Ideal S16384x1 .i32) (R : Fin 16384) (C : Fin 8192) :
    k0_pay19 a y (k0_pay18 a w s b) v w' s' b' v' (ix2 R C)
      = sel v' R 4#32 (proj a w' s' b' R C) (sel v R 3#32 (proj a w s b R C) (y (ix2 R C))) := by
  unfold sel proj
  pointwise [k0_pay19, k0_pay18]
  try rfl

theorem pay21_at (a : FVec Ideal S16384x5120 .bf16) (y : FVec Ideal S16384x8192 .f32) (w s b v) (w' : Vec Ideal S1x5120x8192 .fp8e4m3) (s' : Vec Ideal S1x40x64 .f32) (b' : Vec Ideal S1x8192 .f32) (v' : Vec Ideal S16384x1 .i32) (R : Fin 16384) (C : Fin 8192) :
    k0_pay21 a y (k0_pay20 w s) (constant S16384x8192 .f32 0x00000000#32) b v w' s' b' v' (ix2 R C)
      = sel v' R 6#32 (proj a w' s' b' R C) (sel v R 5#32 (proj a w s b R C) (y (ix2 R C))) := by
  unfold sel proj
  pointwise [k0_pay21, k0_pay20]
  try rfl

theorem pay14_at (R : Fin 16384) (C : Fin 8192) : k0_pay14 (F := Ideal) (ix2 R C) = Ideal.ofBits .f32 0x00000000#32 := rfl

/-- The activations, from the clipped gate and the rows' other projection. -/
theorem pay23_at (a : FVec Ideal S16384x5120 .bf16) (G y : FVec Ideal S16384x8192 .f32) (w s b v) (R : Fin 16384) (B : Fin 64) (k : Fin 128) :
    k0_pay23 a G y (k0_pay22 w) s b v (ix3 R B k)
      = (min (Ideal.ofBits .f32 0x40E00000#32) (max (Ideal.ofBits .f32 0xC0E00000#32)
            (sel v R 7#32 (proj a w s b R ⟨128 * B.val + k.val, by omega⟩) (y (ix2 R ⟨128 * B.val + k.val, by omega⟩)))) + 1)
          * G (ix2 R ⟨128 * B.val + k.val, by omega⟩)
        * Ideal.logistic (Ideal.ofBits .f32 0x3FD9DB23#32 * G (ix2 R ⟨128 * B.val + k.val, by omega⟩)) := by
  have e1 : (⟨128 * B.val + k.val, by omega⟩ : Fin 8192) = ⟨B.val * 128 + k.val, by omega⟩ := Fin.ext (by simp only; omega)
  have e2 : (⟨(B.val * 128 + k.val) / 128, by omega⟩ : Fin 64) = B := Fin.ext (by simp only; omega)
  rw [e1]
  unfold sel proj
  simp only [e2]
  pointwise [k0_pay23, k0_pay22]

/-- The greatest along the last of three axes, at coordinates. -/
theorem maxV {n0 n1 n2 : ℕ} (x : FVec Ideal ⟨3, ![n0, n1, n2]⟩ .f32) (h : Shape.Reduces ⟨3, ![n0, n1, n2]⟩ [2] ⟨2, ![n0, n1]⟩)
    (hφ : FKind.Formats .f32) (ha : 0xFF800000#32 = FKind.maximumf.neutral .f32 hφ) (R : Fin n0) (B : Fin n1) :
    multiReduction .maximumf [2] ⟨2, ![n0, n1]⟩ x 0xFF800000#32 h hφ ha (ix2 R B)
      = (Finset.univ : Finset (Fin n2)).fold max (Ideal.ofBits .f32 0xFF800000#32) fun k => x (ix3 R B k) :=
  (multiReduction_maximumf_eq_fold x _ h hφ ha _).trans (h.fold_fiber_r3_a2 _ _ _ _)

/-- The least along the last of three axes, at coordinates. -/
theorem minV {n0 n1 n2 : ℕ} (x : FVec Ideal ⟨3, ![n0, n1, n2]⟩ .f32) (h : Shape.Reduces ⟨3, ![n0, n1, n2]⟩ [2] ⟨2, ![n0, n1]⟩)
    (hφ : FKind.Formats .f32) (ha : 0x7F800000#32 = FKind.minimumf.neutral .f32 hφ) (R : Fin n0) (B : Fin n1) :
    multiReduction .minimumf [2] ⟨2, ![n0, n1]⟩ x 0x7F800000#32 h hφ ha (ix2 R B)
      = (Finset.univ : Finset (Fin n2)).fold min (Ideal.ofBits .f32 0x7F800000#32) fun k => x (ix3 R B k) :=
  (multiReduction_minimumf_eq_fold x _ h hφ ha _).trans (h.fold_fiber_r3_a2 _ _ _ _)

/-- The powers, those not above the block's bound replaced by infinity. -/
theorem cand_at (A : FVec Ideal S16384x64 .f32) (R : Fin 16384) (B : Fin 64) (k : Fin 254) :
    select (cmpf .ogt (exp2 (sitofp (F := Ideal) .f32 (subi (iota .tc S16384x64x254 32 [2] iota_S16384x64x254_d2_w32) (broadcast S16384x64x254 126#32))))
        (broadcastTo S16384x64x254 (shapeCast S16384x64x1 A shapeCasts_S16384x64_S16384x64x1) broadcasts_S16384x64x1_S16384x64x254))
      (exp2 (sitofp (F := Ideal) .f32 (subi (iota .tc S16384x64x254 32 [2] iota_S16384x64x254_d2_w32) (broadcast S16384x64x254 126#32))))
      (broadcast S16384x64x254 (Scalar.ofBits (F := Ideal) .f32 0x7F800000#32)) (ix3 R B k) = Quant.cand (A (ix2 R B)) k := by
  unfold Quant.cand
  pointwise
  rfl

/-- A block's bound, over a variable number of blocks. -/
theorem boundV {n0 n1 : ℕ} (x : FVec Ideal ⟨3, ![n0, n1, 128]⟩ .f32) (h : Shape.Reduces ⟨3, ![n0, n1, 128]⟩ [2] ⟨2, ![n0, n1]⟩)
    (hφ : FKind.Formats .f32) (ha : 0xFF800000#32 = FKind.maximumf.neutral .f32 hφ) (R : Fin n0) (B : Fin n1) :
    mulf (multiReduction .maximumf [2] ⟨2, ![n0, n1]⟩ (absf x) 0xFF800000#32 h hφ ha) (broadcast ⟨2, ![n0, n1]⟩ (Scalar.ofBits (F := Ideal) .f32 0x3B124925#32)) (ix2 R B)
      = Quant.bound fun k : Fin 128 => x (ix3 R B k) :=
  congrArg (fun z : EReal => z * Ideal.ofBits .f32 0x3B124925#32) (maxV (absf x) h hφ ha R B)

/-- A block's bound. -/
theorem pay24_at (a : FVec Ideal S16384x5120 .bf16) (G y : FVec Ideal S16384x8192 .f32) (w s b v) (R : Fin 16384) (B : Fin 64) :
    k0_pay24 a G y w s b v (ix2 R B) = Quant.bound fun k : Fin 128 => k0_pay23 a G y w s b v (ix3 R B k) := by
  unfold k0_pay24
  generalize k0_pay23 a G y w s b v = H
  exact boundV H reduces_S16384x64x128_S16384x64 (.inl rfl) rfl R B

/-- The least power above a block's bound. -/
theorem pay25_at (a : FVec Ideal S16384x5120 .bf16) (G y : FVec Ideal S16384x8192 .f32) (w s b v) (R : Fin 16384) (B : Fin 64) :
    k0_pay25 a G y w s b v (ix2 R B)
      = (Finset.univ : Finset (Fin 254)).fold min (Ideal.ofBits .f32 0x7F800000#32) (Quant.cand (k0_pay24 a G y w s b v (ix2 R B))) := by
  unfold k0_pay25
  generalize k0_pay24 a G y w s b v = A
  refine (minV _ reduces_S16384x64x254_S16384x64 (.inl rfl) rfl R B).trans ?_
  exact Finset.fold_congr fun k _ => cand_at A R B k

/-- A block's scale. -/
theorem pay1_at (a p : FVec Ideal S16384x64 .f32) (R : Fin 16384) (B : Fin 64) :
    k0_pay1 a p (ix2 R B) = Scalar.select (Ideal.cmp .oeq (a (ix2 R B)) (Ideal.ofBits .f32 0x00000000#32)) (Ideal.ofBits .f32 0x3F800000#32) (p (ix2 R B)) := by
  pointwise [k0_pay1]
  try rfl

/-- The codes. -/
theorem pay2_at (h : FVec Ideal S16384x64x128 .f32) (a p : FVec Ideal S16384x64 .f32) (R : Fin 16384) (C : Fin 8192) :
    k0_pay2 h a p (ix2 R C) = min (Ideal.ofBits .f32 0x43E00000#32) (max (Ideal.ofBits .f32 0xC3E00000#32)
      (Ideal.div (h (ix3 R ⟨C.val / 128, by omega⟩ ⟨C.val % 128, by omega⟩)) (k0_pay1 a p (ix2 R ⟨C.val / 128, by omega⟩)))) := by
  unfold k0_pay2
  generalize k0_pay1 a p = S
  pointwise
  try rfl

/-- The scales, in their layout. -/
theorem pay3_at (a p : FVec Ideal S16384x64 .f32) (n : Fin 32) (R : Fin 16384) (q : Fin 2) :
    k0_pay3 a p (ix3 n R q) = k0_pay1 a p (ix2 R ⟨2 * n.val + q.val, by omega⟩) := by
  have e1 : (⟨2 * n.val + q.val, by omega⟩ : Fin 64) = ⟨n.val * 2 + q.val, by omega⟩ := Fin.ext (by simp only; omega)
  rw [e1]
  unfold k0_pay3
  generalize k0_pay1 a p = S
  pointwise

end Cert.ReferenceIdeal.Body
-- ==== Proof.ReferenceProducts.lean ====
/- The reference's results in terms of the mathematics, from the arrays that its body is handed: under the rows' experts, every code and every scale. -/
module

public import proofs.«01_k».proof.Proof.ReferenceBody
public import proofs.«01_k».proof.Proof.Spec
public import proofs.«01_k».proof.Proof.Gen.ReferenceIdeal.Frame

@[expose] public section

set_option maxRecDepth 16384
set_option maxHeartbeats 400000

noncomputable section

namespace Cert.ReferenceIdeal.Body

open Cert.ReferenceIdeal Cert.ReferenceIdeal.Gen
open Idealize.ShloMosaic

/-! ## What the loads read -/

theorem ldX (x : Vec Ideal S16384x5120 .fp8e4m3) (R : Fin 16384) (k : Fin 5120) : View.ld x r0_0 (ix2 R k) = x (ix2 R k) := by pointwise
theorem ldXs (x : Vec Ideal S16384x40 .f32) (R : Fin 16384) (k : Fin 40) : View.ld x r0_1 (ix2 R k) = x (ix2 R k) := by pointwise
theorem ldV (x : Vec Ideal S16384x1 .i32) (R : Fin 16384) : View.ld x r0_5 (ix2 R 0) = x (ix2 R 0) := by pointwise
theorem ldW0 (x : Vec Ideal S8x5120x8192 .fp8e4m3) (k : Fin 5120) (C : Fin 8192) : View.ld x r0_2 (ix3 0 k C) = x (ix3 0 k C) := by pointwise
theorem ldS0 (x : Vec Ideal S8x40x64 .f32) (k : Fin 40) (C : Fin 64) : View.ld x r0_3 (ix3 0 k C) = x (ix3 0 k C) := by pointwise
theorem ldB0 (x : Vec Ideal S8x8192 .f32) (C : Fin 8192) : View.ld x r0_4 (ix2 0 C) = x (ix2 0 C) := by pointwise
theorem ldW1 (x : Vec Ideal S8x5120x8192 .fp8e4m3) (k : Fin 5120) (C : Fin 8192) : View.ld x r0_6 (ix3 0 k C) = x (ix3 1 k C) := by pointwise
theorem ldS1 (x : Vec Ideal S8x40x64 .f32) (k : Fin 40) (C : Fin 64) : View.ld x r0_7 (ix3 0 k C) = x (ix3 1 k C) := by pointwise
theorem ldB1 (x : Vec Ideal S8x8192 .f32) (C : Fin 8192) : View.ld x r0_8 (ix2 0 C) = x (ix2 1 C) := by pointwise
theorem ldW2 (x : Vec Ideal S8x5120x8192 .fp8e4m3) (k : Fin 5120) (C : Fin 8192) : View.ld x r0_9 (ix3 0 k C) = x (ix3 2 k C) := by pointwise
theorem ldS2 (x : Vec Ideal S8x40x64 .f32) (k : Fin 40) (C : Fin 64) : View.ld x r0_10 (ix3 0 k C) = x (ix3 2 k C) := by pointwise
theorem ldB2 (x : Vec Ideal S8x8192 .f32) (C : Fin 8192) : View.ld x r0_11 (ix2 0 C) = x (ix2 2 C) := by pointwise
theorem ldW3 (x : Vec Ideal S8x5120x8192 .fp8e4m3) (k : Fin 5120) (C : Fin 8192) : View.ld x r0_12 (ix3 0 k C) = x (ix3 3 k C) := by pointwise
theorem ldS3 (x : Vec Ideal S8x40x64 .f32) (k : Fin 40) (C : Fin 64) : View.ld x r0_13 (ix3 0 k C) = x (ix3 3 k C) := by pointwise
theorem ldB3 (x : Vec Ideal S8x8192 .f32) (C : Fin 8192) : View.ld x r0_14 (ix2 0 C) = x (ix2 3 C) := by pointwise
theorem ldW4 (x : Vec Ideal S8x5120x8192 .fp8e4m3) (k : Fin 5120) (C : Fin 8192) : View.ld x r0_15 (ix3 0 k C) = x (ix3 4 k C) := by pointwise
theorem ldS4 (x : Vec Ideal S8x40x64 .f32) (k : Fin 40) (C : Fin 64) : View.ld x r0_16 (ix3 0 k C) = x (ix3 4 k C) := by pointwise
theorem ldB4 (x : Vec Ideal S8x8192 .f32) (C : Fin 8192) : View.ld x r0_17 (ix2 0 C) = x (ix2 4 C) := by pointwise
theorem ldW5 (x : Vec Ideal S8x5120x8192 .fp8e4m3) (k : Fin 5120) (C : Fin 8192) : View.ld x r0_18 (ix3 0 k C) = x (ix3 5 k C) := by pointwise
theorem ldS5 (x : Vec Ideal S8x40x64 .f32) (k : Fin 40) (C : Fin 64) : View.ld x r0_19 (ix3 0 k C) = x (ix3 5 k C) := by pointwise
theorem ldB5 (x : Vec Ideal S8x8192 .f32) (C : Fin 8192) : View.ld x r0_20 (ix2 0 C) = x (ix2 5 C) := by pointwise
theorem ldW6 (x : Vec Ideal S8x5120x8192 .fp8e4m3) (k : Fin 5120) (C : Fin 8192) : View.ld x r0_21 (ix3 0 k C) = x (ix3 6 k C) := by pointwise
theorem ldS6 (x : Vec Ideal S8x40x64 .f32) (k : Fin 40) (C : Fin 64) : View.ld x r0_22 (ix3 0 k C) = x (ix3 6 k C) := by pointwise
theorem ldB6 (x : Vec Ideal S8x8192 .f32) (C : Fin 8192) : View.ld x r0_23 (ix2 0 C) = x (ix2 6 C) := by pointwise
theorem ldW7 (x : Vec Ideal S8x5120x8192 .fp8e4m3) (k : Fin 5120) (C : Fin 8192) : View.ld x r0_24 (ix3 0 k C) = x (ix3 7 k C) := by pointwise
theorem ldS7 (x : Vec Ideal S8x40x64 .f32) (k : Fin 40) (C : Fin 64) : View.ld x r0_25 (ix3 0 k C) = x (ix3 7 k C) := by pointwise
theorem ldB7 (x : Vec Ideal S8x8192 .f32) (C : Fin 8192) : View.ld x r0_26 (ix2 0 C) = x (ix2 7 C) := by pointwise

/-! ## The products -/

section
variable (x0 : Vec Ideal S16384x1 .i32) (x1 : Vec Ideal S16384x5120 .fp8e4m3) (x2 : Vec Ideal S16384x40 .f32) (x3 : Vec Ideal S8x5120x8192 .fp8e4m3)
  (x4 : Vec Ideal S8x40x64 .f32) (x5 : Vec Ideal S8x5120x8192 .fp8e4m3) (x6 : Vec Ideal S8x40x64 .f32) (x7 : Vec Ideal S8x8192 .f32) (x8 : Vec Ideal S8x8192 .f32)

/-- The arrays that the body is handed, by coordinates. -/
def ins : Spec.In where
  x R k := x1 (ix2 R k)
  xs R k := x2 (ix2 R k)
  g e k C := x3 (ix3 e k C)
  gs e k C := x4 (ix3 e k C)
  u e k C := x5 (ix3 e k C)
  us e k C := x6 (ix3 e k C)
  bg e C := x7 (ix2 e C)
  bu e C := x8 (ix2 e C)

/-- A row's product with one expert's columns, the bias included. -/
def prod (w : Vec Ideal S8x5120x8192 .fp8e4m3) (s : Vec Ideal S8x40x64 .f32) (b : Vec Ideal S8x8192 .f32) (R : Fin 16384) (C : Fin 8192) (e : Fin 8) : EReal :=
  (∑ k : Fin 5120, (x1 (ix2 R k) * x2 (ix2 R ⟨k.val / 128, by omega⟩)) * (w (ix3 e k C) * s (ix3 e ⟨k.val / 128, by omega⟩ ⟨C.val / 128, by omega⟩)))
    + b (ix2 e C)

theorem proj_eq (w : Vec Ideal S8x5120x8192 .fp8e4m3) (s : Vec Ideal S8x40x64 .f32) (b : Vec Ideal S8x8192 .f32) (e : Fin 8)
    (w' : Vec Ideal S1x5120x8192 .fp8e4m3) (s' : Vec Ideal S1x40x64 .f32) (b' : Vec Ideal S1x8192 .f32)
    (hw : ∀ k C, w' (ix3 0 k C) = w (ix3 e k C)) (hs : ∀ k C, s' (ix3 0 k C) = s (ix3 e k C)) (hb : ∀ C, b' (ix2 0 C) = b (ix2 e C))
    (R : Fin 16384) (C : Fin 8192) :
    proj (k0_pay4 (View.ld x1 r0_0) (View.ld x2 r0_1)) w' s' b' R C = prod x1 x2 w s b R C e := by
  unfold proj prod
  rw [hb]
  refine congrArg (fun z : EReal => z + b (ix2 e C)) (Finset.sum_congr rfl fun k _ => ?_)
  rw [pay4_at, hw, hs, ldX, ldXs]

theorem proj0 (w : Vec Ideal S8x5120x8192 .fp8e4m3) (s : Vec Ideal S8x40x64 .f32) (b : Vec Ideal S8x8192 .f32) (R : Fin 16384) (C : Fin 8192) :
    proj (k0_pay4 (View.ld x1 r0_0) (View.ld x2 r0_1)) (View.ld w r0_2) (View.ld s r0_3) (View.ld b r0_4) R C = prod x1 x2 w s b R C 0 :=
  proj_eq x1 x2 w s b 0 _ _ _ (ldW0 w) (ldS0 s) (ldB0 b) R C
theorem proj1 (w : Vec Ideal S8x5120x8192 .fp8e4m3) (s : Vec Ideal S8x40x64 .f32) (b : Vec Ideal S8x8192 .f32) (R : Fin 16384) (C : Fin 8192) :
    proj (k0_pay4 (View.ld x1 r0_0) (View.ld x2 r0_1)) (View.ld w r0_6) (View.ld s r0_7) (View.ld b r0_8) R C = prod x1 x2 w s b R C 1 :=
  proj_eq x1 x2 w s b 1 _ _ _ (ldW1 w) (ldS1 s) (ldB1 b) R C
theorem proj2 (w : Vec Ideal S8x5120x8192 .fp8e4m3) (s : Vec Ideal S8x40x64 .f32) (b : Vec Ideal S8x8192 .f32) (R : Fin 16384) (C : Fin 8192) :
    proj (k0_pay4 (View.ld x1 r0_0) (View.ld x2 r0_1)) (View.ld w r0_9) (View.ld s r0_10) (View.ld b r0_11) R C = prod x1 x2 w s b R C 2 :=
  proj_eq x1 x2 w s b 2 _ _ _ (ldW2 w) (ldS2 s) (ldB2 b) R C
theorem proj3 (w : Vec Ideal S8x5120x8192 .fp8e4m3) (s : Vec Ideal S8x40x64 .f32) (b : Vec Ideal S8x8192 .f32) (R : Fin 16384) (C : Fin 8192) :
    proj (k0_pay4 (View.ld x1 r0_0) (View.ld x2 r0_1)) (View.ld w r0_12) (View.ld s r0_13) (View.ld b r0_14) R C = prod x1 x2 w s b R C 3 :=
  proj_eq x1 x2 w s b 3 _ _ _ (ldW3 w) (ldS3 s) (ldB3 b) R C
theorem proj4 (w : Vec Ideal S8x5120x8192 .fp8e4m3) (s : Vec Ideal S8x40x64 .f32) (b : Vec Ideal S8x8192 .f32) (R : Fin 16384) (C : Fin 8192) :
    proj (k0_pay4 (View.ld x1 r0_0) (View.ld x2 r0_1)) (View.ld w r0_15) (View.ld s r0_16) (View.ld b r0_17) R C = prod x1 x2 w s b R C 4 :=
  proj_eq x1 x2 w s b 4 _ _ _ (ldW4 w) (ldS4 s) (ldB4 b) R C
theorem proj5 (w : Vec Ideal S8x5120x8192 .fp8e4m3) (s : Vec Ideal S8x40x64 .f32) (b : Vec Ideal S8x8192 .f32) (R : Fin 16384) (C : Fin 8192) :
    proj (k0_pay4 (View.ld x1 r0_0) (View.ld x2 r0_1)) (View.ld w r0_18) (View.ld s r0_19) (View.ld b r0_20) R C = prod x1 x2 w s b R C 5 :=
  proj_eq x1 x2 w s b 5 _ _ _ (ldW5 w) (ldS5 s) (ldB5 b) R C
theorem proj6 (w : Vec Ideal S8x5120x8192 .fp8e4m3) (s : Vec Ideal S8x40x64 .f32) (b : Vec Ideal S8x8192 .f32) (R : Fin 16384) (C : Fin 8192) :
    proj (k0_pay4 (View.ld x1 r0_0) (View.ld x2 r0_1)) (View.ld w r0_21) (View.ld s r0_22) (View.ld b r0_23) R C = prod x1 x2 w s b R C 6 :=
  proj_eq x1 x2 w s b 6 _ _ _ (ldW6 w) (ldS6 s) (ldB6 b) R C
theorem proj7 (w : Vec Ideal S8x5120x8192 .fp8e4m3) (s : Vec Ideal S8x40x64 .f32) (b : Vec Ideal S8x8192 .f32) (R : Fin 16384) (C : Fin 8192) :
    proj (k0_pay4 (View.ld x1 r0_0) (View.ld x2 r0_1)) (View.ld w r0_24) (View.ld s r0_25) (View.ld b r0_26) R C = prod x1 x2 w s b R C 7 :=
  proj_eq x1 x2 w s b 7 _ _ _ (ldW7 w) (ldS7 s) (ldB7 b) R C

/-- The row's expert is picked. -/
theorem chain (v : Vec Ideal S16384x1 .i32) (R : Fin 16384) (o : Fin 8) (h : v (ix2 R 0) = BitVec.ofNat 32 o.val) (p : Fin 8 → EReal) (z : EReal) :
    sel v R 7#32 (p 7) (sel v R 6#32 (p 6) (sel v R 5#32 (p 5) (sel v R 4#32 (p 4) (sel v R 3#32 (p 3) (sel v R 2#32 (p 2)
      (sel v R 1#32 (p 1) (sel v R 0#32 (p 0) z))))))) = p o := by
  unfold sel
  rw [h]
  fin_cases o <;> rfl

/-- The gate's product, clipped. -/
theorem gate_at (R : Fin 16384) (C : Fin 8192) (o : Fin 8) (h : x0 (ix2 R 0) = BitVec.ofNat 32 o.val) :
    k0_pay27 x0 x1 x2 x3 x4 x5 x6 x7 x8 (ix2 R C) = min (prod x1 x2 x3 x4 x7 R C o) (Ideal.ofBits .f32 0x40E00000#32) := by
  have e26 : k0_pay26 x0 x1 x2 x3 x4 x5 x6 x7 x8 = k0_pay4 (View.ld x1 r0_0) (View.ld x2 r0_1) := rfl
  unfold k0_pay27
  rw [e26, pay13_at, pay11_at, pay8_at, pay7_at, pay5_at, proj0, proj1, proj2, proj3, proj4, proj5, proj6, proj7]
  rw [chain (View.ld x0 r0_5) R o ((ldV x0 R).trans h) (prod x1 x2 x3 x4 x7 R C)]

/-- The activations. -/
theorem act_at (R : Fin 16384) (B : Fin 64) (k : Fin 128) (o : Fin 8) (h : x0 (ix2 R 0) = BitVec.ofNat 32 o.val) :
    k0_pay23 (k0_pay26 x0 x1 x2 x3 x4 x5 x6 x7 x8) (k0_pay27 x0 x1 x2 x3 x4 x5 x6 x7 x8) (k0_pay28 x0 x1 x2 x3 x4 x5 x6 x7 x8) (k0_pay29 x0 x1 x2 x3 x4 x5 x6 x7 x8) (View.ld x6 r0_25) (View.ld x8 r0_26) (View.ld x0 r0_5) (ix3 R B k)
      = (ins x1 x2 x3 x4 x5 x6 x7 x8).blk o R B k := by
  have e26 : k0_pay26 x0 x1 x2 x3 x4 x5 x6 x7 x8 = k0_pay4 (View.ld x1 r0_0) (View.ld x2 r0_1) := rfl
  have e29 : k0_pay29 x0 x1 x2 x3 x4 x5 x6 x7 x8 = k0_pay22 (View.ld x5 r0_24) := rfl
  rw [e29, pay23_at, gate_at x0 x1 x2 x3 x4 x5 x6 x7 x8 R _ o h, e26]
  unfold k0_pay28
  rw [e26, pay21_at, pay19_at, pay17_at, pay16_at, pay14_at, proj0, proj1, proj2, proj3, proj4, proj5, proj6, proj7]
  rw [chain (View.ld x0 r0_5) R o ((ldV x0 R).trans h) (prod x1 x2 x5 x6 x8 R _)]
  rfl

/-- A block's bound. -/
theorem bound_at (R : Fin 16384) (B : Fin 64) (o : Fin 8) (h : x0 (ix2 R 0) = BitVec.ofNat 32 o.val) :
    k0_pay30 x0 x1 x2 x3 x4 x5 x6 x7 x8 (ix2 R B) = Quant.bound ((ins x1 x2 x3 x4 x5 x6 x7 x8).blk o R B) := by
  unfold k0_pay30
  rw [pay24_at]
  exact congrArg Quant.bound (funext fun k => act_at x0 x1 x2 x3 x4 x5 x6 x7 x8 R B k o h)

/-- A block's bound lies between 0 and 1. -/
theorem bound_range (a : Spec.In) (o : Fin 8) (R : Fin 16384) (B : Fin 64) : 0 ≤ Quant.bound (a.blk o R B) ∧ Quant.bound (a.blk o R B) ≤ 1 :=
  Quant.bound_mem _ fun k => Quant.act_bound _ _

/-- A block's scale. -/
theorem scale1_at (R : Fin 16384) (B : Fin 64) (o : Fin 8) (h : x0 (ix2 R 0) = BitVec.ofNat 32 o.val) :
    k0_pay1 (k0_pay30 x0 x1 x2 x3 x4 x5 x6 x7 x8) (k0_pay31 x0 x1 x2 x3 x4 x5 x6 x7 x8) (ix2 R B) = (ins x1 x2 x3 x4 x5 x6 x7 x8).scale o R B := by
  have hr := bound_range (ins x1 x2 x3 x4 x5 x6 x7 x8) o R B
  have hb := bound_at x0 x1 x2 x3 x4 x5 x6 x7 x8 R B o h
  have h31 : k0_pay31 x0 x1 x2 x3 x4 x5 x6 x7 x8 (ix2 R B) = (Finset.univ : Finset (Fin 254)).fold min (Ideal.ofBits .f32 0x7F800000#32)
      (Quant.cand (k0_pay30 x0 x1 x2 x3 x4 x5 x6 x7 x8 (ix2 R B))) := by
    unfold k0_pay31 k0_pay30
    exact pay25_at _ _ _ _ _ _ _ R B
  rw [pay1_at, h31, hb]
  exact (Quant.scale_eq _ hr.1 hr.2).symm

/-- The codes that are stored. -/
theorem codes_at (R : Fin 16384) (C : Fin 8192) (o : Fin 8) (h : x0 (ix2 R 0) = BitVec.ofNat 32 o.val) :
    k0_pay2 (k0_pay23 (k0_pay26 x0 x1 x2 x3 x4 x5 x6 x7 x8) (k0_pay27 x0 x1 x2 x3 x4 x5 x6 x7 x8) (k0_pay28 x0 x1 x2 x3 x4 x5 x6 x7 x8) (k0_pay29 x0 x1 x2 x3 x4 x5 x6 x7 x8) (View.ld x6 r0_25) (View.ld x8 r0_26) (View.ld x0 r0_5))
        (k0_pay30 x0 x1 x2 x3 x4 x5 x6 x7 x8) (k0_pay31 x0 x1 x2 x3 x4 x5 x6 x7 x8) (ix2 R C)
      = (ins x1 x2 x3 x4 x5 x6 x7 x8).code o R C := by
  have hr := bound_range (ins x1 x2 x3 x4 x5 x6 x7 x8) o R ⟨C.val / 128, by omega⟩
  have eC : (⟨128 * (C.val / 128) + C.val % 128, by omega⟩ : Fin 8192) = C := Fin.ext (by simp only; omega)
  have eH : (ins x1 x2 x3 x4 x5 x6 x7 x8).blk o R ⟨C.val / 128, by omega⟩ ⟨C.val % 128, by omega⟩ = (ins x1 x2 x3 x4 x5 x6 x7 x8).hid o R C :=
    congrArg ((ins x1 x2 x3 x4 x5 x6 x7 x8).hid o R) eC
  rw [pay2_at, scale1_at x0 x1 x2 x3 x4 x5 x6 x7 x8 R _ o h, act_at x0 x1 x2 x3 x4 x5 x6 x7 x8 R _ _ o h, eH]
  unfold Spec.In.code Spec.In.scale
  rw [Quant.code_eq _ _ hr.1 hr.2, Quant.scale_eq _ hr.1 hr.2]
  rfl

/-- The scales that are stored. -/
theorem scales_at (n : Fin 32) (R : Fin 16384) (q : Fin 2) (o : Fin 8) (h : x0 (ix2 R 0) = BitVec.ofNat 32 o.val) :
    k0_pay3 (k0_pay30 x0 x1 x2 x3 x4 x5 x6 x7 x8) (k0_pay31 x0 x1 x2 x3 x4 x5 x6 x7 x8) (ix3 n R q) = (ins x1 x2 x3 x4 x5 x6 x7 x8).scale o R ⟨2 * n.val + q.val, by omega⟩ := by
  rw [pay3_at, scale1_at x0 x1 x2 x3 x4 x5 x6 x7 x8 R _ o h]

end

end Cert.ReferenceIdeal.Body

end
-- ==== Proof.RowExperts.lean ====
/- The reference's column of experts, as 32-bit words: from the group sizes, every row's count of groups that end at or before it. -/
module

public import proofs.«01_k».proof.Proof.Sizes
public import proofs.«01_k».proof.Proof.Gen.ReferenceIdeal.Frame
public import Idealize.ShloMosaic.Lib.Pointwise
public import Idealize.ShloMosaic.Lib.Tactic
public import Idealize.ShloMosaic.Lib.StableHlo.RunRead

@[expose] public section

noncomputable section

namespace Cert.RowExperts

open Idealize.ShloMosaic hiding ix1 ix2 ix3
open Idealize.ShloMosaic.ValueIdx Idealize.ShloMosaic.Routing Idealize.ShloMosaic.WordCmp Idealize.ShloMosaic.TcCoe Idealize.ShloMosaic.Tactic
open Cert.ReferenceIdeal Cert.ReferenceIdeal.Gen
open Cert.Visits (pre)

/-- A sum of words that are numbers is the numbers' sum. -/
theorem fold_words {ι : Type} [DecidableEq ι] (s : Finset ι) (g : ι → ℕ) :
    s.fold IntOp.addi 0#32 (fun k => BitVec.ofNat 32 (g k)) = BitVec.ofNat 32 (∑ k ∈ s, g k) := by
  induction s using Finset.induction_on with
  | empty => rfl
  | insert a s ha ih =>
    rw [Finset.fold_insert ha, ih, Finset.sum_insert ha, BitVec.ofNat_add]
    rfl

/-- Where each group ends: the sum of the sizes up to it. -/
def endsT (s : IVec S8 32) : IVec S8 32 :=
  Host.reduce IntOp.addi
    (muli (broadcastInDim S8x8 ![0, 1] bcast_S1x8_S8x8_0_1 (broadcastInDim S1x8 ![1] bcast_S8_S1x8_1 s))
      (extui 32 (cmpi .sle (iotaInDim S8x8 32 1) (iotaInDim S8x8 32 0)) natLt_1_32))
    (constantI S_ 32 0#32) reducesTo_S8x8_S8_d1 h_S_

/-- Every row's expert. -/
def rowsT (s : IVec S8 32) : IVec S16384 32 :=
  Host.reduce IntOp.addi
    (extui 32 (cmpi .sge
      (broadcastInDim S16384x8 ![0, 1] bcast_S16384x1_S16384x8_0_1 (broadcastInDim S16384x1 ![0] bcast_S16384_S16384x1_0 (iotaInDim S16384 32 0)))
      (broadcastInDim S16384x8 ![0, 1] bcast_S1x8_S16384x8_0_1 (broadcastInDim S1x8 ![1] bcast_S8_S1x8_1 (endsT s)))) natLt_1_32)
    (constantI S_ 32 0#32) reducesTo_S16384x8_S16384_d1 h_S_

/-- A sum along the rows of an eight by eight array of words. -/
theorem reduce_rows (x : IVec S8x8 32) (g : Fin 8 → ℕ) (e : Fin 8) (h : S8x8.ReducesTo [1] S8) (hu : 0 < S_.numel)
    (hx : ∀ k, x (ix2 e k) = BitVec.ofNat 32 (g k)) :
    Host.reduce IntOp.addi x (constantI S_ 32 0#32) h hu (ix1 e) = BitVec.ofNat 32 (∑ k, g k) := by
  rw [Host.reduce_eq_fold]
  refine (h.fold_fiber_r2_a1 _ _ _ _).trans ?_
  exact (Finset.fold_congr fun k _ => hx k).trans (fold_words Finset.univ g)

theorem sum_upto (f : ℕ → ℕ) (e : Fin 8) : (∑ k : Fin 8, if k.val ≤ e.val then f k.val else 0) = pre f (e.val + 1) := by
  unfold pre
  rw [Fin.sum_univ_eq_sum_range (fun k => if k ≤ e.val then f k else 0) 8]
  fin_cases e <;> simp [Finset.sum_range_succ]

theorem endsT_at (s : IVec S8 32) (e : Fin 8) : endsT s (ix1 e) = BitVec.ofNat 32 (pre (Sizes.szOf s) (e.val + 1)) := by
  rw [← sum_upto]
  refine reduce_rows _ _ e _ _ fun k => ?_
  rw [muli_ap, bcCols, Sizes.szOf_at s k]
  show IntOp.muli _ (BitVec.setWidth 32 (IntOp.cmpi .sle (BitVec.ofNat 32 k.val) (BitVec.ofNat 32 e.val))) = _
  rw [cmpi_sle_ofNat (by have := k.isLt; show _ < 2 ^ 31; omega) (by have := e.isLt; show _ < 2 ^ 31; omega)]
  by_cases h : k.val ≤ e.val
  · rw [decide_eq_true h, if_pos h]; exact BitVec.mul_one _
  · rw [decide_eq_false h, if_neg h]; exact BitVec.mul_zero

/-- Below the last end, fewer than eight groups end at or before a row. -/
theorem below_lt (f : ℕ → ℕ) {R : ℕ} (h : R < pre f 8) : Visits.below f R < 8 := by
  obtain ⟨e, he, h1, h2⟩ := Visits.exists_group f R 8 h
  rw [Visits.below_eq f he h1 h2]; exact he

theorem rowsT_at (s : IVec S8 32) (hs : pre (Sizes.szOf s) 8 = 16384) (R : Fin 16384) :
    rowsT s (ix1 R) = BitVec.ofNat 32 (min (Visits.below (Sizes.szOf s) R.val) 7) := by
  have hb := below_lt (Sizes.szOf s) (R := R.val) (by have := R.isLt; omega)
  rw [min_eq_left (by omega)]
  unfold rowsT
  rw [reduce_count (by decide) _ _ _ _ R (fun q => pre (Sizes.szOf s) (q + 1) ≤ R.val)]
  · unfold Visits.below; rw [Nat.count_eq_card_filter_range]
  · intro q
    have h4 := Visits.pre_mono (Sizes.szOf s) (show q.val + 1 ≤ 8 by omega)
    have h5 := R.isLt
    rw [cmpi_at, bcRows, bcCols, endsT_at]
    show IntOp.cmpi .sge (BitVec.ofNat 32 R.val) _ = 1#1 ↔ _
    rw [cmpi_sge_ofNat_eq_one_iff (by show _ < 2 ^ 31; omega) (by show _ < 2 ^ 31; omega)]

/-- The column that the body is handed. -/
theorem column {F : FTy → Type} [FloatOps F] (W : Valuation τ sig (Elt F)) (R : Fin 16384) :
    (StableHlo.after (hostOps0 (F := F)) W main_v16 : IVec S16384x1 32) (ix2 R 0) = rowsT (W main_arg2) (ix1 R) := by
  have h : StableHlo.after (hostOps0 (F := F)) W main_v16 = broadcastInDim S16384x1 ![0] bcast_S16384_S16384x1_0 (rowsT (W main_arg2)) := by
    after_reads_simp
    all_goals rfl
  rw [h, bcCol]

end Cert.RowExperts

end
-- ==== Proof.ReferenceValue.lean ====
/- The reference at the extended reals: its two results, entry by entry, from its arguments. -/
module

public import proofs.«01_k».proof.Proof.Gen.ReferenceIdeal.Value
public import proofs.«01_k».proof.Proof.ReferenceProducts
public import proofs.«01_k».proof.Proof.RowExperts
public import Idealize.ShloMosaic.Lib.Pipeline.ValueKit

@[expose] public section

set_option maxRecDepth 16384
set_option maxHeartbeats 400000

noncomputable section

namespace Cert.ReferenceIdeal.Body

open Cert.ReferenceIdeal Cert.ReferenceIdeal.Gen Cert.ReferenceIdeal.Value
open Idealize Idealize.SL Idealize.SL.RA Idealize.ShloMosaic Idealize.ShloMosaic.Pipeline Idealize.ShloMosaic.TcCoe

variable (m : (ℓ : Loc nD τ sig) → Buf (Elt Ideal) ℓ) (c : Dev nD)

/-- The grid's one point. -/
def t0 : Fin cfg0.N := ⟨0, by decide⟩

/-! ## At the one point every block is its whole array -/

theorem emb0 (X : Vec Ideal S16384x1 .i32) (j : S16384x1.Idx) : X ((win0_0.blk t0).view.emb j) = X j := by
  blk_point
  · rw [show win0_0.index t0 0 = 0 from rfl]; omega
  · rfl
theorem iblk0 : iblk m c 0 t0 = (V m c main_v16 : Vec Ideal S16384x1 .i32) := funext fun j => emb0 (V m c main_v16) j
theorem iblk1 : iblk m c 1 t0 = (V m c main_arg0 : Vec Ideal S16384x5120 .fp8e4m3) := by
  funext j
  unfold iblk
  blk_simp
  blk_point
  · rw [show win0_1.index t0 0 = 0 from rfl]; omega
  · rw [show win0_1.index t0 1 = 0 from rfl]; omega
theorem iblk2 : iblk m c 2 t0 = (V m c main_arg1 : Vec Ideal S16384x40 .f32) := by
  funext j
  unfold iblk
  blk_simp
  blk_point
  · rw [show win0_2.index t0 0 = 0 from rfl]; omega
  · rw [show win0_2.index t0 1 = 0 from rfl]; omega
theorem iblk3 : iblk m c 3 t0 = (V m c main_arg3 : Vec Ideal S8x5120x8192 .fp8e4m3) := by
  funext j
  unfold iblk
  blk_simp
  blk_point
  · rw [show win0_3.index t0 0 = 0 from rfl]; omega
  · rw [show win0_3.index t0 1 = 0 from rfl]; omega
  · rw [show win0_3.index t0 2 = 0 from rfl]; omega
theorem iblk4 : iblk m c 4 t0 = (V m c main_arg4 : Vec Ideal S8x40x64 .f32) := by
  funext j
  unfold iblk
  blk_simp
  blk_point
  · rw [show win0_4.index t0 0 = 0 from rfl]; omega
  · rw [show win0_4.index t0 1 = 0 from rfl]; omega
  · rw [show win0_4.index t0 2 = 0 from rfl]; omega
theorem iblk5 : iblk m c 5 t0 = (V m c main_arg5 : Vec Ideal S8x5120x8192 .fp8e4m3) := by
  funext j
  unfold iblk
  blk_simp
  blk_point
  · rw [show win0_5.index t0 0 = 0 from rfl]; omega
  · rw [show win0_5.index t0 1 = 0 from rfl]; omega
  · rw [show win0_5.index t0 2 = 0 from rfl]; omega
theorem iblk6 : iblk m c 6 t0 = (V m c main_arg6 : Vec Ideal S8x40x64 .f32) := by
  funext j
  unfold iblk
  blk_simp
  blk_point
  · rw [show win0_6.index t0 0 = 0 from rfl]; omega
  · rw [show win0_6.index t0 1 = 0 from rfl]; omega
  · rw [show win0_6.index t0 2 = 0 from rfl]; omega
theorem iblk7 : iblk m c 7 t0 = (V m c main_arg7 : Vec Ideal S8x8192 .f32) := by
  funext j
  unfold iblk
  blk_simp
  blk_point
  · rw [show win0_7.index t0 0 = 0 from rfl]; omega
  · rw [show win0_7.index t0 1 = 0 from rfl]; omega
theorem iblk8 : iblk m c 8 t0 = (V m c main_arg8 : Vec Ideal S8x8192 .f32) := by
  funext j
  unfold iblk
  blk_simp
  blk_point
  · rw [show win0_8.index t0 0 = 0 from rfl]; omega
  · rw [show win0_8.index t0 1 = 0 from rfl]; omega

theorem array9 (G : S16384x8192.Idx → EReal) (h : ∀ j, (dats m 0 c).after 9 t0 j = G j) : (dats m 0 c).arrAt 9 cfg0.N = G := by
  refine (dats m 0 c).arrAt_eq_of_after_last 9 t0 (by decide +kernel) _ fun j => ?_
  blk_simp
  exact h j

theorem array10 (G : S32x16384x2.Idx → EReal) (h : ∀ j, (dats m 0 c).after 10 t0 j = G j) : (dats m 0 c).arrAt 10 cfg0.N = G := by
  refine (dats m 0 c).arrAt_eq_of_after_last 10 t0 (by decide +kernel) _ fun j => ?_
  blk_simp
  exact h j

/-! ## The two results -/

/-- The arguments, by coordinates. -/
def args : Spec.In := ins (m ((c : Thread nD τ).loc main_arg0)) (m ((c : Thread nD τ).loc main_arg1)) (m ((c : Thread nD τ).loc main_arg3))
  (m ((c : Thread nD τ).loc main_arg4)) (m ((c : Thread nD τ).loc main_arg5)) (m ((c : Thread nD τ).loc main_arg6))
  (m ((c : Thread nD τ).loc main_arg7)) (m ((c : Thread nD τ).loc main_arg8))

/-- The group sizes. -/
def sizes : ℕ → ℕ := Sizes.szOf (m ((c : Thread nD τ).loc main_arg2) : IVec S8 32)

/-- A row's expert. -/
def owner (R : Fin 16384) : Fin 8 := ⟨min (Visits.below (sizes m c) R.val) 7, by omega⟩

theorem column_at (hs : Visits.pre (sizes m c) 8 = 16384) (R : Fin 16384) :
    (V m c main_v16 : Vec Ideal S16384x1 .i32) (ix2 R 0) = BitVec.ofNat 32 (owner m c R).val :=
  (RowExperts.column (fun b => m (c, b)) R).trans (RowExperts.rowsT_at _ hs R)

theorem out9_at (x0 : Vec Ideal S16384x1 .i32) (x1 : Vec Ideal S16384x5120 .fp8e4m3) (x2 : Vec Ideal S16384x40 .f32) (x3 : Vec Ideal S8x5120x8192 .fp8e4m3)
    (x4 : Vec Ideal S8x40x64 .f32) (x5 : Vec Ideal S8x5120x8192 .fp8e4m3) (x6 : Vec Ideal S8x40x64 .f32) (x7 : Vec Ideal S8x8192 .f32) (x8 : Vec Ideal S8x8192 .f32)
    (R : Fin 16384) (C : Fin 8192) (o : Fin 8) (h : x0 (ix2 R 0) = BitVec.ofNat 32 o.val) :
    out0_9 x0 x1 x2 x3 x4 x5 x6 x7 x8 (ix2 R C) = (ins x1 x2 x3 x4 x5 x6 x7 x8).code o R C := by
  unfold out0_9
  rw [View.canon_unit_zero (by funext a; fin_cases a <;> rfl)]
  exact codes_at x0 x1 x2 x3 x4 x5 x6 x7 x8 R C o h

theorem out10_at (x0 : Vec Ideal S16384x1 .i32) (x1 : Vec Ideal S16384x5120 .fp8e4m3) (x2 : Vec Ideal S16384x40 .f32) (x3 : Vec Ideal S8x5120x8192 .fp8e4m3)
    (x4 : Vec Ideal S8x40x64 .f32) (x5 : Vec Ideal S8x5120x8192 .fp8e4m3) (x6 : Vec Ideal S8x40x64 .f32) (x7 : Vec Ideal S8x8192 .f32) (x8 : Vec Ideal S8x8192 .f32)
    (n : Fin 32) (R : Fin 16384) (q : Fin 2) (o : Fin 8) (h : x0 (ix2 R 0) = BitVec.ofNat 32 o.val) :
    out0_10 x0 x1 x2 x3 x4 x5 x6 x7 x8 (ix3 n R q) = (ins x1 x2 x3 x4 x5 x6 x7 x8).scale o R ⟨2 * n.val + q.val, by omega⟩ := by
  unfold out0_10
  rw [View.canon_unit_zero (by funext a; fin_cases a <;> rfl)]
  exact scales_at x0 x1 x2 x3 x4 x5 x6 x7 x8 n R q o h

theorem args_eq : ins (V m c main_arg0) (V m c main_arg1) (V m c main_arg3) (V m c main_arg4) (V m c main_arg5) (V m c main_arg6) (V m c main_arg7) (V m c main_arg8)
    = args m c := by
  rw [V_main_arg0, V_main_arg1, V_main_arg3, V_main_arg4, V_main_arg5, V_main_arg6, V_main_arg7, V_main_arg8]; rfl

/-- The codes. -/
theorem codes (hs : Visits.pre (sizes m c) 8 = 16384) :
    (dats m 0 c).arrAt 9 cfg0.N = fun i : S16384x8192.Idx => (args m c).code (owner m c (i 0)) (i 0) (i 1) := by
  refine array9 m c _ fun j => ?_
  rw [after0_9, iblk0, iblk1, iblk2, iblk3, iblk4, iblk5, iblk6, iblk7, iblk8, ← args_eq]
  have hj : j = ix2 (j 0) (j 1) := by funext a; fin_cases a <;> rfl
  exact (congrArg _ hj).trans (out9_at _ _ _ _ _ _ _ _ _ (j 0) (j 1) _ (column_at m c hs (j 0)))

/-- The scales. -/
theorem scales (hs : Visits.pre (sizes m c) 8 = 16384) :
    (dats m 0 c).arrAt 10 cfg0.N = fun i : S32x16384x2.Idx => (args m c).scale (owner m c (i 1)) (i 1) ⟨2 * (i 0).val + (i 2).val, by
      have h0 : (i 0).val < 32 := (i 0).isLt
      have h2 : (i 2).val < 2 := (i 2).isLt
      omega⟩ := by
  refine array10 m c _ fun j => ?_
  rw [after0_10, iblk0, iblk1, iblk2, iblk3, iblk4, iblk5, iblk6, iblk7, iblk8, ← args_eq]
  have hj : j = ix3 (j 0) (j 1) (j 2) := by funext a; fin_cases a <;> rfl
  exact (congrArg _ hj).trans (out10_at _ _ _ _ _ _ _ _ _ (j 0) (j 1) (j 2) _ (column_at m c hs (j 1)))

end Cert.ReferenceIdeal.Body

end
-- ==== Proof.Algebraic.lean ====
/- Over the extended reals the kernel and the reference end with equal results. -/
module

public import proofs.«01_k».proof.Defs
public import proofs.«01_k».proof.Proof.KernelIdealResults
public import proofs.«01_k».proof.Proof.KernelIdealFrame
public import proofs.«01_k».proof.Proof.KernelIdealOk
public import proofs.«01_k».proof.Proof.ReferenceValue

@[expose] public section

set_option maxRecDepth 16384
set_option maxHeartbeats 400000

noncomputable section

namespace Cert.Algebraic

open Idealize Idealize.SL Idealize.SL.RA Idealize.SL.Sem Idealize.ShloMosaic Idealize.ShloMosaic.Pipeline Idealize.ShloMosaic.TcCoe

variable (m : (ℓ : Loc KernelIdeal.nD KernelIdeal.τ KernelIdeal.sig) → Buf (Elt Ideal) ℓ) (g : Dev KernelIdeal.nD → PrngReg)

/-- The codes that both leave. -/
def codesOf (c : Dev KernelIdeal.nD) (i : KernelIdeal.S16384x8192.Idx) : EReal :=
  (KernelIdeal.Body.args m c).code (KernelIdeal.Body.own (KernelIdeal.Body.szs m) (i 0).val) (i 0) (i 1)

/-- The scales that both leave: the last axis and the first together number the blocks of a row. -/
def scalesOf (c : Dev KernelIdeal.nD) (i : KernelIdeal.S32x16384x2.Idx) : EReal :=
  (KernelIdeal.Body.args m c).scale (KernelIdeal.Body.own (KernelIdeal.Body.szs m) (i 1).val) (i 1)
    ⟨2 * (i 0).val + (i 2).val, by have h0 : (i 0).val < 32 := (i 0).isLt; have h2 : (i 2).val < 2 := (i 2).isLt; omega⟩

theorem eq_ix2 (i : KernelIdeal.S16384x8192.Idx) : i = ix2 (i 0) (i 1) := by
  funext a; match a with | ⟨0, _⟩ => rfl | ⟨1, _⟩ => rfl

theorem eq_ix3 (i : KernelIdeal.S32x16384x2.Idx) : i = ix3 (i 0) (i 1) (i 2) := by
  funext a; match a with | ⟨0, _⟩ => rfl | ⟨1, _⟩ => rfl | ⟨2, _⟩ => rfl

/-- The run of the kernel, with its results in closed form. -/
theorem run_kernel (hO : KernelIdeal.Body.Ok m) (hs : Visits.pre (KernelIdeal.Body.szs m) 8 = 16384) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v76_0) = codesOf m c
      ∧ r.2.mem ((c.tc : Thread KernelIdeal.nD KernelIdeal.τ).loc KernelIdeal.main_v76_1) = scalesOf m c) := by
  refine (θ_run KernelIdeal.defs _ _).mono (fun r h c => ⟨?_, ?_⟩) (KernelIdeal.Body.run_values m g hO hs)
  · funext i
    exact (congrArg (r.2.mem ((c.tc : Thread KernelIdeal.nD KernelIdeal.τ).loc KernelIdeal.main_v76_0) : KernelIdeal.S16384x8192.Idx → EReal) (eq_ix2 i)).trans ((h c).1 (i 0) (i 1))
  · funext i
    exact (congrArg (r.2.mem ((c.tc : Thread KernelIdeal.nD KernelIdeal.τ).loc KernelIdeal.main_v76_1) : KernelIdeal.S32x16384x2.Idx → EReal) (eq_ix3 i)).trans ((h c).2 (i 0) (i 1) (i 2))

variable (m' : (ℓ : Loc ReferenceIdeal.nD ReferenceIdeal.τ ReferenceIdeal.sig) → Buf (Elt Ideal) ℓ) (g' : Dev ReferenceIdeal.nD → PrngReg)

/-- Both read the same rows, weights, scales and biases. -/
theorem args_eq (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8)) :
    ReferenceIdeal.Body.args m' c = KernelIdeal.Body.args m c := by
  unfold ReferenceIdeal.Body.args
  rw [show m' (((c : Thread ReferenceIdeal.nD ReferenceIdeal.τ)).loc ReferenceIdeal.main_arg0) = _ from h0,
    show m' (((c : Thread ReferenceIdeal.nD ReferenceIdeal.τ)).loc ReferenceIdeal.main_arg1) = _ from h1,
    show m' (((c : Thread ReferenceIdeal.nD ReferenceIdeal.τ)).loc ReferenceIdeal.main_arg3) = _ from h3,
    show m' (((c : Thread ReferenceIdeal.nD ReferenceIdeal.τ)).loc ReferenceIdeal.main_arg4) = _ from h4,
    show m' (((c : Thread ReferenceIdeal.nD ReferenceIdeal.τ)).loc ReferenceIdeal.main_arg5) = _ from h5,
    show m' (((c : Thread ReferenceIdeal.nD ReferenceIdeal.τ)).loc ReferenceIdeal.main_arg6) = _ from h6,
    show m' (((c : Thread ReferenceIdeal.nD ReferenceIdeal.τ)).loc ReferenceIdeal.main_arg7) = _ from h7,
    show m' (((c : Thread ReferenceIdeal.nD ReferenceIdeal.τ)).loc ReferenceIdeal.main_arg8) = _ from h8]
  rfl

/-- Both read the same group sizes. -/
theorem sizes_eq (c : Dev KernelIdeal.nD)
    (h2 : m' ((c.tc : Thread ReferenceIdeal.nD ReferenceIdeal.τ).loc ReferenceIdeal.main_arg2) = m ((c.tc : Thread KernelIdeal.nD KernelIdeal.τ).loc KernelIdeal.main_arg2)) :
    ReferenceIdeal.Body.sizes m' c = KernelIdeal.Body.szs m := by
  obtain rfl : c = 0 := Subsingleton.elim _ _
  unfold ReferenceIdeal.Body.sizes KernelIdeal.Body.szs
  rw [show m' ((((0 : Dev KernelIdeal.nD) : Thread ReferenceIdeal.nD ReferenceIdeal.τ)).loc ReferenceIdeal.main_arg2) = _ from h2, KernelIdeal.Body.V_main_arg2]

/-- The reference's two results are those of the kernel. -/
theorem results_eq (c : Dev KernelIdeal.nD) (hs : Visits.pre (KernelIdeal.Body.szs m) 8 = 16384)
    (ha : ReferenceIdeal.Body.args m' c = KernelIdeal.Body.args m c) (hz : ReferenceIdeal.Body.sizes m' c = KernelIdeal.Body.szs m) :
    (ReferenceIdeal.Gen.dats m' 0 c).arrAt 9 ReferenceIdeal.cfg0.N = codesOf m c
    ∧ (ReferenceIdeal.Gen.dats m' 0 c).arrAt 10 ReferenceIdeal.cfg0.N = scalesOf m c := by
  have hs' : Visits.pre (ReferenceIdeal.Body.sizes m' c) 8 = 16384 := by rw [hz]; exact hs
  have ho : ∀ R, ReferenceIdeal.Body.owner m' c R = KernelIdeal.Body.own (KernelIdeal.Body.szs m) R.val := by
    intro R
    refine Fin.ext ?_
    show min (Visits.below (ReferenceIdeal.Body.sizes m' c) R.val) 7 = min (Visits.below (KernelIdeal.Body.szs m) R.val) 7
    rw [hz]
  refine ⟨(ReferenceIdeal.Body.codes m' c hs').trans ?_, (ReferenceIdeal.Body.scales m' c hs').trans ?_⟩
  · funext i
    rw [ha]
    exact congrArg (fun e => (KernelIdeal.Body.args m c).code e (i 0) (i 1)) (ho (i 0))
  · funext i
    rw [ha]
    exact congrArg (fun e => (KernelIdeal.Body.args m c).scale e (i 1) _) (ho (i 1))

theorem algebraic : Cert.algebraic_KernelIdeal_ReferenceIdeal (hKernelIdeal := Cert.KernelIdeal.Gen.facts)
    (hReferenceIdeal := Cert.ReferenceIdeal.Gen.facts) (hPre_sizes_sum_to_rows := Cert.Pre_sizes_sum_to_rows.Gen.facts) := by
  intro m g m' g' hp hm
  have hs : Visits.pre (KernelIdeal.Body.szs m) 8 = 16384 := by
    unfold KernelIdeal.Body.szs
    rw [KernelIdeal.Body.V_main_arg2]
    exact Sizes.sum_of_pre _ _ _ _ _ _ _ _ _ (hp 0)
  have hO : KernelIdeal.Body.Ok m := KernelIdeal.Body.ok_of_sum m hs
  refine ⟨codesOf m, scalesOf m, ?_, ?_⟩
  · refine (θ_run KernelIdeal.defs _ _).mono (fun r h c => ⟨(h.2 c).1, (h.2 c).2, h.1 c⟩)
      (θ_run_and (KernelIdeal.Body.unchanged m g hO) (run_kernel m g hO hs))
  · refine (θ_run ReferenceIdeal.defs _ _).mono (fun r h c => ?_) (ReferenceIdeal.Value.run_blocks m' g')
    obtain ⟨h0, h1, h2, h3, h4, h5, h6, h7, h8⟩ := hm c
    have hr := results_eq m m' c hs (args_eq m m' c h0 h1 h3 h4 h5 h6 h7 h8) (sizes_eq m m' c h2)
    exact ⟨(h c).1.trans hr.1, (h c).2.1.trans hr.2, (h c).2.2⟩

end Cert.Algebraic

end
-- ==== Proof.lean ====
/- The claims about `Kernel`, `KernelIdeal` and `ReferenceIdeal`, put together from the modules that prove them. -/
module

public import proofs.«01_k».proof.Defs
public import proofs.«01_k».proof.Proof.KernelFrame
public import proofs.«01_k».proof.Proof.KernelOk
public import proofs.«01_k».proof.Proof.KernelIdealFrame
public import proofs.«01_k».proof.Proof.KernelIdealOk
public import proofs.«01_k».proof.Proof.Gen.ReferenceIdeal.Frame
public import proofs.«01_k».proof.Proof.Algebraic

@[expose] public section

noncomputable section

namespace Cert.Proof

open Idealize.ShloMosaic Idealize.SL.Sem

/-- The precondition keeps every transfer of the kernel inside its array. -/
theorem ok_Kernel (m : (ℓ : Loc Cert.Kernel.nD Cert.Kernel.τ Cert.Kernel.sig) → Buf (Elt Bits) ℓ)
    (h : Cert.Pre_Kernel (hPre_sizes_sum_to_rows := Cert.Pre_sizes_sum_to_rows.Gen.facts) m) : Cert.Kernel.Body.Ok (F := Bits) m := by
  apply Cert.Kernel.Body.ok_of_sum
  unfold Cert.Kernel.Body.szs
  rw [Cert.Kernel.Body.V_main_arg2]
  exact Cert.Sizes.sum_of_pre _ _ _ _ _ _ _ _ _ (h 0)

/-- The same of its idealization. -/
theorem ok_KernelIdeal (m : (ℓ : Loc Cert.KernelIdeal.nD Cert.KernelIdeal.τ Cert.KernelIdeal.sig) → Buf (Elt Ideal) ℓ)
    (h : Cert.Pre_KernelIdeal (hPre_sizes_sum_to_rows := Cert.Pre_sizes_sum_to_rows.Gen.facts) m) : Cert.KernelIdeal.Body.Ok (F := Ideal) m := by
  apply Cert.KernelIdeal.Body.ok_of_sum
  unfold Cert.KernelIdeal.Body.szs
  rw [Cert.KernelIdeal.Body.V_main_arg2]
  exact Cert.Sizes.sum_of_pre _ _ _ _ _ _ _ _ _ (h 0)

theorem claim : Cert.Claim :=
  ⟨Cert.Kernel.Gen.facts, Cert.KernelIdeal.Gen.facts, Cert.ReferenceIdeal.Gen.facts, Cert.Pre_sizes_sum_to_rows.Gen.facts,
    fun m g h => Cert.Kernel.Body.frame (F := Bits) m g (ok_Kernel m h),
    fun m g h => Cert.KernelIdeal.Body.frame (F := Ideal) m g (ok_KernelIdeal m h),
    fun m g _ => Cert.ReferenceIdeal.Gen.frame (F := Ideal) m g,
    trivial,
    Cert.Algebraic.algebraic⟩

end Cert.Proof
